-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_v123) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_keys : Cert.Pre_finite_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ preserves_Kernel_KernelIdeal
    ∧ algebraic_KernelIdeal_ReferenceIdeal_pre_finite_keys (hKernelIdeal := hKernelIdeal) (hReferenceIdeal := hReferenceIdeal) (hPre_finite_keys := hPre_finite_keys)
-- ==== Pre_finite_keys.lean ====
abbrev S1024x64 : Shape := ⟨2, ![1024, 64]⟩
abbrev S100000x64 : Shape := ⟨2, ![100000, 64]⟩
abbrev S100000 : Shape := ⟨1, ![100000]⟩
abbrev S64 : Shape := ⟨1, ![64]⟩
abbrev S_ : Shape := ⟨0, ![]⟩

class Facts : Prop where
  bcast_S_S100000x64 : S_.BroadcastsInDim S100000x64 (![] : Fin 0 → Fin S100000x64.rank)
  bcast_S_S64 : S_.BroadcastsInDim S64 (![] : Fin 0 → Fin S64.rank)

variable [Facts]

def fn {F : FTy → Type} [FloatOps F] (main_arg0 : FVec F S1024x64 .f32) (main_arg1 : FVec F S1024x64 .f32) (main_arg2 : FVec F S100000x64 .f32) (main_arg3 : FVec F S100000x64 .f32) (main_arg4 : FVec F S100000 .f32) (main_arg5 : FVec F S64 .f32) (main_arg6 : FVec F S64 .f32) : IVec S100000x64 1 × IVec S64 1 × IVec S64 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_v3 : FVec F S64 .f32 := Host.absf main_arg5
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg6
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  (main_v2, main_v5, main_v8)
-- ==== Kernel.lean ====
abbrev S1024x64 : Shape := ⟨2, ![1024, 64]⟩
abbrev S100000x64 : Shape := ⟨2, ![100000, 64]⟩
abbrev S100000 : Shape := ⟨1, ![100000]⟩
abbrev S64 : Shape := ⟨1, ![64]⟩
abbrev S1x64 : Shape := ⟨2, ![1, 64]⟩
abbrev S1024x1 : Shape := ⟨2, ![1024, 1]⟩
abbrev S2000x64 : Shape := ⟨2, ![2000, 64]⟩
abbrev S1024 : Shape := ⟨1, ![1024]⟩
abbrev S2000 : Shape := ⟨1, ![2000]⟩
abbrev S1x2000 : Shape := ⟨2, ![1, 2000]⟩
abbrev S1024x2000 : Shape := ⟨2, ![1024, 2000]⟩
abbrev S1x1024x1 : Shape := ⟨3, ![1, 1024, 1]⟩
abbrev S1 : Shape := ⟨1, ![1]⟩
abbrev S1x1x1 : Shape := ⟨3, ![1, 1, 1]⟩
abbrev S_ : Shape := ⟨0, ![]⟩
abbrev S102400 : Shape := ⟨1, ![102400]⟩
abbrev S100000x128 : Shape := ⟨2, ![100000, 128]⟩
abbrev S64x128 : Shape := ⟨2, ![64, 128]⟩
abbrev S64x64 : Shape := ⟨2, ![64, 64]⟩
abbrev S6400 : Shape := ⟨1, ![6400]⟩
abbrev S6256x128 : Shape := ⟨2, ![6256, 128]⟩
abbrev S6160x128 : Shape := ⟨2, ![6160, 128]⟩
abbrev S16 : Shape := ⟨1, ![16]⟩
abbrev S1x16 : Shape := ⟨2, ![1, 16]⟩

abbrev nBuf : Table → Nat
  | .hbm => 32
  | .local .tc .vmem => 15
  | .local .scVector .vmem => 5
  | _ => 0

abbrev bufTy : (tb : Table) → Fin (nBuf tb) → BufTy
  | .hbm, ⟨0, _⟩ => ⟨S1024x64, .f32⟩
  | .hbm, ⟨1, _⟩ => ⟨S1024x64, .f32⟩
  | .hbm, ⟨2, _⟩ => ⟨S100000x64, .f32⟩
  | .hbm, ⟨3, _⟩ => ⟨S100000x64, .f32⟩
  | .hbm, ⟨4, _⟩ => ⟨S100000, .f32⟩
  | .hbm, ⟨5, _⟩ => ⟨S64, .f32⟩
  | .hbm, ⟨6, _⟩ => ⟨S64, .f32⟩
  | .hbm, ⟨7, _⟩ => ⟨S1x64, .f32⟩
  | .hbm, ⟨8, _⟩ => ⟨S1x64, .f32⟩
  | .hbm, ⟨9, _⟩ => ⟨S1024x64, .f32⟩
  | .hbm, ⟨10, _⟩ => ⟨S1024x1, .f32⟩
  | .hbm, ⟨11, _⟩ => ⟨S1024x64, .f32⟩
  | .hbm, ⟨12, _⟩ => ⟨S1024x1, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .i32⟩
  | .hbm, ⟨17, _⟩ => ⟨S_, .i32⟩
  | .hbm, ⟨18, _⟩ => ⟨S_, .f32⟩
  | .hbm, ⟨19, _⟩ => ⟨S102400, .f32⟩
  | .hbm, ⟨20, _⟩ => ⟨S_, .i32⟩
  | .hbm, ⟨21, _⟩ => ⟨S_, .f32⟩
  | .hbm, ⟨22, _⟩ => ⟨S100000x128, .f32⟩
  | .hbm, ⟨23, _⟩ => ⟨S_, .i32⟩
  | .hbm, ⟨24, _⟩ => ⟨S_, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S102400, .f32⟩
  | .hbm, ⟨29, _⟩ => ⟨S100000x64, .f32⟩
  | .hbm, ⟨30, _⟩ => ⟨S100000x64, .f32⟩
  | .hbm, ⟨31, _⟩ => ⟨S100000, .f32⟩
  | .local .tc .vmem, ⟨0, _⟩ => ⟨S1024x64, .f32⟩
  | .local .tc .vmem, ⟨1, _⟩ => ⟨S1024x64, .f32⟩
  | .local .tc .vmem, ⟨2, _⟩ => ⟨S1x64, .f32⟩
  | .local .tc .vmem, ⟨3, _⟩ => ⟨S1x64, .f32⟩
  | .local .tc .vmem, ⟨4, _⟩ => ⟨S2000x64, .f32⟩
  | .local .tc .vmem, ⟨5, _⟩ => ⟨S2000x64, .f32⟩
  | .local .tc .vmem, ⟨6, _⟩ => ⟨S2000x64, .f32⟩
  | .local .tc .vmem, ⟨7, _⟩ => ⟨S2000x64, .f32⟩
  | .local .tc .vmem, ⟨8, _⟩ => ⟨S1024x64, .f32⟩
  | .local .tc .vmem, ⟨9, _⟩ => ⟨S1024x1, .f32⟩
  | .local .tc .vmem, ⟨10, _⟩ => ⟨S1024x64, .f32⟩
  | .local .tc .vmem, ⟨11, _⟩ => ⟨S1024x1, .f32⟩
  | .local .tc .vmem, ⟨12, _⟩ => ⟨S1024x1, .f32⟩
  | .local .tc .vmem, ⟨13, _⟩ => ⟨S1024x1, .f32⟩
  | .local .tc .vmem, ⟨14, _⟩ => ⟨S1024x64, .f32⟩
  | .local .scVector .vmem, ⟨0, _⟩ => ⟨S64, .i32⟩
  | .local .scVector .vmem, ⟨1, _⟩ => ⟨S64, .f32⟩
  | .local .scVector .vmem, ⟨2, _⟩ => ⟨S64x128, .f32⟩
  | .local .scVector .vmem, ⟨3, _⟩ => ⟨S64x64, .f32⟩
  | .local .scVector .vmem, ⟨4, _⟩ => ⟨S6400, .f32⟩
  | _, _ => ⟨S1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 5 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v3 : Ref sig .tc := ⟨.hbm, 13, rfl⟩
abbrev main_v4 : Ref sig .tc := ⟨.hbm, 14, rfl⟩
abbrev main_values : Ref sig .tc := ⟨.hbm, 15, rfl⟩
abbrev main_indices : Ref sig .tc := ⟨.hbm, 16, rfl⟩
abbrev main_c : Ref sig .tc := ⟨.hbm, 17, rfl⟩
abbrev main_call0_v0 : Ref sig .tc := ⟨.hbm, 18, rfl⟩
abbrev main_v5 : Ref sig .tc := ⟨.hbm, 19, rfl⟩
abbrev main_c_0 : Ref sig .tc := ⟨.hbm, 20, rfl⟩
abbrev main_call1_v0 : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v6_scv : Ref sig .scVector := ⟨.hbm, 22, rfl⟩
abbrev main_v7_scv : Ref sig .scVector := ⟨.hbm, 25, rfl⟩
abbrev main_v5_scv : Ref sig .scVector := ⟨.hbm, 19, rfl⟩
abbrev main_indices_scv : Ref sig .scVector := ⟨.hbm, 16, rfl⟩
abbrev main_v4_scv : Ref sig .scVector := ⟨.hbm, 14, rfl⟩
abbrev main_v2_2_scv : Ref sig .scVector := ⟨.hbm, 11, rfl⟩
abbrev main_arg1_scv : Ref sig .scVector := ⟨.hbm, 1, rfl⟩
abbrev main_v8_0_scv : Ref sig .scVector := ⟨.hbm, 26, rfl⟩
abbrev main_v8_1_scv : Ref sig .scVector := ⟨.hbm, 27, rfl⟩
abbrev main_v8_2_scv : Ref sig .scVector := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v52 : BitVec 1 := Scalar.cmpi .eq arg0 c49_i32
  let v53 : BitVec 32 := Scalar.extui v52
  let c0_i32_26 : BitVec 32 := 0#32
  let v54 : BitVec 1 := Scalar.cmpi .ne v53 c0_i32_26
  v54

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨2, ![2, 16], ![false, false]⟩

def k1_cond1 (i : grid1.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k1_cond2 (i : grid1.Coords) : BitVec 1 :=
  let arg1 : BitVec 32 := BitVec.ofNat 32 (i 1).val
  let c15_i32 : BitVec 32 := 15#32
  let v14 : BitVec 1 := Scalar.cmpi .slt arg1 c15_i32
  let v15 : BitVec 32 := Scalar.extui v14
  let c0_i32_6 : BitVec 32 := 0#32
  let v16 : BitVec 1 := Scalar.cmpi .ne v15 c0_i32_6
  v16

def k1_off1 (i : grid1.Coords) : Fin 2 → Nat :=
  let arg1 : BitVec 32 := BitVec.ofNat 32 (i 1).val
  let c6256_i32 : BitVec 32 := 6256#32
  let v0 : BitVec 32 := Scalar.muli arg1 c6256_i32
  let c0_i32_13_r0 : BitVec 32 := 0#32
  ![v0.toNat, 0]
def k1_cond3 (i : grid1.Coords) : BitVec 1 :=
  let arg1 : BitVec 32 := BitVec.ofNat 32 (i 1).val
  let c15_i32_7 : BitVec 32 := 15#32
  let v17 : BitVec 1 := Scalar.cmpi .eq arg1 c15_i32_7
  let v18 : BitVec 32 := Scalar.extui v17
  let c0_i32_8 : BitVec 32 := 0#32
  let v19 : BitVec 1 := Scalar.cmpi .ne v18 c0_i32_8
  v19

def k1_off2 (i : grid1.Coords) : Fin 2 → Nat :=
  let arg1 : BitVec 32 := BitVec.ofNat 32 (i 1).val
  let c6256_i32 : BitVec 32 := 6256#32
  let v0 : BitVec 32 := Scalar.muli arg1 c6256_i32
  let c0_i32_13_r1 : BitVec 32 := 0#32
  ![v0.toNat, 0]
def k1_off3 (i : grid1.Coords) : Fin 1 → Nat :=
  let arg1 : BitVec 32 := BitVec.ofNat 32 (i 1).val
  let c6400_i32 : BitVec 32 := 6400#32
  let v20 : BitVec 32 := Scalar.muli arg1 c6400_i32
  ![v20.toNat]
@[reducible] def k1_t1_loop : Scf.Loop 32 :=
  let c0_i32_10 : BitVec 32 := 0#32
  let c400_i32 : BitVec 32 := 400#32
  let v21 : BitVec 32 := Scalar.addi c0_i32_10 c400_i32
  let c1_i32_11 : BitVec 32 := 1#32
  ⟨c0_i32_10, v21, c1_i32_11⟩
def k1_off4 (k1_t1 : Fin k1_t1_loop.trips) : Fin 1 → Nat :=
  let c0_i32_10 : BitVec 32 := 0#32
  let c1_i32_11 : BitVec 32 := 1#32
  let arg19 : BitVec 32 := Scf.iv c0_i32_10 c1_i32_11 k1_t1
  let c16_i32 : BitVec 32 := 16#32
  let v22 : BitVec 32 := Scalar.muli arg19 c16_i32
  let v23 : Index := Scalar.indexCast v22
  ![v23.toNat]
def k1_cond4 (i : grid1.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k1_cond5 (i : grid1.Coords) : BitVec 1 :=
  let arg1 : BitVec 32 := BitVec.ofNat 32 (i 1).val
  let c15_i32 : BitVec 32 := 15#32
  let v14 : BitVec 1 := Scalar.cmpi .slt arg1 c15_i32
  let v15 : BitVec 32 := Scalar.extui v14
  let c0_i32_6 : BitVec 32 := 0#32
  let v16 : BitVec 1 := Scalar.cmpi .ne v15 c0_i32_6
  v16

def k1_off5 (i : grid1.Coords) : Fin 2 → Nat :=
  let arg1 : BitVec 32 := BitVec.ofNat 32 (i 1).val
  let c6256_i32 : BitVec 32 := 6256#32
  let v0 : BitVec 32 := Scalar.muli arg1 c6256_i32
  let c0_i32_9_r4 : BitVec 32 := 0#32
  ![v0.toNat, 0]
def k1_cond6 (i : grid1.Coords) : BitVec 1 :=
  let arg1 : BitVec 32 := BitVec.ofNat 32 (i 1).val
  let c15_i32_7 : BitVec 32 := 15#32
  let v17 : BitVec 1 := Scalar.cmpi .eq arg1 c15_i32_7
  let v18 : BitVec 32 := Scalar.extui v17
  let c0_i32_8 : BitVec 32 := 0#32
  let v19 : BitVec 1 := Scalar.cmpi .ne v18 c0_i32_8
  v19

def k1_off6 (i : grid1.Coords) : Fin 2 → Nat :=
  let arg1 : BitVec 32 := BitVec.ofNat 32 (i 1).val
  let c6256_i32 : BitVec 32 := 6256#32
  let v0 : BitVec 32 := Scalar.muli arg1 c6256_i32
  let c0_i32_9_r5 : BitVec 32 := 0#32
  ![v0.toNat, 0]
def k1_off7 (i : grid1.Coords) : Fin 1 → Nat :=
  let arg1 : BitVec 32 := BitVec.ofNat 32 (i 1).val
  let c64_i32 : BitVec 32 := 64#32
  let v7 : BitVec 32 := Scalar.muli arg1 c64_i32
  ![v7.toNat]
def k1_cond7 (i : grid1.Coords) : BitVec 1 :=
  let arg0 : BitVec 32 := BitVec.ofNat 32 (i 0).val
  let c0_i32_2 : BitVec 32 := 0#32
  let v8 : BitVec 1 := Scalar.cmpi .eq arg0 c0_i32_2
  let v9 : BitVec 32 := Scalar.extui v8
  let c0_i32_3 : BitVec 32 := 0#32
  let v10 : BitVec 1 := Scalar.cmpi .ne v9 c0_i32_3
  v10

def k1_off8 (i : grid1.Coords) : Fin 2 → Nat :=
  let arg1 : BitVec 32 := BitVec.ofNat 32 (i 1).val
  let c64_i32 : BitVec 32 := 64#32
  let v7 : BitVec 32 := Scalar.muli arg1 c64_i32
  let c0_i32_26_r8 : BitVec 32 := 0#32
  ![v7.toNat, 0]
@[reducible] def k1_t2_loop : Scf.Loop 32 :=
  let c0_i32_11 : BitVec 32 := 0#32
  let c4_i32 : BitVec 32 := 4#32
  let v16 : BitVec 32 := Scalar.addi c0_i32_11 c4_i32
  let c1_i32_12 : BitVec 32 := 1#32
  ⟨c0_i32_11, v16, c1_i32_12⟩
def k1_off9 (k1_t2 : Fin k1_t2_loop.trips) : Fin 1 → Nat :=
  let c0_i32_11 : BitVec 32 := 0#32
  let c1_i32_12 : BitVec 32 := 1#32
  let arg19 : BitVec 32 := Scf.iv c0_i32_11 c1_i32_12 k1_t2
  let c16_i32 : BitVec 32 := 16#32
  let v39 : BitVec 32 := Scalar.muli arg19 c16_i32
  let v40 : Index := Scalar.indexCast v39
  ![v40.toNat]
def k1_off10 (k1_t2 : Fin k1_t2_loop.trips) (c0_i32_27 : BitVec 32) : Fin 2 → Nat :=
  let c0_i32_11 : BitVec 32 := 0#32
  let c1_i32_12 : BitVec 32 := 1#32
  let arg19 : BitVec 32 := Scf.iv c0_i32_11 c1_i32_12 k1_t2
  let c16_i32_26 : BitVec 32 := 16#32
  let v43 : BitVec 32 := Scalar.muli arg19 c16_i32_26
  let v44 : BitVec 32 := Scalar.addi v43 c0_i32_27
  let v50 : Index := Scalar.indexCast v44
  let c0_29 : Index := 0#32
  ![v50.toNat, 0]
def k1_off11 (k1_t2 : Fin k1_t2_loop.trips) (c0_i32_27 : BitVec 32) : Fin 2 → Nat :=
  let c0_i32_11 : BitVec 32 := 0#32
  let c1_i32_12 : BitVec 32 := 1#32
  let arg19 : BitVec 32 := Scf.iv c0_i32_11 c1_i32_12 k1_t2
  let c16_i32_26 : BitVec 32 := 16#32
  let v43 : BitVec 32 := Scalar.muli arg19 c16_i32_26
  let v44 : BitVec 32 := Scalar.addi v43 c0_i32_27
  let v54 : Index := Scalar.indexCast v44
  let c0_30 : Index := 0#32
  ![v54.toNat, 0]
def k1_off12 (k1_t2 : Fin k1_t2_loop.trips) (c0_i32_27 : BitVec 32) : Fin 2 → Nat :=
  let c0_i32_11 : BitVec 32 := 0#32
  let c1_i32_12 : BitVec 32 := 1#32
  let arg19 : BitVec 32 := Scf.iv c0_i32_11 c1_i32_12 k1_t2
  let c16_i32_26 : BitVec 32 := 16#32
  let v43 : BitVec 32 := Scalar.muli arg19 c16_i32_26
  let v44 : BitVec 32 := Scalar.addi v43 c0_i32_27
  let v63 : Index := Scalar.indexCast v44
  let c16_32 : Index := 16#32
  ![v63.toNat, 16]
def k1_off13 (k1_t2 : Fin k1_t2_loop.trips) (c0_i32_27 : BitVec 32) : Fin 2 → Nat :=
  let c0_i32_11 : BitVec 32 := 0#32
  let c1_i32_12 : BitVec 32 := 1#32
  let arg19 : BitVec 32 := Scf.iv c0_i32_11 c1_i32_12 k1_t2
  let c16_i32_26 : BitVec 32 := 16#32
  let v43 : BitVec 32 := Scalar.muli arg19 c16_i32_26
  let v44 : BitVec 32 := Scalar.addi v43 c0_i32_27
  let v67 : Index := Scalar.indexCast v44
  let c16_33 : Index := 16#32
  ![v67.toNat, 16]
def k1_off14 (k1_t2 : Fin k1_t2_loop.trips) (c0_i32_27 : BitVec 32) : Fin 2 → Nat :=
  let c0_i32_11 : BitVec 32 := 0#32
  let c1_i32_12 : BitVec 32 := 1#32
  let arg19 : BitVec 32 := Scf.iv c0_i32_11 c1_i32_12 k1_t2
  let c16_i32_26 : BitVec 32 := 16#32
  let v43 : BitVec 32 := Scalar.muli arg19 c16_i32_26
  let v44 : BitVec 32 := Scalar.addi v43 c0_i32_27
  let v76 : Index := Scalar.indexCast v44
  let c32_35 : Index := 32#32
  ![v76.toNat, 32]
def k1_off15 (k1_t2 : Fin k1_t2_loop.trips) (c0_i32_27 : BitVec 32) : Fin 2 → Nat :=
  let c0_i32_11 : BitVec 32 := 0#32
  let c1_i32_12 : BitVec 32 := 1#32
  let arg19 : BitVec 32 := Scf.iv c0_i32_11 c1_i32_12 k1_t2
  let c16_i32_26 : BitVec 32 := 16#32
  let v43 : BitVec 32 := Scalar.muli arg19 c16_i32_26
  let v44 : BitVec 32 := Scalar.addi v43 c0_i32_27
  let v80 : Index := Scalar.indexCast v44
  let c32_36 : Index := 32#32
  ![v80.toNat, 32]
def k1_off16 (k1_t2 : Fin k1_t2_loop.trips) (c0_i32_27 : BitVec 32) : Fin 2 → Nat :=
  let c0_i32_11 : BitVec 32 := 0#32
  let c1_i32_12 : BitVec 32 := 1#32
  let arg19 : BitVec 32 := Scf.iv c0_i32_11 c1_i32_12 k1_t2
  let c16_i32_26 : BitVec 32 := 16#32
  let v43 : BitVec 32 := Scalar.muli arg19 c16_i32_26
  let v44 : BitVec 32 := Scalar.addi v43 c0_i32_27
  let v89 : Index := Scalar.indexCast v44
  let c48_38 : Index := 48#32
  ![v89.toNat, 48]
def k1_off17 (k1_t2 : Fin k1_t2_loop.trips) (c0_i32_27 : BitVec 32) : Fin 2 → Nat :=
  let c0_i32_11 : BitVec 32 := 0#32
  let c1_i32_12 : BitVec 32 := 1#32
  let arg19 : BitVec 32 := Scf.iv c0_i32_11 c1_i32_12 k1_t2
  let c16_i32_26 : BitVec 32 := 16#32
  let v43 : BitVec 32 := Scalar.muli arg19 c16_i32_26
  let v44 : BitVec 32 := Scalar.addi v43 c0_i32_27
  let v93 : Index := Scalar.indexCast v44
  let c48_39 : Index := 48#32
  ![v93.toNat, 48]
def k1_cond8 (i : grid1.Coords) : BitVec 1 :=
  let arg0 : BitVec 32 := BitVec.ofNat 32 (i 0).val
  let c1_i32_4 : BitVec 32 := 1#32
  let v11 : BitVec 1 := Scalar.cmpi .eq arg0 c1_i32_4
  let v12 : BitVec 32 := Scalar.extui v11
  let c0_i32_5 : BitVec 32 := 0#32
  let v13 : BitVec 1 := Scalar.cmpi .ne v12 c0_i32_5
  v13

def k1_off18 (i : grid1.Coords) : Fin 2 → Nat :=
  let arg1 : BitVec 32 := BitVec.ofNat 32 (i 1).val
  let c64_i32 : BitVec 32 := 64#32
  let v7 : BitVec 32 := Scalar.muli arg1 c64_i32
  let c0_i32_18_r9 : BitVec 32 := 0#32
  ![v7.toNat, 0]
@[reducible] def k1_t3_loop : Scf.Loop 32 :=
  let c0_i32_11 : BitVec 32 := 0#32
  let c4_i32 : BitVec 32 := 4#32
  let v16 : BitVec 32 := Scalar.addi c0_i32_11 c4_i32
  let c1_i32_12 : BitVec 32 := 1#32
  ⟨c0_i32_11, v16, c1_i32_12⟩
def k1_off19 (k1_t3 : Fin k1_t3_loop.trips) : Fin 1 → Nat :=
  let c0_i32_11 : BitVec 32 := 0#32
  let c1_i32_12 : BitVec 32 := 1#32
  let arg19 : BitVec 32 := Scf.iv c0_i32_11 c1_i32_12 k1_t3
  let c16_i32 : BitVec 32 := 16#32
  let v19 : BitVec 32 := Scalar.muli arg19 c16_i32
  let v20 : Index := Scalar.indexCast v19
  ![v20.toNat]
def k1_off20 (k1_t3 : Fin k1_t3_loop.trips) (c0_i32_19 : BitVec 32) : Fin 2 → Nat :=
  let c0_i32_11 : BitVec 32 := 0#32
  let c1_i32_12 : BitVec 32 := 1#32
  let arg19 : BitVec 32 := Scf.iv c0_i32_11 c1_i32_12 k1_t3
  let c16_i32_18 : BitVec 32 := 16#32
  let v23 : BitVec 32 := Scalar.muli arg19 c16_i32_18
  let v24 : BitVec 32 := Scalar.addi v23 c0_i32_19
  let v30 : Index := Scalar.indexCast v24
  let c0_20 : Index := 0#32
  ![v30.toNat, 0]
def k1_off21 (k1_t3 : Fin k1_t3_loop.trips) (c0_i32_19 : BitVec 32) : Fin 2 → Nat :=
  let c0_i32_11 : BitVec 32 := 0#32
  let c1_i32_12 : BitVec 32 := 1#32
  let arg19 : BitVec 32 := Scf.iv c0_i32_11 c1_i32_12 k1_t3
  let c16_i32_18 : BitVec 32 := 16#32
  let v23 : BitVec 32 := Scalar.muli arg19 c16_i32_18
  let v24 : BitVec 32 := Scalar.addi v23 c0_i32_19
  let v34 : Index := Scalar.indexCast v24
  let c0_21 : Index := 0#32
  ![v34.toNat, 0]
def k1_off22 (k1_t3 : Fin k1_t3_loop.trips) (c0_i32_19 : BitVec 32) : Fin 2 → Nat :=
  let c0_i32_11 : BitVec 32 := 0#32
  let c1_i32_12 : BitVec 32 := 1#32
  let arg19 : BitVec 32 := Scf.iv c0_i32_11 c1_i32_12 k1_t3
  let c16_i32_18 : BitVec 32 := 16#32
  let v23 : BitVec 32 := Scalar.muli arg19 c16_i32_18
  let v24 : BitVec 32 := Scalar.addi v23 c0_i32_19
  let v43 : Index := Scalar.indexCast v24
  let c16 : Index := 16#32
  ![v43.toNat, 16]
def k1_off23 (k1_t3 : Fin k1_t3_loop.trips) (c0_i32_19 : BitVec 32) : Fin 2 → Nat :=
  let c0_i32_11 : BitVec 32 := 0#32
  let c1_i32_12 : BitVec 32 := 1#32
  let arg19 : BitVec 32 := Scf.iv c0_i32_11 c1_i32_12 k1_t3
  let c16_i32_18 : BitVec 32 := 16#32
  let v23 : BitVec 32 := Scalar.muli arg19 c16_i32_18
  let v24 : BitVec 32 := Scalar.addi v23 c0_i32_19
  let v47 : Index := Scalar.indexCast v24
  let c16_23 : Index := 16#32
  ![v47.toNat, 16]
def k1_off24 (k1_t3 : Fin k1_t3_loop.trips) (c0_i32_19 : BitVec 32) : Fin 2 → Nat :=
  let c0_i32_11 : BitVec 32 := 0#32
  let c1_i32_12 : BitVec 32 := 1#32
  let arg19 : BitVec 32 := Scf.iv c0_i32_11 c1_i32_12 k1_t3
  let c16_i32_18 : BitVec 32 := 16#32
  let v23 : BitVec 32 := Scalar.muli arg19 c16_i32_18
  let v24 : BitVec 32 := Scalar.addi v23 c0_i32_19
  let v56 : Index := Scalar.indexCast v24
  let c32 : Index := 32#32
  ![v56.toNat, 32]
def k1_off25 (k1_t3 : Fin k1_t3_loop.trips) (c0_i32_19 : BitVec 32) : Fin 2 → Nat :=
  let c0_i32_11 : BitVec 32 := 0#32
  let c1_i32_12 : BitVec 32 := 1#32
  let arg19 : BitVec 32 := Scf.iv c0_i32_11 c1_i32_12 k1_t3
  let c16_i32_18 : BitVec 32 := 16#32
  let v23 : BitVec 32 := Scalar.muli arg19 c16_i32_18
  let v24 : BitVec 32 := Scalar.addi v23 c0_i32_19
  let v60 : Index := Scalar.indexCast v24
  let c32_25 : Index := 32#32
  ![v60.toNat, 32]
def k1_off26 (k1_t3 : Fin k1_t3_loop.trips) (c0_i32_19 : BitVec 32) : Fin 2 → Nat :=
  let c0_i32_11 : BitVec 32 := 0#32
  let c1_i32_12 : BitVec 32 := 1#32
  let arg19 : BitVec 32 := Scf.iv c0_i32_11 c1_i32_12 k1_t3
  let c16_i32_18 : BitVec 32 := 16#32
  let v23 : BitVec 32 := Scalar.muli arg19 c16_i32_18
  let v24 : BitVec 32 := Scalar.addi v23 c0_i32_19
  let v69 : Index := Scalar.indexCast v24
  let c48 : Index := 48#32
  ![v69.toNat, 48]
def k1_off27 (k1_t3 : Fin k1_t3_loop.trips) (c0_i32_19 : BitVec 32) : Fin 2 → Nat :=
  let c0_i32_11 : BitVec 32 := 0#32
  let c1_i32_12 : BitVec 32 := 1#32
  let arg19 : BitVec 32 := Scf.iv c0_i32_11 c1_i32_12 k1_t3
  let c16_i32_18 : BitVec 32 := 16#32
  let v23 : BitVec 32 := Scalar.muli arg19 c16_i32_18
  let v24 : BitVec 32 := Scalar.addi v23 c0_i32_19
  let v73 : Index := Scalar.indexCast v24
  let c48_27 : Index := 48#32
  ![v73.toNat, 48]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x64 : Shape := ⟨2, ![1024, 64]⟩
abbrev S100000x64 : Shape := ⟨2, ![100000, 64]⟩
abbrev S100000 : Shape := ⟨1, ![100000]⟩
abbrev S64 : Shape := ⟨1, ![64]⟩
abbrev S_ : Shape := ⟨0, ![]⟩
abbrev S1024 : Shape := ⟨1, ![1024]⟩
abbrev S1024x1 : Shape := ⟨2, ![1024, 1]⟩
abbrev S1x64 : Shape := ⟨2, ![1, 64]⟩
abbrev S1x100000 : Shape := ⟨2, ![1, 100000]⟩
abbrev S1024x100000 : Shape := ⟨2, ![1024, 100000]⟩
abbrev S64x100000 : Shape := ⟨2, ![64, 100000]⟩

abbrev nBuf : Space → Nat
  | .hbm => 189
  | .vmem => 0
  | .smem => 0
  | _ => 0

abbrev hbmTy0_0 (i : Nat) : BufTy := match i % 128 with
  | 0 => ⟨S1024x64, .f32⟩
  | 1 => ⟨S1024x64, .f32⟩
  | 2 => ⟨S100000x64, .f32⟩
  | 3 => ⟨S100000x64, .f32⟩
  | 4 => ⟨S100000, .f32⟩
  | 5 => ⟨S64, .f32⟩
  | 6 => ⟨S64, .f32⟩
  | 7 => ⟨S_, .f32⟩
  | 8 => ⟨S1024, .f32⟩
  | 9 => ⟨S1024x1, .f32⟩
  | 10 => ⟨S_, .f32⟩
  | 11 => ⟨S1024x1, .f32⟩
  | 12 => ⟨S1024x1, .f32⟩
  | 13 => ⟨S_, .i32⟩
  | 14 => ⟨S_, .f32⟩
  | 15 => ⟨S1024, .f32⟩
  | 16 => ⟨S1024x1, .f32⟩
  | 17 => ⟨S_, .f32⟩
  | 18 => ⟨S1024x1, .f32⟩
  | 19 => ⟨S1024x1, .f32⟩
  | 20 => ⟨S1024x64, .f32⟩
  | 21 => ⟨S1024x64, .f32⟩
  | 22 => ⟨S1024x64, .f32⟩
  | 23 => ⟨S_, .f32⟩
  | 24 => ⟨S_, .f32⟩
  | 25 => ⟨S_, .f32⟩
  | 26 => ⟨S_, .f32⟩
  | 27 => ⟨S1024, .f32⟩
  | 28 => ⟨S1024x1, .f32⟩
  | 29 => ⟨S1024x1, .f32⟩
  | 30 => ⟨S1024x1, .f32⟩
  | 31 => ⟨S_, .f32⟩
  | 32 => ⟨S_, .i1⟩
  | 33 => ⟨S_, .f32⟩
  | 34 => ⟨S_, .f32⟩
  | 35 => ⟨S1024x1, .f32⟩
  | 36 => ⟨S1024x1, .f32⟩
  | 37 => ⟨S1024x64, .f32⟩
  | 38 => ⟨S1024x64, .f32⟩
  | 39 => ⟨S_, .f32⟩
  | 40 => ⟨S1024x1, .f32⟩
  | 41 => ⟨S1024x1, .f32⟩
  | 42 => ⟨S1024x1, .f32⟩
  | 43 => ⟨S1024x64, .f32⟩
  | 44 => ⟨S1024x64, .f32⟩
  | 45 => ⟨S1x64, .f32⟩
  | 46 => ⟨S1024x64, .f32⟩
  | 47 => ⟨S1024x64, .f32⟩
  | 48 => ⟨S1x64, .f32⟩
  | 49 => ⟨S1024x64, .f32⟩
  | 50 => ⟨S1024x64, .f32⟩
  | 51 => ⟨S1024x64, .f32⟩
  | 52 => ⟨S_, .f32⟩
  | 53 => ⟨S1024, .f32⟩
  | 54 => ⟨S1024x1, .f32⟩
  | 55 => ⟨S100000x64, .f32⟩
  | 56 => ⟨S_, .f32⟩
  | 57 => ⟨S100000, .f32⟩
  | 58 => ⟨S1x100000, .f32⟩
  | 59 => ⟨S1024x100000, .f32⟩
  | 60 => ⟨S1024x100000, .f32⟩
  | 61 => ⟨S1024x100000, .f32⟩
  | 62 => ⟨S64x100000, .f32⟩
  | 63 => ⟨S1024x100000, .f32⟩
  | 64 => ⟨S_, .f32⟩
  | 65 => ⟨S1024x100000, .f32⟩
  | 66 => ⟨S1024x100000, .f32⟩
  | 67 => ⟨S1024x100000, .f32⟩
  | 68 => ⟨S_, .f32⟩
  | 69 => ⟨S1024x100000, .f32⟩
  | 70 => ⟨S1024x100000, .f32⟩
  | 71 => ⟨S1024x100000, .f32⟩
  | 72 => ⟨S_, .f32⟩
  | 73 => ⟨S1024x100000, .f32⟩
  | 74 => ⟨S1024x100000, .f32⟩
  | 75 => ⟨S_, .f32⟩
  | 76 => ⟨S1024, .f32⟩
  | 77 => ⟨S_, .f32⟩
  | 78 => ⟨S1024, .f32⟩
  | 79 => ⟨S1024, .f32⟩
  | 80 => ⟨S1024x1, .f32⟩
  | 81 => ⟨S1024x100000, .f32⟩
  | 82 => ⟨S1024x100000, .f32⟩
  | 83 => ⟨S1024x100000, .f32⟩
  | 84 => ⟨S_, .f32⟩
  | 85 => ⟨S1024, .f32⟩
  | 86 => ⟨S1024x1, .f32⟩
  | 87 => ⟨S1024x100000, .f32⟩
  | 88 => ⟨S1024x100000, .f32⟩
  | 89 => ⟨S1024x64, .f32⟩
  | 90 => ⟨S1024x64, .f32⟩
  | 91 => ⟨S1024x64, .f32⟩
  | 92 => ⟨S_, .f32⟩
  | 93 => ⟨S1024, .f32⟩
  | 94 => ⟨S_, .f32⟩
  | 95 => ⟨S1024, .f32⟩
  | 96 => ⟨S1024, .f32⟩
  | 97 => ⟨S_, .f32⟩
  | 98 => ⟨S_, .f32⟩
  | 99 => ⟨S_, .f32⟩
  | 100 => ⟨S_, .f32⟩
  | 101 => ⟨S1024, .f32⟩
  | 102 => ⟨S1024, .f32⟩
  | 103 => ⟨S1024, .f32⟩
  | 104 => ⟨S1024, .f32⟩
  | 105 => ⟨S_, .f32⟩
  | 106 => ⟨S1024, .f32⟩
  | 107 => ⟨S1024, .f32⟩
  | 108 => ⟨S_, .f32⟩
  | 109 => ⟨S1024, .f32⟩
  | 110 => ⟨S1024, .f32⟩
  | 111 => ⟨S1024, .f32⟩
  | 112 => ⟨S1024, .i32⟩
  | 113 => ⟨S_, .f32⟩
  | 114 => ⟨S1024, .f32⟩
  | 115 => ⟨S1024, .f32⟩
  | 116 => ⟨S_, .f32⟩
  | 117 => ⟨S1024, .f32⟩
  | 118 => ⟨S1024, .f32⟩
  | 119 => ⟨S1024x1, .f32⟩
  | 120 => ⟨S_, .i32⟩
  | 121 => ⟨S1024, .i32⟩
  | 122 => ⟨S1024, .i1⟩
  | 123 => ⟨S_, .i32⟩
  | 124 => ⟨S1024, .i32⟩
  | 125 => ⟨S1024, .i32⟩
  | 126 => ⟨S1024, .i32⟩
  | 127 => ⟨S1024x1, .i32⟩
  | _ => ⟨S1024x64, .f32⟩

abbrev hbmTy0_1 (i : Nat) : BufTy := match i % 128 with
  | 0 => ⟨S1024x64, .f32⟩
  | 1 => ⟨S1024x64, .f32⟩
  | 2 => ⟨S1024x64, .f32⟩
  | 3 => ⟨S1024x1, .f32⟩
  | 4 => ⟨S_, .f32⟩
  | 5 => ⟨S1024x1, .f32⟩
  | 6 => ⟨S1024x1, .f32⟩
  | 7 => ⟨S1024x64, .f32⟩
  | 8 => ⟨S1024x64, .f32⟩
  | 9 => ⟨S1024x64, .f32⟩
  | 10 => ⟨S_, .i32⟩
  | 11 => ⟨S1024, .i32⟩
  | 12 => ⟨S1024, .i1⟩
  | 13 => ⟨S_, .i32⟩
  | 14 => ⟨S1024, .i32⟩
  | 15 => ⟨S1024, .i32⟩
  | 16 => ⟨S1024, .i32⟩
  | 17 => ⟨S1024x1, .i32⟩
  | 18 => ⟨S100000x64, .f32⟩
  | 19 => ⟨S1024x1, .f32⟩
  | 20 => ⟨S_, .i32⟩
  | 21 => ⟨S1024, .i32⟩
  | 22 => ⟨S1024, .i1⟩
  | 23 => ⟨S_, .i32⟩
  | 24 => ⟨S1024, .i32⟩
  | 25 => ⟨S1024, .i32⟩
  | 26 => ⟨S1024, .i32⟩
  | 27 => ⟨S1024x1, .i32⟩
  | 28 => ⟨S1024x64, .f32⟩
  | 29 => ⟨S1024x64, .f32⟩
  | 30 => ⟨S1024x64, .f32⟩
  | 31 => ⟨S1024x1, .f32⟩
  | 32 => ⟨S_, .f32⟩
  | 33 => ⟨S1024x1, .f32⟩
  | 34 => ⟨S1024x1, .f32⟩
  | 35 => ⟨S1024x64, .f32⟩
  | 36 => ⟨S1024x64, .f32⟩
  | 37 => ⟨S1024x64, .f32⟩
  | 38 => ⟨S_, .i32⟩
  | 39 => ⟨S1024, .i32⟩
  | 40 => ⟨S1024, .i1⟩
  | 41 => ⟨S_, .i32⟩
  | 42 => ⟨S1024, .i32⟩
  | 43 => ⟨S1024, .i32⟩
  | 44 => ⟨S1024, .i32⟩
  | 45 => ⟨S1024x1, .i32⟩
  | 46 => ⟨S100000x64, .f32⟩
  | 47 => ⟨S_, .i32⟩
  | 48 => ⟨S1024, .i32⟩
  | 49 => ⟨S1024, .i1⟩
  | 50 => ⟨S_, .i32⟩
  | 51 => ⟨S1024, .i32⟩
  | 52 => ⟨S1024, .i32⟩
  | 53 => ⟨S1024, .i32⟩
  | 54 => ⟨S1024x1, .i32⟩
  | 55 => ⟨S_, .f32⟩
  | 56 => ⟨S1024, .f32⟩
  | 57 => ⟨S100000, .f32⟩
  | 58 => ⟨S_, .f32⟩
  | 59 => ⟨S100000, .f32⟩
  | 60 => ⟨S100000, .f32⟩
  | _ => ⟨S1024x64, .f32⟩

abbrev hbmTy (i : Nat) : BufTy := match i / 128 with
  | 0 => hbmTy0_0 i
  | 1 => hbmTy0_1 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_2 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_3 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_4 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_5 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_6 : Ref sig .tc := ⟨.hbm, 72, rfl⟩
abbrev main_v35 : Ref sig .tc := ⟨.hbm, 73, rfl⟩
abbrev main_v36 : Ref sig .tc := ⟨.hbm, 74, rfl⟩
abbrev main_cst_7 : Ref sig .tc := ⟨.hbm, 75, rfl⟩
abbrev main_v37 : Ref sig .tc := ⟨.hbm, 76, rfl⟩
abbrev main_cst_8 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_9 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_10 : Ref sig .tc := ⟨.hbm, 92, rfl⟩
abbrev main_v51 : Ref sig .tc := ⟨.hbm, 93, rfl⟩
abbrev main_cst_11 : Ref sig .tc := ⟨.hbm, 94, rfl⟩
abbrev main_v52 : Ref sig .tc := ⟨.hbm, 95, rfl⟩
abbrev main_v53 : Ref sig .tc := ⟨.hbm, 96, rfl⟩
abbrev main_cst_12 : Ref sig .tc := ⟨.hbm, 97, rfl⟩
abbrev main_v54 : Ref sig .tc := ⟨.hbm, 98, rfl⟩
abbrev main_cst_13 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_14 : Ref sig .tc := ⟨.hbm, 105, rfl⟩
abbrev main_v60 : Ref sig .tc := ⟨.hbm, 106, rfl⟩
abbrev main_v61 : Ref sig .tc := ⟨.hbm, 107, rfl⟩
abbrev main_cst_15 : Ref sig .tc := ⟨.hbm, 108, rfl⟩
abbrev main_v62 : Ref sig .tc := ⟨.hbm, 109, rfl⟩
abbrev main_v63 : Ref sig .tc := ⟨.hbm, 110, rfl⟩
abbrev main_values : Ref sig .tc := ⟨.hbm, 111, rfl⟩
abbrev main_indices : Ref sig .tc := ⟨.hbm, 112, rfl⟩
abbrev main_cst_16 : Ref sig .tc := ⟨.hbm, 113, rfl⟩
abbrev main_v64 : Ref sig .tc := ⟨.hbm, 114, rfl⟩
abbrev main_v65 : Ref sig .tc := ⟨.hbm, 115, rfl⟩
abbrev main_cst_17 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_c_18 : Ref sig .tc := ⟨.hbm, 120, rfl⟩
abbrev main_v69 : Ref sig .tc := ⟨.hbm, 121, rfl⟩
abbrev main_v70 : Ref sig .tc := ⟨.hbm, 122, rfl⟩
abbrev main_c_19 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_cst_20 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_c_21 : Ref sig .tc := ⟨.hbm, 138, rfl⟩
abbrev main_v84 : Ref sig .tc := ⟨.hbm, 139, rfl⟩
abbrev main_v85 : Ref sig .tc := ⟨.hbm, 140, rfl⟩
abbrev main_c_22 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_c_23 : Ref sig .tc := ⟨.hbm, 148, rfl⟩
abbrev main_v92 : Ref sig .tc := ⟨.hbm, 149, rfl⟩
abbrev main_v93 : Ref sig .tc := ⟨.hbm, 150, rfl⟩
abbrev main_c_24 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_25 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_c_26 : Ref sig .tc := ⟨.hbm, 166, rfl⟩
abbrev main_v107 : Ref sig .tc := ⟨.hbm, 167, rfl⟩
abbrev main_v108 : Ref sig .tc := ⟨.hbm, 168, rfl⟩
abbrev main_c_27 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_c_28 : Ref sig .tc := ⟨.hbm, 175, rfl⟩
abbrev main_v114 : Ref sig .tc := ⟨.hbm, 176, rfl⟩
abbrev main_v115 : Ref sig .tc := ⟨.hbm, 177, rfl⟩
abbrev main_c_29 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_cst_30 : Ref sig .tc := ⟨.hbm, 183, rfl⟩
abbrev main_v120 : Ref sig .tc := ⟨.hbm, 184, rfl⟩
abbrev main_v121 : Ref sig .tc := ⟨.hbm, 185, rfl⟩
abbrev main_cst_31 : Ref sig .tc := ⟨.hbm, 186, rfl⟩
abbrev main_v122 : Ref sig .tc := ⟨.hbm, 187, rfl⟩
abbrev main_v123 : Ref sig .tc := ⟨.hbm, 188, rfl⟩

abbrev nD : Nat := 1
abbrev τ : Topo := Topo.v7x

variable {F : FTy → Type} [FloatOps F]
-- ==== Proof.Base.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.RegionArraysS
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.WordCmp
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

/-! The program as the launch theorem sees it, and the resource algebra of the certificate: the handshakes' rounds,
    the subcore barrier's rounds, the pipeline's rounds, and the counters of the transfers. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl

/-- The launch's own side conditions: distinct semaphores, none of them scoped, no shared task buffer of a core. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the barrier cells' rounds, the pipeline's rounds. -/
abbrev UH : Type := URounds (GSem nD τ sig) ℕ
abbrev UB : Type := URounds (GSem nD τ sig) ℕ
abbrev UP : Type := URounds (GSem nD τ sig) Unit
abbrev UU : Type := UH × (UB × (UP × Counters))

abbrev 𝕄 (F : FTy → Type) : Type := MT nD τ sig (HIx 1) (Elt F) ℕ UU ℕ

abbrev EH : Emb UH (𝕄 F) := embL
/-- The barrier cells' rounds library. -/
def EB : Emb UB (𝕄 F) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
/-- The pipeline's rounds library. -/
def EP : Emb UP (𝕄 F) :=
  (((Emb.inl : Emb UP (UP × Counters)).trans (Emb.inr : Emb (UP × Counters) (UB × (UP × Counters)))).trans
    (Emb.inr : Emb (UB × (UP × Counters)) UU)).trans
    (uEmb (nD := nD) (sig := sig) (Ix := HIx 1) (Val := Elt F) (Name := ℕ) (U := UU) (Lvl := ℕ)).toEmb
instance EB_landsIn : (EB : Emb UB (𝕄 F)).LandsIn (upEmb : UEmb _ (𝕄 F)) := by unfold EB; infer_instance
instance EP_landsIn : (EP : Emb UP (𝕄 F)).LandsIn (upEmb : UEmb _ (𝕄 F)) := by unfold EP; infer_instance

end Cert.Proof

end
-- ==== Proof.Attn.lean ====
module

public import proofs.«01_k».proof.Proof.Base

/-! The TensorCore body at one grid point, run once per case of its two conditions. -/

@[expose] public section

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A memref owned in full at what its view reads. -/
abbrev own1 (c : Dev nD) {sp : Space} {S : Shape} {e : EltTy} (M : Memref sig .tc sp S e) (d : S.Idx → Elt F e) : sProp (𝕄 F) :=
  owns (c : Thread nD τ) M fullShare d

theorem hz : (![0, 0] : Fin 2 → Nat) = fun _ => 0 := funext fun a => by fin_cases a <;> rfl

/-- A load of the whole rectangle reads the view. -/
theorem readAt_whole {S : Shape} {e : EltTy} {κ : Kind} {sp : Space} (M : Memref sig κ sp S e) {off : Fin S.rank → ℕ} (ho : off = fun _ => 0)
    (h : ∀ a, off a + S.size a ≤ S.size a) (f : M.view.ref.ty.Contents (Elt F)) :
    M.view.readAt (Elt F) (Rect.unit off S.size h).toLoadRect f = M.view.read (Elt F) f := by
  rw [View.readAt_eq_ld, View.ld_unit_zero ho]

/-- A store of the whole rectangle, read back, is the value stored, whatever came before it. -/
theorem read_writes_whole {S : Shape} {e : EltTy} {κ : Kind} {sp : Space} (M : Memref sig κ sp S e) {off : Fin S.rank → ℕ} (ho : off = fun _ => 0)
    (h : ∀ a, off a + S.size a ≤ S.size a) (f : M.view.ref.ty.Contents (Elt F)) (p : S.Idx → Elt F e) (L : List (View.Piece (Elt F) S e)) :
    M.view.read (Elt F) (M.view.writes (Elt F) f (⟨Rect.unit off S.size h, p⟩ :: L)) = p := by
  have hc : ∀ y : S.Idx, ∃ pc ∈ (⟨Rect.unit off S.size h, p⟩ :: L : List (View.Piece (Elt F) S e)), y ∈ pc.1.set := fun y =>
    ⟨_, List.mem_cons_self .., by subst ho; rw [Rect.mem_set_unit]; intro a; exact ⟨Nat.zero_le _, by have := (y a).isLt; omega⟩⟩
  rw [View.read_writes_eq_canon _ _ _ hc, View.canon_cons_unit_zero ho]

section Whole
variable {κ : Kind} {sp : Space}
theorem rd64 (M : Memref sig κ sp S1024x64 .f32) (h) (f : M.view.ref.ty.Contents (Elt F)) :
    M.view.readAt (Elt F) (Rect.unit (s := S1024x64) ![0, 0] ![1024, 64] h).toLoadRect f = M.view.read (Elt F) f := readAt_whole M hz h f
theorem rd1 (M : Memref sig κ sp S1024x1 .f32) (h) (f : M.view.ref.ty.Contents (Elt F)) :
    M.view.readAt (Elt F) (Rect.unit (s := S1024x1) ![0, 0] ![1024, 1] h).toLoadRect f = M.view.read (Elt F) f := readAt_whole M hz h f
theorem rdk (M : Memref sig κ sp S2000x64 .f32) (h) (f : M.view.ref.ty.Contents (Elt F)) :
    M.view.readAt (Elt F) (Rect.unit (s := S2000x64) ![0, 0] ![2000, 64] h).toLoadRect f = M.view.read (Elt F) f := readAt_whole M hz h f
theorem rdg (M : Memref sig κ sp S1x64 .f32) (h) (f : M.view.ref.ty.Contents (Elt F)) :
    M.view.readAt (Elt F) (Rect.unit (s := S1x64) ![0, 0] ![1, 64] h).toLoadRect f = M.view.read (Elt F) f := readAt_whole M hz h f
theorem wr64 (M : Memref sig κ sp S1024x64 .f32) (h) (f : M.view.ref.ty.Contents (Elt F)) (p : S1024x64.Idx → Elt F .f32) (L) :
    M.view.read (Elt F) (M.view.writes (Elt F) f (⟨Rect.unit (s := S1024x64) ![0, 0] ![1024, 64] h, p⟩ :: L)) = p := read_writes_whole M hz h f p L
theorem wr1 (M : Memref sig κ sp S1024x1 .f32) (h) (f : M.view.ref.ty.Contents (Elt F)) (p : S1024x1.Idx → Elt F .f32) (L) :
    M.view.read (Elt F) (M.view.writes (Elt F) f (⟨Rect.unit (s := S1024x1) ![0, 0] ![1024, 1] h, p⟩ :: L)) = p := read_writes_whole M hz h f p L
theorem wrk (M : Memref sig κ sp S2000x64 .f32) (h) (f : M.view.ref.ty.Contents (Elt F)) (p : S2000x64.Idx → Elt F .f32) (L) :
    M.view.read (Elt F) (M.view.writes (Elt F) f (⟨Rect.unit (s := S2000x64) ![0, 0] ![2000, 64] h, p⟩ :: L)) = p := read_writes_whole M hz h f p L
theorem rc64 (M : Memref sig κ sp S1024x64 .f32) (h h') (p : S1024x64.Idx → Elt F .f32) (L) :
    M.view.readCov (⟨Rect.unit (s := S1024x64) ![0, 0] ![1024, 64] h, p⟩ :: L : List (View.Piece (Elt F) S1024x64 .f32)) (Rect.unit (s := S1024x64) ![0, 0] ![1024, 64] h').toLoadRect = p :=
  View.readCov_full (s := S1024x64) M.view h' h p L
theorem rc1 (M : Memref sig κ sp S1024x1 .f32) (h h') (p : S1024x1.Idx → Elt F .f32) (L) :
    M.view.readCov (⟨Rect.unit (s := S1024x1) ![0, 0] ![1024, 1] h, p⟩ :: L : List (View.Piece (Elt F) S1024x1 .f32)) (Rect.unit (s := S1024x1) ![0, 0] ![1024, 1] h').toLoadRect = p :=
  View.readCov_full (s := S1024x1) M.view h' h p L
theorem rck (M : Memref sig κ sp S2000x64 .f32) (h h') (p : S2000x64.Idx → Elt F .f32) (L) :
    M.view.readCov (⟨Rect.unit (s := S2000x64) ![0, 0] ![2000, 64] h, p⟩ :: L : List (View.Piece (Elt F) S2000x64 .f32)) (Rect.unit (s := S2000x64) ![0, 0] ![2000, 64] h').toLoadRect = p :=
  View.readCov_full (s := S2000x64) M.view h' h p L
end Whole

/-- The running maximum after one more block of keys. -/
def stepM (qn : Vec F S1024x64 .f32) (kb : Vec F S2000x64 .f32) (mm : Vec F S1024x1 .f32) : Vec F S1024x1 .f32 := k0_pay3 (k0_pay13 qn kb mm)
/-- The running sum of exponentials after one more block of keys. -/
def stepL (qn : Vec F S1024x64 .f32) (kb : Vec F S2000x64 .f32) (mm ll : Vec F S1024x1 .f32) : Vec F S1024x1 .f32 :=
  k0_pay1 (k0_pay16 qn kb mm ll)
/-- The running weighted sum of values after one more block. -/
def stepA (qn : Vec F S1024x64 .f32) (kb vb : Vec F S2000x64 .f32) (mm : Vec F S1024x1 .f32) (acc : Vec F S1024x64 .f32) : Vec F S1024x64 .f32 :=
  k0_pay2 (k0_pay14 qn kb mm) (k0_pay15 qn kb mm) acc vb

section Run

variable (c : Dev nD) (i : grid0.Coords)
  (arg1 : Memref sig .tc .vmem S1024x64 .f32) (harg1 : arg1.IsWhole) (arg2 : Memref sig .tc .vmem S1024x64 .f32) (harg2 : arg2.IsWhole)
  (arg3 : Memref sig .tc .vmem S1x64 .f32) (harg3 : arg3.IsWhole) (arg4 : Memref sig .tc .vmem S1x64 .f32) (harg4 : arg4.IsWhole)
  (arg5 : Memref sig .tc .vmem S2000x64 .f32) (harg5 : arg5.IsWhole) (arg6 : Memref sig .tc .vmem S2000x64 .f32) (harg6 : arg6.IsWhole)
  (arg7 : Memref sig .tc .vmem S1024x64 .f32) (harg7 : arg7.IsWhole) (arg8 : Memref sig .tc .vmem S1024x1 .f32) (harg8 : arg8.IsWhole)
  (arg9 : Memref sig .tc .vmem S1024x64 .f32) (harg9 : arg9.IsWhole) (arg10 : Memref sig .tc .vmem S1024x1 .f32) (harg10 : arg10.IsWhole)
  (arg11 : Memref sig .tc .vmem S1024x1 .f32) (harg11 : arg11.IsWhole) (arg12 : Memref sig .tc .vmem S1024x1 .f32) (harg12 : arg12.IsWhole)
  (arg13 : Memref sig .tc .vmem S1024x64 .f32) (harg13 : arg13.IsWhole)

/-- The inner points: the running maximum, sum and accumulator move on by one block. -/
theorem run_mid (hc1 : ¬ k0_cond1 i = 1#1) (hc2 : ¬ k0_cond2 i = 1#1)
    (kb vb : Vec F S2000x64 .f32) (qn acc : Vec F S1024x64 .f32) (mm ll : Vec F S1024x1 .f32) (Q : PUnit → sProp (𝕄 F)) :
    iprop(own1 c arg5 (kb) ∗ own1 c arg6 (vb) ∗ own1 c arg9 (qn) ∗ own1 c arg11 (mm) ∗ own1 c arg12 (ll) ∗ own1 c arg13 (acc)
        ∗ (iprop(own1 c arg5 (kb) ∗ own1 c arg6 (vb) ∗ own1 c arg9 (qn) ∗ own1 c arg11 (stepM qn kb mm) ∗ own1 c arg12 (stepL qn kb mm ll) ∗ own1 c arg13 (stepA qn kb vb mm acc)) -∗ Q ⟨⟩))
      ⊢ wp frame (wpE (defs₀ (F := F)) 𝒱₀ c none) Set.univ
          (cc0__attn_body i arg1 harg1 arg2 harg2 arg3 harg3 arg4 harg4 arg5 harg5 arg6 harg6 arg7 harg7 arg8 harg8 arg9 harg9
            arg10 harg10 arg11 harg11 arg12 harg12 arg13 harg13) Q := by
  simp only [cc0__attn_body_eq_skeleton]; unfold cc0__attn_body_skel
  simp only [k0_part2_eq_skeleton]; unfold k0_part2_skel
  simp only [k0_part1_eq_skeleton]; unfold k0_part1_skel
  simp only [hc1, hc2]
  unfold own1 owns
  iintro ⟨⟨%f5, %h5, H5⟩, ⟨%f6, %h6, H6⟩, ⟨%f9, %h9, H9⟩, ⟨%f11, %h11, H11⟩, ⟨%f12, %h12, H12⟩, ⟨%f13, %h13, H13⟩, Hk⟩
  subst h5 h6 h9 h11 h12 h13
  sl_exec
  sl_step
  iapply Hk
  isplitl [H5]
  · iexists _; isplitr; swap; · iexact H5
    ipureintro; (try unfold stepM); (try unfold stepL); (try unfold stepA); (try sl_unfold_words); simp only [rd64, rd1, rdk, rdg, wr64, wr1, wrk, rc64, rc1, rck]
  isplitl [H6]
  · iexists _; isplitr; swap; · iexact H6
    ipureintro; (try unfold stepM); (try unfold stepL); (try unfold stepA); (try sl_unfold_words); simp only [rd64, rd1, rdk, rdg, wr64, wr1, wrk, rc64, rc1, rck]
  isplitl [H9]
  · iexists _; isplitr; swap; · iexact H9
    ipureintro; (try unfold stepM); (try unfold stepL); (try unfold stepA); (try sl_unfold_words); simp only [rd64, rd1, rdk, rdg, wr64, wr1, wrk, rc64, rc1, rck]
  isplitl [H11]
  · iexists _; isplitr; swap; · iexact H11
    ipureintro; (try unfold stepM); (try unfold stepL); (try unfold stepA); (try sl_unfold_words); simp only [rd64, rd1, rdk, rdg, wr64, wr1, wrk, rc64, rc1, rck]
  isplitl [H12]
  · iexists _; isplitr; swap; · iexact H12
    ipureintro; (try unfold stepM); (try unfold stepL); (try unfold stepA); (try sl_unfold_words); simp only [rd64, rd1, rdk, rdg, wr64, wr1, wrk, rc64, rc1, rck]
  · iexists _; isplitr; swap; · iexact H13
    ipureintro; (try unfold stepM); (try unfold stepL); (try unfold stepA); (try sl_unfold_words); simp only [rd64, rd1, rdk, rdg, wr64, wr1, wrk, rc64, rc1, rck]

/-- The first point: the normalised query is written, the state set up and moved on by one block. -/
theorem run_first (hc1 : k0_cond1 i = 1#1) (hc2 : ¬ k0_cond2 i = 1#1)
    (q : Vec F S1024x64 .f32) (g b : Vec F S1x64 .f32) (kb vb : Vec F S2000x64 .f32) (Q : PUnit → sProp (𝕄 F)) :
    iprop(own1 c arg1 (q) ∗ own1 c arg3 (g) ∗ own1 c arg4 (b) ∗ own1 c arg5 (kb) ∗ own1 c arg6 (vb) ∗ (∃ d, own1 c arg9 d) ∗ (∃ d, own1 c arg11 d) ∗ (∃ d, own1 c arg12 d) ∗ (∃ d, own1 c arg13 d)
        ∗ (iprop(own1 c arg1 (q) ∗ own1 c arg3 (g) ∗ own1 c arg4 (b) ∗ own1 c arg5 (kb) ∗ own1 c arg6 (vb) ∗ own1 c arg9 (k0_pay7 q g b) ∗ own1 c arg11 (stepM (k0_pay7 q g b) kb k0_pay8) ∗ own1 c arg12 (stepL (k0_pay7 q g b) kb k0_pay8 k0_pay9) ∗ own1 c arg13 (stepA (k0_pay7 q g b) kb vb k0_pay8 (k0_pay11 k0_pay10))) -∗ Q ⟨⟩))
      ⊢ wp frame (wpE (defs₀ (F := F)) 𝒱₀ c none) Set.univ
          (cc0__attn_body i arg1 harg1 arg2 harg2 arg3 harg3 arg4 harg4 arg5 harg5 arg6 harg6 arg7 harg7 arg8 harg8 arg9 harg9
            arg10 harg10 arg11 harg11 arg12 harg12 arg13 harg13) Q := by
  simp only [cc0__attn_body_eq_skeleton]; unfold cc0__attn_body_skel
  simp only [k0_part2_eq_skeleton]; unfold k0_part2_skel
  simp only [k0_part1_eq_skeleton]; unfold k0_part1_skel
  simp only [hc1, hc2]
  unfold own1 owns
  iintro ⟨⟨%f1, %h1, H1⟩, ⟨%f3, %h3, H3⟩, ⟨%f4, %h4, H4⟩, ⟨%f5, %h5, H5⟩, ⟨%f6, %h6, H6⟩, ⟨%d9, %f9, -, H9⟩, ⟨%d11, %f11, -, H11⟩, ⟨%d12, %f12, -, H12⟩, ⟨%d13, %f13, -, H13⟩, Hk⟩
  subst h1 h3 h4 h5 h6
  sl_exec
  sl_step
  iapply Hk
  isplitl [H1]
  · iexists _; isplitr; swap; · iexact H1
    ipureintro; (try unfold stepM); (try unfold stepL); (try unfold stepA); (try sl_unfold_words); simp only [rd64, rd1, rdk, rdg, wr64, wr1, wrk, rc64, rc1, rck]
  isplitl [H3]
  · iexists _; isplitr; swap; · iexact H3
    ipureintro; (try unfold stepM); (try unfold stepL); (try unfold stepA); (try sl_unfold_words); simp only [rd64, rd1, rdk, rdg, wr64, wr1, wrk, rc64, rc1, rck]
  isplitl [H4]
  · iexists _; isplitr; swap; · iexact H4
    ipureintro; (try unfold stepM); (try unfold stepL); (try unfold stepA); (try sl_unfold_words); simp only [rd64, rd1, rdk, rdg, wr64, wr1, wrk, rc64, rc1, rck]
  isplitl [H5]
  · iexists _; isplitr; swap; · iexact H5
    ipureintro; (try unfold stepM); (try unfold stepL); (try unfold stepA); (try sl_unfold_words); simp only [rd64, rd1, rdk, rdg, wr64, wr1, wrk, rc64, rc1, rck]
  isplitl [H6]
  · iexists _; isplitr; swap; · iexact H6
    ipureintro; (try unfold stepM); (try unfold stepL); (try unfold stepA); (try sl_unfold_words); simp only [rd64, rd1, rdk, rdg, wr64, wr1, wrk, rc64, rc1, rck]
  isplitl [H9]
  · iexists _; isplitr; swap; · iexact H9
    ipureintro; (try unfold stepM); (try unfold stepL); (try unfold stepA); (try sl_unfold_words); simp only [rd64, rd1, rdk, rdg, wr64, wr1, wrk, rc64, rc1, rck]
  isplitl [H11]
  · iexists _; isplitr; swap; · iexact H11
    ipureintro; (try unfold stepM); (try unfold stepL); (try unfold stepA); (try sl_unfold_words); simp only [rd64, rd1, rdk, rdg, wr64, wr1, wrk, rc64, rc1, rck]
  isplitl [H12]
  · iexists _; isplitr; swap; · iexact H12
    ipureintro; (try unfold stepM); (try unfold stepL); (try unfold stepA); (try sl_unfold_words); simp only [rd64, rd1, rdk, rdg, wr64, wr1, wrk, rc64, rc1, rck]
  · iexists _; isplitr; swap; · iexact H13
    ipureintro; (try unfold stepM); (try unfold stepL); (try unfold stepA); (try sl_unfold_words); simp only [rd64, rd1, rdk, rdg, wr64, wr1, wrk, rc64, rc1, rck]

/-- The last point: the state moves on by one block and the three results are written from it. -/
theorem run_last (hc1 : ¬ k0_cond1 i = 1#1) (hc2 : k0_cond2 i = 1#1)
    (vt : Vec F S1024x64 .f32) (kb vb : Vec F S2000x64 .f32) (qn acc : Vec F S1024x64 .f32) (mm ll : Vec F S1024x1 .f32) (Q : PUnit → sProp (𝕄 F)) :
    iprop(own1 c arg2 (vt) ∗ own1 c arg5 (kb) ∗ own1 c arg6 (vb) ∗ (∃ d, own1 c arg7 d) ∗ (∃ d, own1 c arg8 d) ∗ own1 c arg9 (qn) ∗ (∃ d, own1 c arg10 d) ∗ own1 c arg11 (mm) ∗ own1 c arg12 (ll) ∗ own1 c arg13 (acc)
        ∗ (iprop(own1 c arg2 (vt) ∗ own1 c arg5 (kb) ∗ own1 c arg6 (vb) ∗ own1 c arg7 (k0_pay4 (stepA qn kb vb mm acc) (stepL qn kb mm ll)) ∗ own1 c arg8 (k0_pay5 (stepA qn kb vb mm acc) (stepL qn kb mm ll) vt) ∗ own1 c arg9 (qn) ∗ own1 c arg10 (k0_pay6 (stepA qn kb vb mm acc) (stepL qn kb mm ll) vt) ∗ own1 c arg11 (stepM qn kb mm) ∗ own1 c arg12 (stepL qn kb mm ll) ∗ own1 c arg13 (stepA qn kb vb mm acc)) -∗ Q ⟨⟩))
      ⊢ wp frame (wpE (defs₀ (F := F)) 𝒱₀ c none) Set.univ
          (cc0__attn_body i arg1 harg1 arg2 harg2 arg3 harg3 arg4 harg4 arg5 harg5 arg6 harg6 arg7 harg7 arg8 harg8 arg9 harg9
            arg10 harg10 arg11 harg11 arg12 harg12 arg13 harg13) Q := by
  simp only [cc0__attn_body_eq_skeleton]; unfold cc0__attn_body_skel
  simp only [k0_part2_eq_skeleton]; unfold k0_part2_skel
  simp only [k0_part1_eq_skeleton]; unfold k0_part1_skel
  simp only [hc1, hc2]
  unfold own1 owns
  iintro ⟨⟨%f2, %h2, H2⟩, ⟨%f5, %h5, H5⟩, ⟨%f6, %h6, H6⟩, ⟨%d7, %f7, -, H7⟩, ⟨%d8, %f8, -, H8⟩, ⟨%f9, %h9, H9⟩, ⟨%d10, %f10, -, H10⟩, ⟨%f11, %h11, H11⟩, ⟨%f12, %h12, H12⟩, ⟨%f13, %h13, H13⟩, Hk⟩
  subst h2 h5 h6 h9 h11 h12 h13
  sl_exec
  sl_step
  iapply Hk
  isplitl [H2]
  · iexists _; isplitr; swap; · iexact H2
    ipureintro; (try unfold stepM); (try unfold stepL); (try unfold stepA); (try sl_unfold_words); simp only [rd64, rd1, rdk, rdg, wr64, wr1, wrk, rc64, rc1, rck]
  isplitl [H5]
  · iexists _; isplitr; swap; · iexact H5
    ipureintro; (try unfold stepM); (try unfold stepL); (try unfold stepA); (try sl_unfold_words); simp only [rd64, rd1, rdk, rdg, wr64, wr1, wrk, rc64, rc1, rck]
  isplitl [H6]
  · iexists _; isplitr; swap; · iexact H6
    ipureintro; (try unfold stepM); (try unfold stepL); (try unfold stepA); (try sl_unfold_words); simp only [rd64, rd1, rdk, rdg, wr64, wr1, wrk, rc64, rc1, rck]
  isplitl [H7]
  · iexists _; isplitr; swap; · iexact H7
    ipureintro; (try unfold stepM); (try unfold stepL); (try unfold stepA); (try sl_unfold_words); simp only [rd64, rd1, rdk, rdg, wr64, wr1, wrk, rc64, rc1, rck]
  isplitl [H8]
  · iexists _; isplitr; swap; · iexact H8
    ipureintro; (try unfold stepM); (try unfold stepL); (try unfold stepA); (try sl_unfold_words); simp only [rd64, rd1, rdk, rdg, wr64, wr1, wrk, rc64, rc1, rck]
  isplitl [H9]
  · iexists _; isplitr; swap; · iexact H9
    ipureintro; (try unfold stepM); (try unfold stepL); (try unfold stepA); (try sl_unfold_words); simp only [rd64, rd1, rdk, rdg, wr64, wr1, wrk, rc64, rc1, rck]
  isplitl [H10]
  · iexists _; isplitr; swap; · iexact H10
    ipureintro; (try unfold stepM); (try unfold stepL); (try unfold stepA); (try sl_unfold_words); simp only [rd64, rd1, rdk, rdg, wr64, wr1, wrk, rc64, rc1, rck]
  isplitl [H11]
  · iexists _; isplitr; swap; · iexact H11
    ipureintro; (try unfold stepM); (try unfold stepL); (try unfold stepA); (try sl_unfold_words); simp only [rd64, rd1, rdk, rdg, wr64, wr1, wrk, rc64, rc1, rck]
  isplitl [H12]
  · iexists _; isplitr; swap; · iexact H12
    ipureintro; (try unfold stepM); (try unfold stepL); (try unfold stepA); (try sl_unfold_words); simp only [rd64, rd1, rdk, rdg, wr64, wr1, wrk, rc64, rc1, rck]
  · iexists _; isplitr; swap; · iexact H13
    ipureintro; (try unfold stepM); (try unfold stepL); (try unfold stepA); (try sl_unfold_words); simp only [rd64, rd1, rdk, rdg, wr64, wr1, wrk, rc64, rc1, rck]

end Run

end Cert.Proof

end
-- ==== Proof.AttnDat.lean ====
module

public import proofs.«01_k».proof.Proof.Attn

/-! The proof data of the attention pipeline: what every window's buffer holds at every point, and the body's
    obligation at each point. -/

@[expose] public section

set_option maxRecDepth 16384

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-- The point numbered `n` (read round the grid). -/
def pt (n : ℕ) : Fin cfg0.N := ⟨n % 50, by rw [show cfg0.N = 50 from N_0]; exact Nat.mod_lt _ (by norm_num)⟩
theorem lt50 (t : Fin cfg0.N) : t.val < 50 := lt_of_lt_of_eq t.isLt N_0
theorem pt_val (t : Fin cfg0.N) : pt t.val = t := Fin.ext (Nat.mod_eq_of_lt (lt50 t))

section

-- the contents of every buffer when the pipeline starts
variable (W : Dev nD → Valuation τ sig (Elt F))

/-- Window `w`'s block at point `t`, of the array at entry. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The normalised query. -/
def qnV (c : Dev nD) : Vec F S1024x64 .f32 := k0_pay7 (iblk W c 0 (pt 0)) (iblk W c 2 (pt 0)) (iblk W c 3 (pt 0))

/-- The running maximum, the running sum and the accumulator after `n` points. -/
def stM (c : Dev nD) : ℕ → Vec F S1024x1 .f32
  | 0 => k0_pay8
  | n + 1 => stepM (qnV W c) (iblk W c 4 (pt n)) (stM c n)
def stL (c : Dev nD) : ℕ → Vec F S1024x1 .f32
  | 0 => k0_pay9
  | n + 1 => stepL (qnV W c) (iblk W c 4 (pt n)) (stM W c n) (stL c n)
def stA (c : Dev nD) : ℕ → Vec F S1024x64 .f32
  | 0 => k0_pay11 k0_pay10
  | n + 1 => stepA (qnV W c) (iblk W c 4 (pt n)) (iblk W c 5 (pt n)) (stM W c n) (stA c n)

/-- The retrieved values, the surprise and the decay, as the last point writes them. -/
def retV (c : Dev nD) : Vec F S1024x64 .f32 := k0_pay4 (stA W c 50) (stL W c 50)
def surV (c : Dev nD) : Vec F S1024x1 .f32 := k0_pay5 (stA W c 50) (stL W c 50) (iblk W c 1 (pt 49))
def decV (c : Dev nD) : Vec F S1024x1 .f32 := k0_pay6 (stA W c 50) (stL W c 50) (iblk W c 1 (pt 49))

/-- The scratch buffers before point `n`: anything at first, the state after `n` points later. -/
def PhiN (c : Dev nD) : ℕ → sProp (𝕄 F)
  | 0 => iprop((∃ d, own1 c (Memref.whole cc0_scratch0) d) ∗ (∃ d, own1 c (Memref.whole cc0_scratch1) d) ∗ (∃ d, own1 c (Memref.whole cc0_scratch2) d))
  | n + 1 => iprop(own1 c (Memref.whole cc0_scratch0) (stM W c (n + 1)) ∗ own1 c (Memref.whole cc0_scratch1) (stL W c (n + 1))
      ∗ own1 c (Memref.whole cc0_scratch2) (stA W c (n + 1)))

/-- The proof data: the arrays at entry contents; every buffer after the body at every point; the scratch state; the
    core owing the launch's first tallies throughout. -/
def dat (c : Dev nD) : Dat τ (Elt F) (HIx 1) ℕ UU ℕ cfg0 c where
  A w := W c (Proc.devRef .tc (Pipeline.arrRef spec0 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => retV W c
    | ⟨7, _⟩ => surV W c
    | ⟨8, _⟩ => qnV W c
    | ⟨9, _⟩ => decV W c
  Φ t := PhiN W c t.val
  q _ := fullShare
  owed _ := (K (F := F)).Otc c 0
  recorded _ := {p | (K (F := F)).lev ((c.tc : Thread nD τ), p.1) p.2 ≤ 0}

abbrev adm : (p : Fin 1) → (pcfgs (F := F) p).Adm := fun p => (cfgs p).toPCfg_adm
def pdats : (p : Fin 1) → (c : Dev nD) → Dat τ (Elt F) (HIx 1) ℕ UU ℕ (Pipeline.pin (pcfgs (F := F)) adm p) c
  | ⟨0, _⟩ => fun c => dat W c

theorem A_eq (c : Dev nD) (w : Fin cfg0.W) : (dat W c).A w = W c (Proc.devRef .tc (Pipeline.arrRef spec0 w)) := by dsimp only [dat]
theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = iblk W c 2 t := by dsimp only [dat]
theorem after_3 (c : Dev nD) (t : Fin cfg0.N) : (dat W c).after 3 t = iblk W c 3 t := by dsimp only [dat]
theorem after_4 (c : Dev nD) (t : Fin cfg0.N) : (dat W c).after 4 t = iblk W c 4 t := by dsimp only [dat]
theorem after_5 (c : Dev nD) (t : Fin cfg0.N) : (dat W c).after 5 t = iblk W c 5 t := by dsimp only [dat]
theorem after_6 (c : Dev nD) (t : Fin cfg0.N) : (dat W c).after 6 t = retV W c := by dsimp only [dat]
theorem after_7 (c : Dev nD) (t : Fin cfg0.N) : (dat W c).after 7 t = surV W c := by dsimp only [dat]
theorem after_8 (c : Dev nD) (t : Fin cfg0.N) : (dat W c).after 8 t = qnV W c := by dsimp only [dat]
theorem after_9 (c : Dev nD) (t : Fin cfg0.N) : (dat W c).after 9 t = decV W c := by dsimp only [dat]

/-! Each input window's buffer holds the array's block when the body runs. -/

theorem before_0 (c : Dev nD) (t : Fin cfg0.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat W c).before 4 t d = iblk W c 4 t :=
  ((dat W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat W c).before 5 t d = iblk W c 5 t :=
  ((dat W c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

theorem coords_val (t : Fin cfg0.N) : ((cfg0.grid.coords t) 0).val = t.val := by
  have h : ∀ t : Fin 50, ((cfg0.grid.coords (t.cast N_0.symm)) 0).val = t.val := by decide +kernel
  exact h (t.cast N_0)

theorem cond1_iff (t : Fin cfg0.N) : k0_cond1 (cfg0.grid.coords t) = 1#1 ↔ t.val = 0 := by
  have h : ∀ t : Fin 50, k0_cond1 (cfg0.grid.coords (t.cast N_0.symm)) = 1#1 ↔ t.val = 0 := by decide +kernel
  exact h (t.cast N_0)
theorem cond2_iff (t : Fin cfg0.N) : k0_cond2 (cfg0.grid.coords t) = 1#1 ↔ t.val = 49 := by
  have h : ∀ t : Fin 50, k0_cond2 (cfg0.grid.coords (t.cast N_0.symm)) = 1#1 ↔ t.val = 49 := by decide +kernel
  exact h (t.cast N_0)

theorem idle_last (w : Fin cfg0.W) (hw : w = 6 ∨ w = 7 ∨ w = 9) (t : Fin cfg0.N) : cfg0.idle w (cfg0.grid.coords t) = !decide (t.val = 49) := by
  have h : ∀ t : Fin 50, cfg0.idle 6 (cfg0.grid.coords (t.cast N_0.symm)) = !decide (t.val = 49) := by decide +kernel
  rcases hw with rfl | rfl | rfl <;> exact h (t.cast N_0)
theorem idle_first (t : Fin cfg0.N) : cfg0.idle 8 (cfg0.grid.coords t) = !decide (t.val = 0) := by
  have h : ∀ t : Fin 50, cfg0.idle 8 (cfg0.grid.coords (t.cast N_0.symm)) = !decide (t.val = 0) := by decide +kernel
  exact h (t.cast N_0)

theorem flush_6 (t : Fin cfg0.N) : (cfg0.win 6).flush t = decide (t.val = 49) := by
  rw [Bool.eq_iff_iff, flush0_6, Nat.mod_eq_of_lt (lt50 t), decide_eq_true_iff]
theorem flush_7 (t : Fin cfg0.N) : (cfg0.win 7).flush t = decide (t.val = 49) := by
  rw [Bool.eq_iff_iff, flush0_7, Nat.mod_eq_of_lt (lt50 t), decide_eq_true_iff]
theorem flush_8 (t : Fin cfg0.N) : (cfg0.win 8).flush t = decide (t.val = 49) := by
  rw [Bool.eq_iff_iff, flush0_8, Nat.mod_eq_of_lt (lt50 t), decide_eq_true_iff]
theorem flush_9 (t : Fin cfg0.N) : (cfg0.win 9).flush t = decide (t.val = 49) := by
  rw [Bool.eq_iff_iff, flush0_9, Nat.mod_eq_of_lt (lt50 t), decide_eq_true_iff]

/-- After the first point the normalised query stays in its buffer. -/
theorem before_8 (c : Dev nD) (d) : ∀ (n : ℕ) (h : n + 1 < cfg0.N), (dat W c).before 8 ⟨n + 1, h⟩ d = qnV W c
  | 0, h => by
    rw [(dat W c).before_of_pos 8 ⟨0 + 1, h⟩ (Nat.succ_ne_zero _) rfl, flush_8]
    rw [if_neg (by simp)]
    unfold Dat.left
    rw [idle_first]
    show (dat W c).kept 8 _ d = _
    show (dat W c).after 8 _ = _
    rw [after_8]
  | n + 1, h => by
    rw [(dat W c).before_of_pos 8 ⟨n + 1 + 1, h⟩ (Nat.succ_ne_zero _) rfl, flush_8]
    have hl := lt50 ⟨n + 1 + 1, h⟩
    rw [if_neg (by simp; simp at hl; omega)]
    unfold Dat.left
    rw [idle_first]
    show (dat W c).before 8 ⟨n + 1, _⟩ d = _
    exact before_8 c d n _

theorem defs₀_row (t : Fin cfg0.N) : defs₀ (F := F) .tc cfg0.body (cfg0.bodyArgs t (cfg0.slots t)) = bodyAt0 t := by
  rfl

/-- What the body is entered with at point `t`. -/
def bodyPre (c : Dev nD) (t : Fin cfg0.N) : sProp (𝕄 F) :=
  iprop((dat W c).Φ t.castSucc ∗ (dat W c).owesAt none t.castSucc
    ∗ bigSep Finset.univ fun w : Fin cfg0.W => iprop(∃ d, owns (c : Thread nD τ) ((cfg0.win w).stage (cfg0.slots t w)) fullShare ((dat W c).before w t d)))
/-- What it is left with. -/
def bodyPost (c : Dev nD) (t : Fin cfg0.N) : sProp (𝕄 F) :=
  iprop((dat W c).Φ t.succ ∗ (dat W c).owesAt none t.succ
    ∗ bigSep Finset.univ fun w : Fin cfg0.W =>
      match cfg0.idle w (cfg0.grid.coords t) with
      | true =>
        match (cfg0.win w).flush t with
        | false => iprop(∃ d, owns (c : Thread nD τ) ((cfg0.win w).stage (cfg0.slots t w)) fullShare ((dat W c).before w t d))
        | true => owns (c : Thread nD τ) ((cfg0.win w).stage (cfg0.slots t w)) fullShare ((dat W c).after w t)
      | false => owns (c : Thread nD τ) ((cfg0.win w).stage (cfg0.slots t w)) fullShare ((dat W c).after w t))

/-- The body at the first point. -/
theorem body_first (c : Dev nD) (t : Fin cfg0.N) (ht : t = pt 0) :
    bodyPre W c t ⊢ wp frame (wpE (defs₀ (F := F)) 𝒱₀ c none) Set.univ (bodyAt0 t) fun _ => bodyPost W c t := by
  unfold bodyPre bodyPost
  rw [bigSep_W0, bigSep_W0]
  rw [show (dat W c).owesAt none t.succ = (dat W c).owesAt none t.castSucc from rfl,
    show (dat W c).Φ t.castSucc = PhiN W c t.val from rfl, show (dat W c).Φ t.succ = PhiN W c (t.val + 1) from rfl]
  beta_reduce
  rw [idle_last 6 (by simp), idle_first, flush_6, flush_7, flush_8, flush_9]
  simp only [before_0, before_1, before_2, before_3, before_4, before_5, after_0, after_1, after_2, after_3, after_4, after_5, after_6, after_7, after_8, after_9]
  subst ht
  rw [show (pt 0).val = 0 from rfl]
  dsimp only [PhiN]
  simp only [decide_true, Nat.reduceEqDiff, decide_false, Bool.not_true, Bool.not_false]
  iintro ⟨⟨HM, HL, HA⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_first c _ _ _ _ _ _ _ _ _ _ _ _ _ _ _ _ _ _ _ _ _ _ _ _ _ _ _ ((cond1_iff (pt 0)).mpr rfl) (fun h => absurd ((cond2_iff (pt 0)).mp h) (by decide)) (iblk W c 0 (pt 0)) (iblk W c 2 (pt 0)) (iblk W c 3 (pt 0)) (iblk W c 4 (pt 0)) (iblk W c 5 (pt 0)) _)
  isplitl [H0]; · iexact H0
  isplitl [H2]; · iexact H2
  isplitl [H3]; · iexact H3
  isplitl [H4]; · iexact H4
  isplitl [H5]; · iexact H5
  isplitl [H8]; · iexists _; iexact H8
  isplitl [HM]; · iexact HM
  isplitl [HL]; · iexact HL
  isplitl [HA]; · iexact HA
  iintro ⟨H0, H2, H3, H4, H5, H8, HM, HL, HA⟩
  isplitl [HM HL HA]
  · isplitl [HM]; · iexact HM
    isplitl [HL]; · iexact HL
    iexact HA
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  iexists _; iexact H9

/-- The body between the first and the last point. -/
theorem body_mid (c : Dev nD) (t : Fin cfg0.N) (n : ℕ) (hn : n + 1 < 49) (ht : t.val = n + 1) :
    bodyPre W c t ⊢ wp frame (wpE (defs₀ (F := F)) 𝒱₀ c none) Set.univ (bodyAt0 t) fun _ => bodyPost W c t := by
  unfold bodyPre bodyPost
  rw [bigSep_W0, bigSep_W0]
  rw [show (dat W c).owesAt none t.succ = (dat W c).owesAt none t.castSucc from rfl,
    show (dat W c).Φ t.castSucc = PhiN W c t.val from rfl, show (dat W c).Φ t.succ = PhiN W c (t.val + 1) from rfl]
  beta_reduce
  rw [idle_last 6 (by simp), idle_first, flush_6, flush_7, flush_8, flush_9]
  simp only [before_0, before_1, before_2, before_3, before_4, before_5, after_0, after_1, after_2, after_3, after_4, after_5, after_6, after_7, after_8, after_9]
  have h8 : ∀ d, (dat W c).before 8 t d = qnV W c := fun d => by
    obtain ⟨tv, hlt⟩ := t; dsimp only at ht; subst ht; exact before_8 W c d n hlt
  have hp : pt (n + 1) = t := by rw [← ht, pt_val]
  simp only [h8]
  rw [ht]
  dsimp only [PhiN]
  rw [show stM W c (n + 1 + 1) = stepM (qnV W c) (iblk W c 4 t) (stM W c (n + 1)) from by rw [← hp]; rfl,
    show stL W c (n + 1 + 1) = stepL (qnV W c) (iblk W c 4 t) (stM W c (n + 1)) (stL W c (n + 1)) from by rw [← hp]; rfl,
    show stA W c (n + 1 + 1) = stepA (qnV W c) (iblk W c 4 t) (iblk W c 5 t) (stM W c (n + 1)) (stA W c (n + 1)) from by rw [← hp]; rfl]
  simp only [show ¬ (n + 1 = 49) by omega, Nat.succ_ne_zero, decide_false, Bool.not_false]
  iintro ⟨⟨HM, HL, HA⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_mid c _ _ _ _ _ _ _ _ _ _ _ _ _ _ _ _ _ _ _ _ _ _ _ _ _ _ _ (fun h => absurd ((cond1_iff t).mp h) (by omega)) (fun h => absurd ((cond2_iff t).mp h) (by omega)) (iblk W c 4 t) (iblk W c 5 t) (qnV W c) (stA W c (n + 1)) (stM W c (n + 1)) (stL W c (n + 1)) _)
  isplitl [H4]; · iexact H4
  isplitl [H5]; · iexact H5
  isplitl [H8]; · iexact H8
  isplitl [HM]; · iexact HM
  isplitl [HL]; · iexact HL
  isplitl [HA]; · iexact HA
  iintro ⟨H4, H5, H8, HM, HL, HA⟩
  isplitl [HM HL HA]
  · isplitl [HM]; · iexact HM
    isplitl [HL]; · iexact HL
    iexact HA
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists d8; iexact H8
  iexists _; iexact H9

/-- The body at the last point. -/
theorem body_last (c : Dev nD) (t : Fin cfg0.N) (ht : t = pt 49) :
    bodyPre W c t ⊢ wp frame (wpE (defs₀ (F := F)) 𝒱₀ c none) Set.univ (bodyAt0 t) fun _ => bodyPost W c t := by
  unfold bodyPre bodyPost
  rw [bigSep_W0, bigSep_W0]
  rw [show (dat W c).owesAt none t.succ = (dat W c).owesAt none t.castSucc from rfl,
    show (dat W c).Φ t.castSucc = PhiN W c t.val from rfl, show (dat W c).Φ t.succ = PhiN W c (t.val + 1) from rfl]
  beta_reduce
  rw [idle_last 6 (by simp), idle_first, flush_6, flush_7, flush_8, flush_9]
  simp only [before_0, before_1, before_2, before_3, before_4, before_5, after_0, after_1, after_2, after_3, after_4, after_5, after_6, after_7, after_8, after_9]
  subst ht
  have h8 : ∀ d, (dat W c).before 8 (pt 49) d = qnV W c := fun d => before_8 W c d 48 _
  simp only [h8]
  rw [show (pt 49).val = 49 from rfl]
  dsimp only [PhiN]
  simp only [decide_true, Nat.reduceEqDiff, decide_false, Bool.not_true, Bool.not_false]
  iintro ⟨⟨HM, HL, HA⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_last c _ _ _ _ _ _ _ _ _ _ _ _ _ _ _ _ _ _ _ _ _ _ _ _ _ _ _ (fun h => absurd ((cond1_iff (pt 49)).mp h) (by decide)) ((cond2_iff (pt 49)).mpr rfl) (iblk W c 1 (pt 49)) (iblk W c 4 (pt 49)) (iblk W c 5 (pt 49)) (qnV W c) (stA W c 49) (stM W c 49) (stL W c 49) _)
  isplitl [H1]; · iexact H1
  isplitl [H4]; · iexact H4
  isplitl [H5]; · iexact H5
  isplitl [H6]; · iexists _; iexact H6
  isplitl [H7]; · iexists _; iexact H7
  isplitl [H8]; · iexact H8
  isplitl [H9]; · iexists _; iexact H9
  isplitl [HM]; · iexact HM
  isplitl [HL]; · iexact HL
  isplitl [HA]; · iexact HA
  iintro ⟨H1, H4, H5, H6, H7, H8, H9, HM, HL, HA⟩
  isplitl [HM HL HA]
  · isplitl [HM]; · iexact HM
    isplitl [HL]; · iexact HL
    iexact HA
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body's obligation at every point: the scratch state moves on, the windows are left as the data say. -/
theorem body_obligation (c : Dev nD) : BodyObligation (dat W c) (defs₀ (F := F)) 𝒱₀ none Set.univ := fun t => by
  rw [defs₀_row]
  show bodyPre W c t ⊢ wp frame (wpE (defs₀ (F := F)) 𝒱₀ c none) Set.univ (bodyAt0 t) fun _ => bodyPost W c t
  have hl := lt50 t
  rcases Nat.eq_zero_or_pos t.val with h | h
  · exact body_first W c t (Fin.ext h)
  rcases Nat.lt_or_ge t.val 49 with h' | h'
  · exact body_mid W c t (t.val - 1) (by omega) (by omega)
  · exact body_last W c t (Fin.ext (by show t.val = 49; omega))

end

end Cert.Proof

end
-- ==== Proof.Region.lean ====
module

public import proofs.«01_k».proof.Proof.AttnDat

/-! The attention pipeline as one step of the TensorCore's program: entered with every unscoped buffer at given
    contents, left with the windows' arrays written back; the waits it records stay at the lowest level. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

section

variable (W : Dev nD → Valuation τ sig (Elt F))

/-- The TensorCore's unscoped references. -/
abbrev uc : Finset (DevRef τ sig) := Pipeline.ucRefs τ sig

/-- What the core owes, with a bound on the waits recorded so far. -/
def owesLow (c : Dev nD) : sProp (𝕄 F) :=
  iprop(∃ Wd, ⌜(K (F := F)).WBelow (c.tc : Thread nD τ) Wd 0⌝ ∗ owes (c.tc : Thread nD τ) ((K (F := F)).Otc c 0) Wd)

/-- The windows' arrays are unscoped buffers of the TensorCore. -/
theorem arrs_sub : Pipeline.arrRefs (τ := τ) spec0 ⊆ uc := Pipeline.arrRefs_sub_ucRefs spec0 (by decide)

/-- The scratch buffers, as the region hands them out and takes them back. -/
theorem enter (c : Dev nD) : Pipeline.scopedRest (Ix := HIx 1) (Val := Elt F) (Name := ℕ) (U := UU) (Lvl := ℕ) spec0 c ⊢ PhiN W c 0 := by
  rw [scopedRest0_eq]
  unfold PhiN own1
  simp only [owns_whole_eq]
  iintro ⟨⟨%f0, H0⟩, ⟨%f1, H1⟩, ⟨%f2, H2⟩⟩
  isplitl [H0]; · iexists f0; iexists f0; isplitr; · ipureintro; rfl
                  iexact H0
  isplitl [H1]; · iexists f1; iexists f1; isplitr; · ipureintro; rfl
                  iexact H1
  iexists f2; iexists f2; isplitr; · ipureintro; rfl
  iexact H2
theorem leave (c : Dev nD) : PhiN W c 50 ⊢ Pipeline.scopedRest (Ix := HIx 1) (Val := Elt F) (Name := ℕ) (U := UU) (Lvl := ℕ) spec0 c := by
  rw [scopedRest0_eq]
  unfold PhiN own1
  simp only [owns_whole_eq]
  iintro ⟨⟨%f0, -, H0⟩, ⟨%f1, -, H1⟩, ⟨%f2, -, H2⟩⟩
  isplitl [H0]; · iexists f0; iexact H0
  isplitl [H1]; · iexists f1; iexact H1
  iexists f2; iexact H2

/-- A wait recorded by the pipeline is at the lowest level. -/
theorem low_of_bound (c : Dev nD) (p : SemLoc sig × HIx 1) (h : p ∈ (dat W c).bound none (Fin.last _)) :
    (K (F := F)).lev (c.tc, p.1) p.2 ≤ 0 := by
  rcases h with h | ⟨w, s, rfl⟩
  · exact h
  · exact le_refl 0

theorem hcutD (c : Dev nD) (g : GSem nD τ sig) (i : HIx 1) (h : 0 < (K (F := F)).Otc c 0 g i) :
    i ∈ (K (F := F)).L g ∧ 0 < (K (F := F)).lev g i :=
  ⟨Finset.mem_univ _, lt_of_lt_of_le (by simp) ((K (F := F)).lev_of_Otc_pos h)⟩

set_option backward.isDefEq.respectTransparency.types false in
/-- The pipeline's region over every unscoped buffer held at `W`, `R` riding along. -/
def reg (R : Dev nD → sProp (𝕄 F)) :
    Pipeline.RegionSeg (pcfgs (F := F)) adm (pdats W) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation W c).loose
  hwaits c := Pipeline.cellsWaits_of_cut (Pipeline.pin (pcfgs (F := F)) adm) (pdats W) none 0 c 0 ((K (F := F)).Otc c 0) (fun _ => rfl)
    (fun _ _ => Finset.mem_univ _) (fun _ _ => le_refl 0) (hcutD c)
  pre c := iprop(StableHlo.held (c.tc : Thread nD τ) uc (W c) ∗ R c ∗ owesLow c)
  post c := iprop(StableHlo.held (c.tc : Thread nD τ) uc (Pipeline.afterRegion (dat W c) (W c)) ∗ R c ∗ owesLow c)
  X _ := BI.emp
  Y _ := BI.emp
  Z c := iprop(StableHlo.held (c.tc : Thread nD τ) (uc \ Pipeline.arrRefs spec0) (W c) ∗ R c)
  hentry c := by
    rw [Pipeline.ownSems0_none, Pipeline.prefHeld_of_none _ rfl,
      StableHlo.held_sub_split (c.tc : Thread nD τ) (arrs_sub) (W c),
      ← Pipeline.arrays_held (pcfgs (F := F)) adm (pdats W) 0 launch0.toP c ((pdats W 0 c).share_full fun _ => rfl) ((pdats W 0 c).arrAt · 0) (W c) (fun _ => rfl)]
    iintro ⟨⟨⟨Ha, Hrest⟩, HR, HO⟩, -, -⟩
    imodintro
    isplitl [Ha]; · iexact Ha
    isplitr; · iempintro
    isplitl [HO]
    · unfold owesLow Dat.owesAt Pipeline.owesWithin
      icases HO with ⟨%Wd, %hW, HO⟩; iexists Wd; isplitr; · ipureintro; exact fun p hp => Or.inl (hW p hp)
      iexact HO
    isplitr; · iempintro
    isplitl [Hrest]; · iexact Hrest
    iexact HR
  hin c := by
    rw [show (pdats W 0 c).Φ 0 = PhiN W c 0 from rfl]
    iintro ⟨-, -, Hr⟩
    iapply (enter W c); iexact Hr
  hout c := by
    rw [Pipeline.ownSems0_none, show (pdats W 0 c).Φ (Fin.last _) = PhiN W c 50 from congrArg (PhiN W c) N_0]
    iintro Hr
    isplitr; · iempintro
    isplitr; · iempintro
    iapply (leave W c); iexact Hr
  hexit c := by
    rw [StableHlo.held_sub_split (c.tc : Thread nD τ) (arrs_sub) (Pipeline.afterRegion (dat W c) (W c)),
      StableHlo.held_congr (c.tc : Thread nD τ) (S := uc \ Pipeline.arrRefs spec0) (V := Pipeline.afterRegion (dat W c) (W c)) (V' := W c)
        (Pipeline.afterRegion_off (dat W c) (W c) uc),
      ← Pipeline.arrays_held (pcfgs (F := F)) adm (pdats W) 0 launch0.toP c ((pdats W 0 c).share_full fun _ => rfl) ((pdats W 0 c).arrAt · cfg0.N)
        (Pipeline.afterRegion (dat W c) (W c)) (fun w => (Pipeline.afterRegion_arr (dat W c) (W c) launch0.win.arr_inj w).symm)]
    iintro ⟨Ha, HO, -, Hrest, HR⟩
    imodintro
    isplitl [Ha Hrest]
    · isplitl [Ha]; · iexact Ha
      iexact Hrest
    isplitl [HR]; · iexact HR
    unfold owesLow Dat.owesAt Pipeline.owesWithin
    icases HO with ⟨%Wd, %hW, HO⟩; iexists Wd; isplitr
    · ipureintro; exact fun p hp => low_of_bound W c p (hW hp)
    iexact HO

/-- The call as the launch's main body makes it is the pipeline's call in the pipelines' own signature, lifted. -/
theorem attn_prog : (Prog.lift (.customCall (SparseCore.inner (Pipeline.entry 0)) ()) : Prog (TpuEff nD τ sig (Elt F) (SparseCore.Sig (ΛP (F := F)) 1) .tc) PUnit)
    = SparseCore.liftProg (Prog.lift (.customCall (Pipeline.entry 0) ()) : Prog (TpuEff nD τ sig (Elt F) (ΛP (F := F)) .tc) PUnit) := rfl

/-- The pipeline's call, in the launch's body table: from every unscoped buffer at `W` to the arrays written back. -/
theorem wp_attn (c : Dev nD) (Φ : PUnit → sProp (𝕄 F)) :
    iprop(boundary (c.tc : Thread nD τ) ∗ StableHlo.held (c.tc : Thread nD τ) uc (W c) ∗ owesLow c ∗ levAts (K (F := F)).L (K (F := F)).lev
        ∗ Pipeline.cellsGhost (Pipeline.pin (pcfgs (F := F)) adm) EP 0 c ∗ Pipeline.toksInit (Pipeline.pin (pcfgs (F := F)) adm) EP 0 c
        ∗ (iprop(boundary (c.tc : Thread nD τ) ∗ StableHlo.held (c.tc : Thread nD τ) uc (Pipeline.afterRegion (dat W c) (W c)) ∗ owesLow c) -∗ Φ ⟨⟩))
      ⊢ wp frame (wpE ((K (F := F)).defs D) 𝒱 (c.tc : Thread nD τ) none) Set.univ (Prog.lift (.customCall (SparseCore.inner (Pipeline.entry 0)) ())) Φ := by
  rw [attn_prog]
  refine BIBase.Entails.trans ?_ ((K (F := F)).wp_liftProg D 𝒱 (c.tc : Thread nD τ) Set.univ none _ Φ)
  have h := Pipeline.RegionSeg.wp (pcfgs (F := F)) adm (pdats W) (none : HIx 1) cellOf_inj EP (defs₀ (F := F)) 𝒱₀ (K (F := F)).L (K (F := F)).lev
    (reg W fun _ => BI.emp) c none (by intro u hu; exact absurd hu (by simp)) (fun a => Prog.ret a) Φ
  rw [show (reg W fun _ => (BI.emp : sProp (𝕄 F))).post c = iprop(StableHlo.held (c.tc : Thread nD τ) uc (Pipeline.afterRegion (dat W c) (W c)) ∗ BI.emp ∗ owesLow c) from rfl,
    show (reg W fun _ => (BI.emp : sProp (𝕄 F))).pre c = iprop(StableHlo.held (c.tc : Thread nD τ) uc (W c) ∗ BI.emp ∗ owesLow c) from rfl] at h
  iintro ⟨HB, HH, HO, HL, HG, HT, Hk⟩
  iapply h
  isplitl [Hk]
  · iintro ⟨HB, HP⟩
    rw [wp_ret]; imodintro
    iapply Hk
    isplitl [HB]; · iexact HB
    icases HP with ⟨HP, -, HO⟩
    isplitl [HP]; · iexact HP
    iexact HO
  isplitl [HB]; · iexact HB
  isplitl [HH HO]
  · isplitl [HH]; · iexact HH
    isplitr; · iempintro
    iexact HO
  isplitl [HL]; · iexact HL
  isplitl [HG]; · iexact HG
  iexact HT

end

end Cert.Proof

end
-- ==== Proof.Blend.lean ====
module

public import proofs.«01_k».proof.Proof.Base
public import proofs.«01_k».proof.Proof.Gen.KernelIdeal
public import proofs.«01_k».proof.Proof.Gen.KernelIdeal.Skeleton

/-! The blending loops of the tiles: each trip is sixteen rows of four chunks, one after the other. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-- The word in lane `r`. -/
def lane (v : FVec F S16 .f32) : Fin 16 → F .f32 := ![
  extractAt ![0] (extractStridedSlice S1 ![0] v slices_S16_o0_S1) inpos_S1_p0,
  extractAt ![0] (extractStridedSlice S1 ![1] v slices_S16_o1_S1) inpos_S1_p0,
  extractAt ![0] (extractStridedSlice S1 ![2] v slices_S16_o2_S1) inpos_S1_p0,
  extractAt ![0] (extractStridedSlice S1 ![3] v slices_S16_o3_S1) inpos_S1_p0,
  extractAt ![0] (extractStridedSlice S1 ![4] v slices_S16_o4_S1) inpos_S1_p0,
  extractAt ![0] (extractStridedSlice S1 ![5] v slices_S16_o5_S1) inpos_S1_p0,
  extractAt ![0] (extractStridedSlice S1 ![6] v slices_S16_o6_S1) inpos_S1_p0,
  extractAt ![0] (extractStridedSlice S1 ![7] v slices_S16_o7_S1) inpos_S1_p0,
  extractAt ![0] (extractStridedSlice S1 ![8] v slices_S16_o8_S1) inpos_S1_p0,
  extractAt ![0] (extractStridedSlice S1 ![9] v slices_S16_o9_S1) inpos_S1_p0,
  extractAt ![0] (extractStridedSlice S1 ![10] v slices_S16_o10_S1) inpos_S1_p0,
  extractAt ![0] (extractStridedSlice S1 ![11] v slices_S16_o11_S1) inpos_S1_p0,
  extractAt ![0] (extractStridedSlice S1 ![12] v slices_S16_o12_S1) inpos_S1_p0,
  extractAt ![0] (extractStridedSlice S1 ![13] v slices_S16_o13_S1) inpos_S1_p0,
  extractAt ![0] (extractStridedSlice S1 ![14] v slices_S16_o14_S1) inpos_S1_p0,
  extractAt ![0] (extractStridedSlice S1 ![15] v slices_S16_o15_S1) inpos_S1_p0]

/-- A row's decay in every lane, and one less it. -/
def decl (v : Vec F S16 .f32) (r : Fin 16) : FVec F S16 .f32 := broadcast S16 (lane (shapeCast S16 v shapeCasts_S16_S16) r)
def comp (v : Vec F S16 .f32) (r : Fin 16) : FVec F S16 .f32 := subf (broadcast S16 (Scalar.ofBits .f32 0x3F800000#32)) (decl v r)

/-- A chunk's place in the two row buffers. -/
structure Spot where
  o : Fin 2 → ℕ
  ho : ∀ a, o a + S1x16.size a ≤ S64x128.size a
  o' : Fin 2 → ℕ
  ho' : ∀ a, o' a + S1x16.size a ≤ S64x64.size a

/-- What a chunk is overwritten with. -/
def blend (v : Vec F S16 .f32) (r : Fin 16) (x y : Vec F S1x16 .f32) : Vec F S1x16 .f32 :=
  shapeCast S1x16 (addf (mulf (decl v r) (shapeCast S16 x shapeCasts_S1x16_S16)) (mulf (comp v r) (shapeCast S16 y shapeCasts_S1x16_S16))) shapeCasts_S16_S1x16

variable {p : Fin τ.nSC} {p' : Fin τ.nSub}

/-- One chunk: load the row's part, the source's part, store the blend. -/
def chunk (m : Memref sig .scVector .vmem S64x128 .f32) (m' : Memref sig .scVector .vmem S64x64 .f32) (v : Vec F S16 .f32) (r : Fin 16) (s : Spot) :
    Prog (TpuEff nD τ sig (Elt F) Λ₀ (.scVector p p')) PUnit := do
  let x : Vec F S1x16 .f32 ← Prog.lift (.load m (Rect.unit (s := S64x128) s.o S1x16.size s.ho).toLoadRect (View.loadsAt_vmem h_S1x16))
  let y : Vec F S1x16 .f32 ← Prog.lift (.load m' (Rect.unit (s := S64x64) s.o' S1x16.size s.ho').toLoadRect (View.loadsAt_vmem h_S1x16))
  let _ : Vec F S1x16 .f32 ← Prog.lift (.load m (Rect.unit (s := S64x128) s.o S1x16.size s.ho).toLoadRect (View.loadsAt_vmem h_S1x16))
  Prog.lift (.store m (Rect.unit (s := S64x128) s.o S1x16.size s.ho) (blend v r x y) Finset.univ (View.stores_vmem_bits_univ h_S1x16 rfl) (.inl rfl))

/-- The chunks of a list of rows and columns, in order. -/
def chunks (m : Memref sig .scVector .vmem S64x128 .f32) (m' : Memref sig .scVector .vmem S64x64 .f32) (v : Vec F S16 .f32) (sp : Fin 16 → Fin 4 → Spot) :
    List (Fin 16 × Fin 4) → Prog (TpuEff nD τ sig (Elt F) Λ₀ (.scVector p p')) PUnit
  | [] => pure ⟨⟩
  | x :: l => chunk m m' v x.1 (sp x.1 x.2) >>= fun _ => chunks m m' v sp l

/-- The rows and columns in the order the loop's body goes through them. -/
abbrev order : List (Fin 16 × Fin 4) :=
  [(0, 0), (0, 1), (0, 2), (0, 3), (1, 0), (1, 1), (1, 2), (1, 3), (2, 0), (2, 1), (2, 2), (2, 3), (3, 0), (3, 1), (3, 2), (3, 3), (4, 0), (4, 1), (4, 2), (4, 3), (5, 0), (5, 1), (5, 2), (5, 3), (6, 0), (6, 1), (6, 2), (6, 3), (7, 0), (7, 1), (7, 2), (7, 3), (8, 0), (8, 1), (8, 2), (8, 3), (9, 0), (9, 1), (9, 2), (9, 3), (10, 0), (10, 1), (10, 2), (10, 3), (11, 0), (11, 1), (11, 2), (11, 3), (12, 0), (12, 1), (12, 2), (12, 3), (13, 0), (13, 1), (13, 2), (13, 3), (14, 0), (14, 1), (14, 2), (14, 3), (15, 0), (15, 1), (15, 2), (15, 3)]

section Bodies

variable (i : grid1.Coords)
  (arg2 : Memref sig .scVector .hbm S100000x128 .f32) (harg2 : arg2.IsWhole)
  (arg3 : Memref sig .scVector .hbm S100000x128 .f32) (harg3 : arg3.IsWhole)
  (arg4 : Memref sig .scVector .hbm S102400 .f32) (harg4 : arg4.IsWhole)
  (arg5 : Memref sig .scVector .hbm S1024 .i32) (harg5 : arg5.IsWhole)
  (arg6 : Memref sig .scVector .hbm S1024 .f32) (harg6 : arg6.IsWhole)
  (arg7 : Memref sig .scVector .hbm S1024x64 .f32) (harg7 : arg7.IsWhole)
  (arg8 : Memref sig .scVector .hbm S1024x64 .f32) (harg8 : arg8.IsWhole)
  (arg9 : Memref sig .scVector .hbm S100000x128 .f32) (harg9 : arg9.IsWhole)
  (arg10 : Memref sig .scVector .hbm S100000x128 .f32) (harg10 : arg10.IsWhole)
  (arg11 : Memref sig .scVector .hbm S102400 .f32) (harg11 : arg11.IsWhole)
  (arg12 : Memref sig .scVector .vmem S64 .i32) (harg12 : arg12.IsWhole)
  (arg13 : Memref sig .scVector .vmem S64 .f32) (harg13 : arg13.IsWhole)
  (arg14 : Memref sig .scVector .vmem S64x128 .f32) (harg14 : arg14.IsWhole)
  (arg15 : Memref sig .scVector .vmem S64x64 .f32) (harg15 : arg15.IsWhole)
  (arg16 : Memref sig .scVector .vmem S6400 .f32) (harg16 : arg16.IsWhole)
  (arg17 arg18 v22_r0 v22_r1 v22_r2 v22_r3 v20_r4 v20_r5 v14_r6 v14_r7 v39_r8 v19_r9 : DmaSems sig S_)

/-- Where the keys' loop finds its chunks, and where the values' loop does. -/
def spot2 (h : k1_cond7 i = 1#1) (t : Fin k1_t2_loop.trips) (r : Fin 16) : Fin 4 → Spot := ![
  ⟨k1_off10 t (BitVec.ofNat 32 r.val), k1_off10_inb i t h r, k1_off11 t (BitVec.ofNat 32 r.val), k1_off11_inb i t h r⟩,
  ⟨k1_off12 t (BitVec.ofNat 32 r.val), k1_off12_inb i t h r, k1_off13 t (BitVec.ofNat 32 r.val), k1_off13_inb i t h r⟩,
  ⟨k1_off14 t (BitVec.ofNat 32 r.val), k1_off14_inb i t h r, k1_off15 t (BitVec.ofNat 32 r.val), k1_off15_inb i t h r⟩,
  ⟨k1_off16 t (BitVec.ofNat 32 r.val), k1_off16_inb i t h r, k1_off17 t (BitVec.ofNat 32 r.val), k1_off17_inb i t h r⟩]
def spot3 (h : k1_cond8 i = 1#1) (t : Fin k1_t3_loop.trips) (r : Fin 16) : Fin 4 → Spot := ![
  ⟨k1_off20 t (BitVec.ofNat 32 r.val), k1_off20_inb i t h r, k1_off21 t (BitVec.ofNat 32 r.val), k1_off21_inb i t h r⟩,
  ⟨k1_off22 t (BitVec.ofNat 32 r.val), k1_off22_inb i t h r, k1_off23 t (BitVec.ofNat 32 r.val), k1_off23_inb i t h r⟩,
  ⟨k1_off24 t (BitVec.ofNat 32 r.val), k1_off24_inb i t h r, k1_off25 t (BitVec.ofNat 32 r.val), k1_off25_inb i t h r⟩,
  ⟨k1_off26 t (BitVec.ofNat 32 r.val), k1_off26_inb i t h r, k1_off27 t (BitVec.ofNat 32 r.val), k1_off27_inb i t h r⟩]

set_option maxHeartbeats 4000000 in
set_option maxRecDepth 200000 in
/-- The keys' loop's body is its chunks in order, after the load of the sixteen decays. -/
theorem t2_body_eq (h : k1_cond7 i = 1#1) (t : Fin k1_t2_loop.trips) (u : Unit) :
    k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
        arg17 arg18 v22_r0 v22_r1 v22_r2 v22_r3 v20_r4 v20_r5 v14_r6 v14_r7 v39_r8 v19_r9 h t u
      = (Prog.lift (.load arg13 (Rect.unit (s := S64) (k1_off9 t) S16.size (k1_off9_inb i t h)).toLoadRect (View.loadsAt_vmem h_S16)) >>= fun v =>
          chunks arg14 arg15 v (spot2 i h t) order) := rfl

set_option maxHeartbeats 4000000 in
set_option maxRecDepth 200000 in
/-- The values' loop's body is its chunks in order, after the load of the sixteen decays. -/
theorem t3_body_eq (h : k1_cond8 i = 1#1) (t : Fin k1_t3_loop.trips) (u : Unit) :
    k1_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
        arg17 arg18 v22_r0 v22_r1 v22_r2 v22_r3 v20_r4 v20_r5 v14_r6 v14_r7 v39_r8 v19_r9 h t u
      = (Prog.lift (.load arg13 (Rect.unit (s := S64) (k1_off19 t) S16.size (k1_off19_inb i t h)).toLoadRect (View.loadsAt_vmem h_S16)) >>= fun v =>
          chunks arg14 arg15 v (spot3 i h t) order) := rfl

end Bodies

end Cert.Proof

end
-- ==== Proof.BlendRows.lean ====
module

public import proofs.«01_k».proof.Proof.Blend
public import Idealize.ShloMosaic.Lib.Pointwise

/-! What the blending loops leave: every row's first sixty-four words blended with its source row by the row's decay. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-- One blended word. -/
def bl (d x y : F .f32) : F .f32 :=
  FloatOps.addf (FloatOps.mulf d x) (FloatOps.mulf (FloatOps.subf (Scalar.ofBits .f32 0x3F800000#32) d) y)

/-- The rows `x` after `n` chunks. -/
def rowsAt (d : Vec F S64 .f32) (x : Vec F S64x128 .f32) (y : Vec F S64x64 .f32) (n : ℕ) : Vec F S64x128 .f32 := fun i =>
  if h : (i 1).val < 64 ∧ 4 * (i 0).val + (i 1).val / 16 < n then bl (d (ix1 (i 0))) (x i) (y (ix2 (i 0) ⟨(i 1).val, h.1⟩)) else x i

theorem lane_eq (v : FVec F S16 .f32) (r : Fin 16) : lane v r = v (ix1 r) := by
  fin_cases r <;> exact congrArg v (funext fun a => by fin_cases a; rfl)

/-- A chunk's blend, word by word. -/
theorem blend_apply (v : Vec F S16 .f32) (r : Fin 16) (x y : Vec F S1x16 .f32) (j : S1x16.Idx) :
    blend v r x y j = bl (v (ix1 r)) (x j) (y j) := by
  have hd : lane (shapeCast S16 v shapeCasts_S16_S16) r = v (ix1 r) := by rw [lane_eq, shapeCast_self]
  have hc : ∀ z : Vec F S1x16 .f32, shapeCast S16 z shapeCasts_S1x16_S16 (Shape.reshapeEquiv shapeCasts_S16_S1x16 j) = z j := fun z => by
    exact congrFun (shapeCast_shapeCast z shapeCasts_S1x16_S16 shapeCasts_S16_S1x16) j
  unfold blend comp decl bl
  rw [hd]
  show FloatOps.addf (FloatOps.mulf _ (shapeCast S16 x shapeCasts_S1x16_S16 _)) (FloatOps.mulf _ (shapeCast S16 y shapeCasts_S1x16_S16 _)) = _
  rw [hc, hc]; rfl

theorem put_chunk (d : Vec F S64 .f32) (x : Vec F S64x128 .f32) (y : Vec F S64x64 .f32) (t : ℕ) (r : Fin 16) (c : Fin 4)
    (hd : ∀ a, (![16 * t] : Fin 1 → ℕ) a + S16.size a ≤ S64.size a) (hx : ∀ a, (![16 * t + r.val, 16 * c.val] : Fin 2 → ℕ) a + S1x16.size a ≤ S64x128.size a)
    (hy : ∀ a, (![16 * t + r.val, 16 * c.val] : Fin 2 → ℕ) a + S1x16.size a ≤ S64x64.size a) (n : ℕ) (hn : n = 64 * t + (4 * r.val + c.val)) :
    VecWindow.put (rowsAt d x y n) ![16 * t + r.val, 16 * c.val] S1x16.size
        (blend (VecWindow.window d ![16 * t] S16.size hd) r (VecWindow.window (rowsAt d x y n) ![16 * t + r.val, 16 * c.val] S1x16.size hx)
          (VecWindow.window y ![16 * t + r.val, 16 * c.val] S1x16.size hy))
      = rowsAt d x y (n + 1) := by
  subst hn
  funext i
  have hr := r.isLt
  have hcl := c.isLt
  unfold VecWindow.put
  by_cases hin : (i 0).val = 16 * t + r.val ∧ 16 * c.val ≤ (i 1).val ∧ (i 1).val < 16 * c.val + 16
  · obtain ⟨h0, h1, h2⟩ := hin
    rw [dif_pos (Fin.forall_fin_two.mpr ⟨⟨h0.ge, by show _ < 16 * t + r.val + 1; omega⟩, h1, h2⟩), blend_apply]
    have hL : ∀ a, (![16 * t + r.val, 16 * c.val] : Fin 2 → ℕ) a ≤ (i a).val ∧ (i a).val < (![16 * t + r.val, 16 * c.val] : Fin 2 → ℕ) a + S1x16.size a :=
      Fin.forall_fin_two.mpr ⟨⟨h0.ge, by show _ < 16 * t + r.val + 1; omega⟩, h1, h2⟩
    have hlt : (i 1).val < 64 := by omega
    have hdiv : (i 1).val / 16 = c.val := by omega
    rw [show rowsAt d x y (64 * t + (4 * r.val + c.val) + 1) i = bl (d (ix1 (i 0))) (x i) (y (ix2 (i 0) ⟨(i 1).val, hlt⟩)) from
      dif_pos ⟨hlt, by omega⟩]
    have e1 : VecWindow.window d ![16 * t] S16.size hd (ix1 r) = d (ix1 (i 0)) :=
      congrArg d (funext fun a => by fin_cases a; exact Fin.ext (by show 16 * t + 1 * r.val = (i 0).val; omega))
    have e0 : (Rect.unit (s := S64x128) ![16 * t + r.val, 16 * c.val] S1x16.size hx).emb (@Rect.unitLocal S64x128 ![16 * t + r.val, 16 * c.val] S1x16.size i hL) = i :=
      funext fun a => by
        fin_cases a
        · exact Fin.ext (by show 16 * t + r.val + 1 * ((i 0).val - (16 * t + r.val)) = (i 0).val; omega)
        · exact Fin.ext (by show 16 * c.val + 1 * ((i 1).val - (16 * c.val)) = (i 1).val; omega)
    have e2 : VecWindow.window (rowsAt d x y (64 * t + (4 * r.val + c.val))) ![16 * t + r.val, 16 * c.val] S1x16.size hx
        (@Rect.unitLocal S64x128 ![16 * t + r.val, 16 * c.val] S1x16.size i hL) = x i := by
      show rowsAt d x y _ ((Rect.unit (s := S64x128) ![16 * t + r.val, 16 * c.val] S1x16.size hx).emb _) = x i
      rw [e0]
      exact dif_neg fun h => by have := h.2; omega
    have e3 : VecWindow.window y ![16 * t + r.val, 16 * c.val] S1x16.size hy
        (@Rect.unitLocal S64x128 ![16 * t + r.val, 16 * c.val] S1x16.size i hL) = y (ix2 (i 0) ⟨(i 1).val, hlt⟩) :=
      congrArg y (funext fun a => by
        fin_cases a
        · exact Fin.ext (by show 16 * t + r.val + 1 * ((i 0).val - (16 * t + r.val)) = (i 0).val; omega)
        · exact Fin.ext (by show 16 * c.val + 1 * ((i 1).val - (16 * c.val)) = (i 1).val; omega))
    exact congr (congr (congrArg bl e1) e2) e3
  · rw [dif_neg (fun h => hin (by
      have a0 : 16 * t + r.val ≤ (i 0).val ∧ (i 0).val < 16 * t + r.val + 1 := h 0
      have a1 : 16 * c.val ≤ (i 1).val ∧ (i 1).val < 16 * c.val + 16 := h 1
      omega))]
    unfold rowsAt
    have hi : (i 1).val < 128 := (i 1).isLt
    by_cases h64 : (i 1).val < 64 ∧ 4 * (i 0).val + (i 1).val / 16 < 64 * t + (4 * r.val + c.val)
    · rw [dif_pos h64, dif_pos ⟨h64.1, by omega⟩]
    · rw [dif_neg h64, dif_neg (fun h => hin (by omega))]

section Run

variable {d : Dev nD} {q : Fin τ.nSC} {q' : Fin τ.nSub}

abbrev ownV (d : Dev nD) (q : Fin τ.nSC) (q' : Fin τ.nSub) {sp : Space} {S : Shape} {e : EltTy} (M : Memref sig .scVector sp S e) (X : S.Idx → Elt F e) : sProp (𝕄 F) :=
  owns (V d q q') M fullShare X

/-- One chunk takes the rows after `n` chunks to the rows after `n + 1`. -/
theorem wp_chunk (m : Memref sig .scVector .vmem S64x128 .f32) (m' : Memref sig .scVector .vmem S64x64 .f32) (dv : Vec F S64 .f32) (x : Vec F S64x128 .f32) (y : Vec F S64x64 .f32)
    (t : ℕ) (r : Fin 16) (c : Fin 4) (s : Spot) (ho : s.o = ![16 * t + r.val, 16 * c.val]) (ho' : s.o' = ![16 * t + r.val, 16 * c.val])
    (hd : ∀ a, (![16 * t] : Fin 1 → ℕ) a + S16.size a ≤ S64.size a) (n : ℕ) (hn : n = 64 * t + (4 * r.val + c.val)) :
    iprop(ownV d q q' m (rowsAt dv x y n) ∗ ownV d q q' m' y)
      ⊢ wp frame (wpE (defs₀ (F := F)) 𝒱₀ (V d q q') none) Set.univ (chunk m m' (VecWindow.window dv ![16 * t] S16.size hd) r s)
          fun _ => iprop(ownV d q q' m (rowsAt dv x y (n + 1)) ∗ ownV d q q' m' y) := by
  obtain ⟨o, hob, o', hob'⟩ := s
  subst ho ho'
  unfold chunk ownV owns
  iintro ⟨⟨%f, %hf, HX⟩, ⟨%g, %hg, HY⟩⟩
  sl_exec
  sl_step
  isplitl [HX]
  · iexists _
    isplitr
    swap
    · iexact HX
    · ipureintro
      sl_unfold_words
      rw [View.read_writes_cons_put _ _ _ _ _ rfl, View.writes_nil, View.readAt_unit m.view _ _ rfl hob, View.readAt_unit m'.view _ _ rfl hob', hf, hg]
      exact put_chunk dv x y t r c hd hob hob' n hn
  · iexists g
    isplitr
    · ipureintro; exact hg
    · iexact HY

theorem order_drop : ∀ k : Fin 64, order.drop k.val = ((⟨k.val / 4, by omega⟩, ⟨k.val % 4, by omega⟩) : Fin 16 × Fin 4) :: order.drop (k.val + 1) := by
  decide

/-- The chunks from number `k` on, in order. -/
theorem wp_chunks (m : Memref sig .scVector .vmem S64x128 .f32) (m' : Memref sig .scVector .vmem S64x64 .f32) (dv : Vec F S64 .f32) (x : Vec F S64x128 .f32) (y : Vec F S64x64 .f32)
    (t : ℕ) (sp : Fin 16 → Fin 4 → Spot) (ho : ∀ r c, (sp r c).o = ![16 * t + r.val, 16 * c.val]) (ho' : ∀ r c, (sp r c).o' = ![16 * t + r.val, 16 * c.val])
    (hd : ∀ a, (![16 * t] : Fin 1 → ℕ) a + S16.size a ≤ S64.size a) : ∀ j : ℕ, j ≤ 64 →
    iprop(ownV d q q' m (rowsAt dv x y (64 * t + (64 - j))) ∗ ownV d q q' m' y)
      ⊢ wp frame (wpE (defs₀ (F := F)) 𝒱₀ (V d q q') none) Set.univ (chunks m m' (VecWindow.window dv ![16 * t] S16.size hd) sp (order.drop (64 - j)))
          fun _ => iprop(ownV d q q' m (rowsAt dv x y (64 * (t + 1))) ∗ ownV d q q' m' y)
  | 0, _ => by
    show _ ⊢ wp frame _ Set.univ (.ret PUnit.unit) _
    rw [wp_ret, show 64 * t + (64 - 0) = 64 * (t + 1) by omega]
    iintro ⟨HX, HY⟩
    imodintro
    isplitl [HX] <;> iassumption
  | j + 1, hj => by
    have ih := wp_chunks m m' dv x y t sp ho ho' hd j (by omega)
    have hk : 64 - (j + 1) < 64 := by omega
    have ho1 := order_drop ⟨64 - (j + 1), hk⟩
    generalize hr : (Fin.mk ((⟨64 - (j + 1), hk⟩ : Fin 64).val / 4) _ : Fin 16) = r at ho1
    generalize hc : (Fin.mk ((⟨64 - (j + 1), hk⟩ : Fin 64).val % 4) _ : Fin 4) = c at ho1
    have hrc : 4 * r.val + c.val = 64 - (j + 1) := by subst hr hc; simp only; omega
    simp only at ho1
    rw [ho1, show 64 - (j + 1) + 1 = 64 - j by omega]
    unfold chunks
    rw [wp_bind]
    iintro ⟨HX, HY⟩
    iapply (wp_wand_r (Fr := frame) (wpE := wpE (defs₀ (F := F)) 𝒱₀ (V d q q') none))
    isplitl
    · iapply (wp_chunk m m' dv x y t r c (sp r c) (ho r c) (ho' r c) hd (64 * t + (64 - (j + 1))) (by rw [hrc]))
      isplitl [HX] <;> iassumption
    · iintro %_ ⟨HX, HY⟩
      rw [show 64 * t + (64 - (j + 1)) + 1 = 64 * t + (64 - j) by omega]
      iapply ih
      isplitl [HX] <;> iassumption

/-- A trip's program with the load of its sixteen decays in front of what runs at them. -/
theorem wp_decays (md : Memref sig .scVector .vmem S64 .f32) (dv : Vec F S64 .f32) (t : ℕ) (C : Vec F S16 .f32 → Prog (TpuEff nD τ sig (Elt F) Λ₀ (.scVector q q')) PUnit)
    (od : Fin 1 → ℕ) (hod : od = ![16 * t]) (hd : ∀ a, od a + S16.size a ≤ S64.size a) (hd' : ∀ a, (![16 * t] : Fin 1 → ℕ) a + S16.size a ≤ S64.size a) (P Q : sProp (𝕄 F))
    (hC : P ⊢ wp frame (wpE (defs₀ (F := F)) 𝒱₀ (V d q q') none) Set.univ (C (VecWindow.window dv ![16 * t] S16.size hd')) fun _ => Q) :
    iprop(ownV d q q' md dv ∗ P)
      ⊢ wp frame (wpE (defs₀ (F := F)) 𝒱₀ (V d q q') none) Set.univ
          (Prog.lift (.load md (Rect.unit (s := S64) od S16.size hd).toLoadRect (View.loadsAt_vmem h_S16)) >>= C)
          fun _ => iprop(ownV d q q' md dv ∗ Q) := by
  subst hod
  iintro ⟨HD, HP⟩
  unfold ownV owns
  icases HD with ⟨%f, %hf, HD⟩
  have hv : View.readAt (Elt F) md.view (Rect.unit (s := S64) ![16 * t] S16.size hd).toLoadRect f = VecWindow.window dv ![16 * t] S16.size hd := by
    rw [View.readAt_unit md.view _ _ rfl hd, hf]
  sl_exec
  sl_unfold_words
  iapply (wp_wand_r (Fr := frame) (wpE := wpE (defs₀ (F := F)) 𝒱₀ (V d q q') none))
  isplitl [HP]
  · iapply hC
    iassumption
  · iintro %_ HQ
    isplitl [HD]
    · iexists f
      isplitr
      · ipureintro; exact hf
      · iexact HD
    · iexact HQ

end Run

section Loops

variable (d : Dev nD) (i : grid1.Coords)
  (arg2 : Memref sig .scVector .hbm S100000x128 .f32) (harg2 : arg2.IsWhole)
  (arg3 : Memref sig .scVector .hbm S100000x128 .f32) (harg3 : arg3.IsWhole)
  (arg4 : Memref sig .scVector .hbm S102400 .f32) (harg4 : arg4.IsWhole)
  (arg5 : Memref sig .scVector .hbm S1024 .i32) (harg5 : arg5.IsWhole)
  (arg6 : Memref sig .scVector .hbm S1024 .f32) (harg6 : arg6.IsWhole)
  (arg7 : Memref sig .scVector .hbm S1024x64 .f32) (harg7 : arg7.IsWhole)
  (arg8 : Memref sig .scVector .hbm S1024x64 .f32) (harg8 : arg8.IsWhole)
  (arg9 : Memref sig .scVector .hbm S100000x128 .f32) (harg9 : arg9.IsWhole)
  (arg10 : Memref sig .scVector .hbm S100000x128 .f32) (harg10 : arg10.IsWhole)
  (arg11 : Memref sig .scVector .hbm S102400 .f32) (harg11 : arg11.IsWhole)
  (arg12 : Memref sig .scVector .vmem S64 .i32) (harg12 : arg12.IsWhole)
  (arg13 : Memref sig .scVector .vmem S64 .f32) (harg13 : arg13.IsWhole)
  (arg14 : Memref sig .scVector .vmem S64x128 .f32) (harg14 : arg14.IsWhole)
  (arg15 : Memref sig .scVector .vmem S64x64 .f32) (harg15 : arg15.IsWhole)
  (arg16 : Memref sig .scVector .vmem S6400 .f32) (harg16 : arg16.IsWhole)
  (arg17 arg18 v22_r0 v22_r1 v22_r2 v22_r3 v20_r4 v20_r5 v14_r6 v14_r7 v39_r8 v19_r9 : DmaSems sig S_)

abbrev qL (i : grid1.Coords) : Fin τ.nSC := (i 0).castLE hcore1
abbrev sL (i : grid1.Coords) : Fin τ.nSub := (i 1).castLE hsub1

theorem spot2_o (h : k1_cond7 i = 1#1) (t : Fin k1_t2_loop.trips) (r : Fin 16) (c : Fin 4) :
    (spot2 i h t r c).o = ![16 * t.val + r.val, 16 * c.val] ∧ (spot2 i h t r c).o' = ![16 * t.val + r.val, 16 * c.val] := by
  fin_cases c
  exacts [⟨k1_off10_eq t r, k1_off11_eq t r⟩, ⟨k1_off12_eq t r, k1_off13_eq t r⟩, ⟨k1_off14_eq t r, k1_off15_eq t r⟩, ⟨k1_off16_eq t r, k1_off17_eq t r⟩]

theorem spot3_o (h : k1_cond8 i = 1#1) (t : Fin k1_t3_loop.trips) (r : Fin 16) (c : Fin 4) :
    (spot3 i h t r c).o = ![16 * t.val + r.val, 16 * c.val] ∧ (spot3 i h t r c).o' = ![16 * t.val + r.val, 16 * c.val] := by
  fin_cases c
  exacts [⟨k1_off20_eq t r, k1_off21_eq t r⟩, ⟨k1_off22_eq t r, k1_off23_eq t r⟩, ⟨k1_off24_eq t r, k1_off25_eq t r⟩, ⟨k1_off26_eq t r, k1_off27_eq t r⟩]

/-- The keys' loop blends every row. -/
theorem wp_t2 (h : k1_cond7 i = 1#1) (dv : Vec F S64 .f32) (x : Vec F S64x128 .f32) (y : Vec F S64x64 .f32) :
    iprop(ownV d (qL i) (sL i) arg13 dv ∗ ownV d (qL i) (sL i) arg14 x ∗ ownV d (qL i) (sL i) arg15 y)
      ⊢ wp frame (wpE (defs₀ (F := F)) 𝒱₀ (V d (qL i) (sL i)) none) Set.univ
          (Scf.Loop.for k1_t2_loop (k1_t2_ok i h) ⟨⟩ (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
            arg17 arg18 v22_r0 v22_r1 v22_r2 v22_r3 v20_r4 v20_r5 v14_r6 v14_r7 v39_r8 v19_r9 h))
          fun _ => iprop(ownV d (qL i) (sL i) arg13 dv ∗ ownV d (qL i) (sL i) arg14 (rowsAt dv x y 256) ∗ ownV d (qL i) (sL i) arg15 y) := by
  have h0 : rowsAt dv x y (64 * 0) = x := funext fun i => dif_neg fun h => by have := h.2; omega
  iintro ⟨HD, HX, HY⟩
  iapply (Scf.wp_for frame (wpE (defs₀ (F := F)) 𝒱₀ (V d (qL i) (sL i)) none) Set.univ _ _ _ (k1_t2_ok i h) () _
    (fun n _ => iprop(ownV d (qL i) (sL i) arg13 dv ∗ ownV d (qL i) (sL i) arg14 (rowsAt dv x y (64 * n)) ∗ ownV d (qL i) (sL i) arg15 y)) (fun t u => by
      rw [t2_body_eq]
      have hd' : ∀ a, (![16 * t.val] : Fin 1 → ℕ) a + S16.size a ≤ S64.size a := by rw [← k1_off9_eq t]; exact k1_off9_inb i t h
      exact wp_decays arg13 dv t.val _ _ (k1_off9_eq t) (k1_off9_inb i t h) hd' _ _
        (wp_chunks arg14 arg15 dv x y t.val (spot2 i h t) (fun r c => (spot2_o i h t r c).1) (fun r c => (spot2_o i h t r c).2) hd' 64 le_rfl)))
  rw [h0]
  isplitl [HD HX HY]
  · isplitl [HD]; · iexact HD
    isplitl [HX] <;> iassumption
  · iintro %_ H
    iexact H

/-- The values' loop blends every row. -/
theorem wp_t3 (h : k1_cond8 i = 1#1) (dv : Vec F S64 .f32) (x : Vec F S64x128 .f32) (y : Vec F S64x64 .f32) :
    iprop(ownV d (qL i) (sL i) arg13 dv ∗ ownV d (qL i) (sL i) arg14 x ∗ ownV d (qL i) (sL i) arg15 y)
      ⊢ wp frame (wpE (defs₀ (F := F)) 𝒱₀ (V d (qL i) (sL i)) none) Set.univ
          (Scf.Loop.for k1_t3_loop (k1_t3_ok i h) ⟨⟩ (k1_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
            arg17 arg18 v22_r0 v22_r1 v22_r2 v22_r3 v20_r4 v20_r5 v14_r6 v14_r7 v39_r8 v19_r9 h))
          fun _ => iprop(ownV d (qL i) (sL i) arg13 dv ∗ ownV d (qL i) (sL i) arg14 (rowsAt dv x y 256) ∗ ownV d (qL i) (sL i) arg15 y) := by
  have h0 : rowsAt dv x y (64 * 0) = x := funext fun i => dif_neg fun h => by have := h.2; omega
  iintro ⟨HD, HX, HY⟩
  iapply (Scf.wp_for frame (wpE (defs₀ (F := F)) 𝒱₀ (V d (qL i) (sL i)) none) Set.univ _ _ _ (k1_t3_ok i h) () _
    (fun n _ => iprop(ownV d (qL i) (sL i) arg13 dv ∗ ownV d (qL i) (sL i) arg14 (rowsAt dv x y (64 * n)) ∗ ownV d (qL i) (sL i) arg15 y)) (fun t u => by
      rw [t3_body_eq]
      have hd' : ∀ a, (![16 * t.val] : Fin 1 → ℕ) a + S16.size a ≤ S64.size a := by rw [← k1_off19_eq t]; exact k1_off19_inb i t h
      exact wp_decays arg13 dv t.val _ _ (k1_off19_eq t) (k1_off19_inb i t h) hd' _ _
        (wp_chunks arg14 arg15 dv x y t.val (spot3 i h t) (fun r c => (spot3_o i h t r c).1) (fun r c => (spot3_o i h t r c).2) hd' 64 le_rfl)))
  rw [h0]
  isplitl [HD HX HY]
  · isplitl [HD]; · iexact HD
    isplitl [HX] <;> iassumption
  · iintro %_ H
    iexact H

end Loops

end Cert.Proof

end
-- ==== Proof.Rows.lean ====
module

public import proofs.«01_k».proof.Proof.BlendRows
public import Idealize.ShloMosaic.Lib.SparseCore.Scatter

/-! Rows of the tables by number: the sets the tiles hold, the contents the kernel leaves, and how the two fit the
transfers that make them. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-! ### Sets of rows -/

/-- The elements of a shape whose coordinate along `ax` satisfies `p`. -/
def rowsF (s : Shape) (ax : Fin s.rank) (p : ℕ → Prop) : Finset s.Idx :=
  open scoped Classical in Finset.univ.filter fun x => p (x ax).val

theorem mem_rowsF {s : Shape} {ax : Fin s.rank} {p : ℕ → Prop} {x : s.Idx} : x ∈ rowsF s ax p ↔ p (x ax).val := by
  classical
  unfold rowsF
  simp only [Finset.mem_filter, Finset.mem_univ, true_and]

/-- All rows are all elements. -/
theorem rowsF_univ {s : Shape} {ax : Fin s.rank} {p : ℕ → Prop} (h : ∀ n, n < s.size ax → p n) :
    rowsF s ax p = Finset.univ := by
  ext x
  simp only [mem_rowsF, Finset.mem_univ, iff_true]
  exact h _ (x ax).isLt

/-- Two predicates that agree below the extent name the same elements. -/
theorem rowsF_congr {s : Shape} {ax : Fin s.rank} {p p' : ℕ → Prop} (h : ∀ n, n < s.size ax → (p n ↔ p' n)) :
    rowsF s ax p = rowsF s ax p' := by
  ext x
  simp only [mem_rowsF]
  exact h _ (x ax).isLt

/-- Exclusive predicates name disjoint sets. -/
theorem rowsF_disjoint {s : Shape} {ax : Fin s.rank} {p p' : ℕ → Prop} (h : ∀ n, p n → p' n → False) :
    Disjoint (rowsF s ax p) (rowsF s ax p') :=
  Finset.disjoint_left.mpr fun _ hx hy => h _ (mem_rowsF.mp hx) (mem_rowsF.mp hy)

/-- The rows of a family of predicates, gathered. -/
theorem rowsF_family {s : Shape} {ax : Fin s.rank} {ι : Type} [Fintype ι] {p : ℕ → Prop} {P : ι → ℕ → Prop}
    (h : ∀ n, n < s.size ax → (p n ↔ ∃ i, P i n)) :
    rowsF s ax p = (Finset.univ : Finset ι).biUnion fun i => rowsF s ax (P i) := by
  classical
  ext x
  simp only [mem_rowsF, Finset.mem_biUnion, Finset.mem_univ, true_and]
  exact h _ (x ax).isLt

/-- Row `n` is named by part `j` of the list: one of its 64 words from `64 j` on is `n`. -/
def named (idx : Vec F S1024 .i32) (j n : ℕ) : Prop := ∃ s : Fin 1024, s.val / 64 = j ∧ (idx (ix1 s)).toNat = n

/-- Row `n` is of block `i`, the blocks having `b` rows. -/
def inBlock (b i n : ℕ) : Prop := n / b = i

/-- Row `n` is of block `i` and named by part `j`. -/
def piece (idx : Vec F S1024 .i32) (b i j n : ℕ) : Prop := inBlock b i n ∧ named idx j n

/-- Row `n` is of block `i` and named by no part. -/
def rest (idx : Vec F S1024 .i32) (b i n : ℕ) : Prop := inBlock b i n ∧ ¬ ∃ j : Fin 16, named idx j.val n

/-- The words of the list are pairwise distinct. -/
def Distinct (idx : Vec F S1024 .i32) : Prop := Function.Injective fun s : Fin 1024 => (idx (ix1 s)).toNat

/-- The words of the list are row numbers. -/
def Below (idx : Vec F S1024 .i32) : Prop := ∀ s : Fin 1024, (idx (ix1 s)).toNat < 100000

theorem named_unique {idx : Vec F S1024 .i32} (hd : Distinct idx) {j j' n : ℕ} (h : named idx j n) (h' : named idx j' n) :
    j = j' := by
  obtain ⟨s, rfl, hs⟩ := h
  obtain ⟨s', rfl, hs'⟩ := h'
  rw [hd (hs.trans hs'.symm : (idx (ix1 s)).toNat = (idx (ix1 s')).toNat)]

/-! ### The contents -/

/-- The tables the kernel meets. -/
structure Tab (F : FTy → Type) where
  kp : S100000x128.Idx → Elt F .f32
  vp : S100000x128.Idx → Elt F .f32
  age : S102400.Idx → Elt F .f32
  idx : S1024.Idx → Elt F .i32
  dec : S1024.Idx → Elt F .f32
  qn : S1024x64.Idx → Elt F .f32
  vt : S1024x64.Idx → Elt F .f32
  k₀ : S100000x128.Idx → Elt F .f32
  v₀ : S100000x128.Idx → Elt F .f32
  a₀ : S102400.Idx → Elt F .f32

/-- A table with its named rows blended with the rows of `y`: the first 64 lanes of row `idx s` become the decayed blend
of themselves and row `s` of `y`; the rest is as it was. -/
def upd (idx : Vec F S1024 .i32) (dec : Vec F S1024 .f32) (y : Vec F S1024x64 .f32) (tab : Vec F S100000x128 .f32) :
    Vec F S100000x128 .f32 := fun x =>
  open scoped Classical in
  if h : ∃ s : Fin 1024, (idx (ix1 s)).toNat = (x 0).val then
    if h' : (x 1).val < 64 then bl (dec (ix1 h.choose)) (tab x) (y (ix2 h.choose ⟨(x 1).val, h'⟩)) else tab x
  else tab x

/-- The ages, one more each. -/
def older (age : Vec F S102400 .f32) : Vec F S102400 .f32 := fun x =>
  FloatOps.addf (age x) (Scalar.ofBits .f32 0x3F800000#32)

/-- The ages, one more each, the named ones one. -/
def newAge (idx : Vec F S1024 .i32) (age : Vec F S102400 .f32) : Vec F S102400 .f32 := fun x =>
  open scoped Classical in
  if ∃ s : Fin 1024, (idx (ix1 s)).toNat = (x 0).val then Scalar.ofBits .f32 0x3F800000#32 else older age x

theorem upd_of_named {idx : Vec F S1024 .i32} (hd : Distinct idx) {dec : Vec F S1024 .f32} {y : Vec F S1024x64 .f32}
    {tab : Vec F S100000x128 .f32} {x : S100000x128.Idx} {s : Fin 1024} (hs : (idx (ix1 s)).toNat = (x 0).val) :
    upd idx dec y tab x = if h' : (x 1).val < 64 then bl (dec (ix1 s)) (tab x) (y (ix2 s ⟨(x 1).val, h'⟩)) else tab x := by
  classical
  have h : ∃ s : Fin 1024, (idx (ix1 s)).toNat = (x 0).val := ⟨s, hs⟩
  have he : h.choose = s := hd (h.choose_spec.trans hs.symm : (idx (ix1 h.choose)).toNat = (idx (ix1 s)).toNat)
  unfold upd
  rw [dif_pos h, he]

theorem upd_of_not {idx : Vec F S1024 .i32} {dec : Vec F S1024 .f32} {y : Vec F S1024x64 .f32}
    {tab : Vec F S100000x128 .f32} {x : S100000x128.Idx} (h : ¬ ∃ s : Fin 1024, (idx (ix1 s)).toNat = (x 0).val) :
    upd idx dec y tab x = tab x := by
  classical
  unfold upd
  rw [dif_neg h]

theorem named_of_word (idx : Vec F S1024 .i32) (s : Fin 1024) :
    ∃ j : Fin 16, named idx j.val (idx (ix1 s)).toNat :=
  ⟨⟨s.val / 64, by have := s.isLt; omega⟩, s, rfl, rfl⟩

/-! ### The sets the transfers move -/

/-- The rows of a whole table, as the indexed transfers name them. -/
theorem rowsWhere_whole {κ : Kind} (r : Ref sig κ) (ax : Fin r.ty.shape.rank) (p : ℕ → Prop) :
    SparseCore.rowsWhere (View.whole r) ax p = rowsF r.ty.shape ax p := by
  ext x
  rw [SparseCore.mem_rowsWhere, mem_rowsF]
  constructor
  · rintro ⟨k, hk, hx⟩
    rw [View.set_slice_whole] at hx
    have := (Rect.mem_set_unit.mp hx) ax
    rw [if_pos rfl] at this
    have h1 : (r.ty.shape.rowShape ax).size ax = 1 := if_pos rfl
    rw [h1] at this
    rwa [show (x ax).val = k.val by omega]
  · intro h
    refine ⟨x ax, h, ?_⟩
    rw [View.set_slice_whole]
    refine Rect.mem_set_unit.mpr fun b => ?_
    by_cases hb : b = ax
    · subst hb
      rw [if_pos rfl]
      have h1 : (r.ty.shape.rowShape b).size b = 1 := if_pos rfl
      refine ⟨le_rfl, ?_⟩
      rw [h1]
      exact Nat.lt_succ_self _
    · rw [if_neg hb]
      have h1 : (r.ty.shape.rowShape ax).size b = r.ty.shape.size b := if_neg hb
      rw [h1, Nat.zero_add]
      exact ⟨Nat.zero_le _, (x b).isLt⟩

end Cert.Proof
end
-- ==== Proof.AgeLoop.lean ====
module

public import proofs.«01_k».proof.Proof.Rows

/-! The age loop: four hundred trips, each adding one to sixteen ages of the tile's block. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-- The ages `a` after `n` trips: the first `16 n` one more. -/
def agesAt (a : Vec F S6400 .f32) (n : ℕ) : Vec F S6400 .f32 := fun x =>
  if (x 0).val < 16 * n then FloatOps.addf (a x) (Scalar.ofBits .f32 0x3F800000#32) else a x

theorem put_ages (a : Vec F S6400 .f32) (t : ℕ) (hi : ∀ b, (![16 * t] : Fin 1 → ℕ) b + S16.size b ≤ S6400.size b) :
    VecWindow.put (agesAt a t) ![16 * t] S16.size (k1_pay1 (F := F) (VecWindow.window (agesAt a t) ![16 * t] S16.size hi))
      = agesAt a (t + 1) := by
  funext x
  unfold VecWindow.put
  by_cases hin : 16 * t ≤ (x 0).val ∧ (x 0).val < 16 * t + 16
  · have hL : ∀ b, (![16 * t] : Fin 1 → ℕ) b ≤ (x b).val ∧ (x b).val < (![16 * t] : Fin 1 → ℕ) b + S16.size b :=
      fun b => by fin_cases b; exact hin
    rw [dif_pos hL]
    have e0 : (Rect.unit (s := S6400) ![16 * t] S16.size hi).emb (@Rect.unitLocal S6400 ![16 * t] S16.size x hL) = x :=
      funext fun b => by
        fin_cases b
        exact Fin.ext (by show 16 * t + 1 * ((x 0).val - 16 * t) = (x 0).val; omega)
    have e2 : VecWindow.window (agesAt a t) ![16 * t] S16.size hi (@Rect.unitLocal S6400 ![16 * t] S16.size x hL) = a x := by
      show agesAt a t ((Rect.unit (s := S6400) ![16 * t] S16.size hi).emb _) = a x
      rw [e0]
      exact if_neg (by omega)
    rw [show agesAt a (t + 1) x = FloatOps.addf (a x) (Scalar.ofBits .f32 0x3F800000#32) from if_pos (by omega)]
    unfold k1_pay1
    simp only [shapeCast_self]
    exact congrArg (fun z => FloatOps.addf z (Scalar.ofBits .f32 0x3F800000#32)) e2
  · rw [dif_neg (fun h => hin (h 0))]
    unfold agesAt
    by_cases h : (x 0).val < 16 * t
    · rw [if_pos h, if_pos (by omega)]
    · rw [if_neg h, if_neg (by omega)]

section

variable (d : Dev nD) (i : grid1.Coords)
variable (arg2 : Memref sig .scVector .hbm S100000x128 .f32) (harg2 : arg2.IsWhole)
  (arg3 : Memref sig .scVector .hbm S100000x128 .f32) (harg3 : arg3.IsWhole)
  (arg4 : Memref sig .scVector .hbm S102400 .f32) (harg4 : arg4.IsWhole)
  (arg5 : Memref sig .scVector .hbm S1024 .i32) (harg5 : arg5.IsWhole)
  (arg6 : Memref sig .scVector .hbm S1024 .f32) (harg6 : arg6.IsWhole)
  (arg7 : Memref sig .scVector .hbm S1024x64 .f32) (harg7 : arg7.IsWhole)
  (arg8 : Memref sig .scVector .hbm S1024x64 .f32) (harg8 : arg8.IsWhole)
  (arg9 : Memref sig .scVector .hbm S100000x128 .f32) (harg9 : arg9.IsWhole)
  (arg10 : Memref sig .scVector .hbm S100000x128 .f32) (harg10 : arg10.IsWhole)
  (arg11 : Memref sig .scVector .hbm S102400 .f32) (harg11 : arg11.IsWhole)
  (arg12 : Memref sig .scVector .vmem S64 .i32) (harg12 : arg12.IsWhole)
  (arg13 : Memref sig .scVector .vmem S64 .f32) (harg13 : arg13.IsWhole)
  (arg14 : Memref sig .scVector .vmem S64x128 .f32) (harg14 : arg14.IsWhole)
  (arg15 : Memref sig .scVector .vmem S64x64 .f32) (harg15 : arg15.IsWhole)
  (arg16 : Memref sig .scVector .vmem S6400 .f32) (harg16 : arg16.IsWhole)
  (arg17 arg18 v22_r0 v22_r1 v22_r2 v22_r3 v20_r4 v20_r5 v14_r6 v14_r7 v39_r8 v19_r9 : DmaSems sig S_)

/-- The age loop adds one to every age of the block. -/
theorem wp_t1 (h : k1_cond1 i = 1#1) (a : Vec F S6400 .f32) :
    (ownV d (qL i) (sL i) arg16 a : sProp (𝕄 F))
      ⊢ wp frame (wpE (defs₀ (F := F)) 𝒱₀ (V d (qL i) (sL i)) none) Set.univ
          (Scf.Loop.for k1_t1_loop (k1_t1_ok i h) ⟨⟩ (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
            arg17 arg18 v22_r0 v22_r1 v22_r2 v22_r3 v20_r4 v20_r5 v14_r6 v14_r7 v39_r8 v19_r9 h))
          fun _ => ownV d (qL i) (sL i) arg16 (agesAt a 400) := by
  have h0 : agesAt a 0 = a := funext fun x => if_neg (by omega)
  iintro HX
  iapply (Scf.wp_for frame (wpE (defs₀ (F := F)) 𝒱₀ (V d (qL i) (sL i)) none) Set.univ _ _ _ (k1_t1_ok i h) () _
    (fun n _ => ownV d (qL i) (sL i) arg16 (agesAt a n)) (fun t u => by
      have hi : ∀ b, (![16 * t.val] : Fin 1 → ℕ) b + S16.size b ≤ S6400.size b := by rw [← k1_off4_eq t]; exact k1_off4_inb i t h
      unfold k1_t1_body ownV owns
      iintro ⟨%f, %hf, HX⟩
      have hv : View.readAt (Elt F) arg16.view (Rect.unit (s := S6400) (k1_off4 t) S16.size (k1_off4_inb i t h)).toLoadRect f
          = VecWindow.window (agesAt a t.val) ![16 * t.val] S16.size hi := by
        rw [View.readAt_unit arg16.view _ _ rfl (k1_off4_inb i t h), hf]
        have : ∀ (o : Fin 1 → ℕ) (ho : ∀ b, o b + S16.size b ≤ S6400.size b), o = ![16 * t.val] →
            VecWindow.window (agesAt a t.val) o S16.size ho = VecWindow.window (agesAt a t.val) ![16 * t.val] S16.size hi := by
          intro o ho e; subst e; rfl
        exact this _ _ (k1_off4_eq t)
      have key : ∀ (o : Fin 1 → ℕ) (ho : ∀ b, o b + S16.size b ≤ S6400.size b) (w : S16.Idx → Elt F .f32), o = ![16 * t.val] →
          w = k1_pay1 (F := F) (VecWindow.window (agesAt a t.val) ![16 * t.val] S16.size hi) →
          arg16.view.read (Elt F) (arg16.view.writes (Elt F) f [⟨Rect.unit (s := S6400) o S16.size ho, w⟩]) = agesAt a (t.val + 1) := by
        intro o ho w eo ew
        subst eo ew
        rw [View.read_writes_cons_put _ _ _ _ _ rfl, View.writes_nil, hf]
        exact put_ages a t.val hi
      sl_exec
      sl_step
      iexists _
      isplitr
      swap
      · iexact HX
      · ipureintro
        exact key _ _ _ (k1_off4_eq t) (by sl_unfold_words; rfl)))
  rw [h0]
  isplitl [HX]
  · iexact HX
  · iintro %_ H
    iexact H

end

end Cert.Proof
end
-- ==== Proof.Shares.lean ====
module

public import proofs.«01_k».proof.Proof.AgeLoop
public import Idealize.ShloMosaic.Lib.Transfers

/-! What each tile of the write kernel holds: the tables' places, the shares of the tables a tile reads, the rows it
writes before and after the barrier, and what a tile hands another over the barrier. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-! ### Places -/

abbrev kpLoc (d : Dev nD) : Loc nD τ sig := (SparseCore.T d).loc main_v6
abbrev vpLoc (d : Dev nD) : Loc nD τ sig := (SparseCore.T d).loc main_v7
abbrev ageLoc (d : Dev nD) : Loc nD τ sig := (SparseCore.T d).loc main_v5
abbrev idxLoc (d : Dev nD) : Loc nD τ sig := (SparseCore.T d).loc main_indices
abbrev decLoc (d : Dev nD) : Loc nD τ sig := (SparseCore.T d).loc main_v4
abbrev qnLoc (d : Dev nD) : Loc nD τ sig := (SparseCore.T d).loc main_v2_2
abbrev vtLoc (d : Dev nD) : Loc nD τ sig := (SparseCore.T d).loc main_arg1
abbrev okLoc (d : Dev nD) : Loc nD τ sig := (SparseCore.T d).loc main_v8_0
abbrev ovLoc (d : Dev nD) : Loc nD τ sig := (SparseCore.T d).loc main_v8_1
abbrev oaLoc (d : Dev nD) : Loc nD τ sig := (SparseCore.T d).loc main_v8_2

/-! ### Shares -/

/-- A core's share of a table both cores read. -/
abbrev qC (c : Fin 2) : PosShare TreeShare := Transfers.dealOf fullShare Finset.univ c
/-- A tile's share of a table its core alone reads. -/
abbrev q1 (i : Fin 16) : PosShare TreeShare := Transfers.dealOf fullShare Finset.univ i
/-- A tile's share of a table both cores read. -/
abbrev q2 (c : Fin 2) (i : Fin 16) : PosShare TreeShare := Transfers.dealOf (qC c) Finset.univ i

variable (Tb : Tab F) (d : Dev nD)

/-- Rows of the key table's copy, of the value table's, of the ages'. -/
abbrev okPts (p : ℕ → Prop) (f : S100000x128.Idx → Elt F .f32) : sProp (𝕄 F) := okLoc d ↦[rowsF S100000x128 0 p]{fullShare} f
abbrev ovPts (p : ℕ → Prop) (f : S100000x128.Idx → Elt F .f32) : sProp (𝕄 F) := ovLoc d ↦[rowsF S100000x128 0 p]{fullShare} f
abbrev oaPts (p : ℕ → Prop) (f : S102400.Idx → Elt F .f32) : sProp (𝕄 F) := oaLoc d ↦[rowsF S102400 0 p]{fullShare} f

/-- What the tiles of both cores read. -/
abbrev bothPts (q : PosShare TreeShare) : sProp (𝕄 F) := iprop((idxLoc d ↦{q} Tb.idx) ∗ (decLoc d ↦{q} Tb.dec))
/-- What the tiles of the first core read besides. -/
abbrev keyPts (q : PosShare TreeShare) : sProp (𝕄 F) := iprop((kpLoc d ↦{q} Tb.kp) ∗ (ageLoc d ↦{q} Tb.age) ∗ (qnLoc d ↦{q} Tb.qn))
/-- What the tiles of the second core read besides. -/
abbrev valPts (q : PosShare TreeShare) : sProp (𝕄 F) := iprop((vpLoc d ↦{q} Tb.vp) ∗ (vtLoc d ↦{q} Tb.vt))

/-- The key table after the write, the value table, the ages. -/
abbrev newK : S100000x128.Idx → Elt F .f32 := upd Tb.idx Tb.dec Tb.qn Tb.kp
abbrev newV : S100000x128.Idx → Elt F .f32 := upd Tb.idx Tb.dec Tb.vt Tb.vp
abbrev newA : S102400.Idx → Elt F .f32 := newAge Tb.idx Tb.age

/-- A tile of the first core at its start. -/
abbrev goK (i : Fin 16) : sProp (𝕄 F) :=
  iprop(bothPts Tb d (q2 0 i) ∗ keyPts Tb d (q1 i) ∗ okPts d (inBlock 6256 i.val) Tb.k₀ ∗ oaPts d (inBlock 6400 i.val) Tb.a₀)
/-- A tile of the second core at its start. -/
abbrev goV (i : Fin 16) : sProp (𝕄 F) :=
  iprop(bothPts Tb d (q2 1 i) ∗ valPts Tb d (q1 i) ∗ ovPts d (inBlock 6256 i.val) Tb.v₀)
/-- A tile of the first core at its end. -/
abbrev tdK (i : Fin 16) : sProp (𝕄 F) :=
  iprop(bothPts Tb d (q2 0 i) ∗ keyPts Tb d (q1 i)
    ∗ (okPts d (named Tb.idx i.val) (newK Tb) ∗ okPts d (rest Tb.idx 6256 i.val) (newK Tb))
    ∗ (oaPts d (named Tb.idx i.val) (newA Tb) ∗ oaPts d (rest Tb.idx 6400 i.val) (newA Tb)))
/-- A tile of the second core at its end. -/
abbrev tdV (i : Fin 16) : sProp (𝕄 F) :=
  iprop(bothPts Tb d (q2 1 i) ∗ valPts Tb d (q1 i)
    ∗ (ovPts d (named Tb.idx i.val) (newV Tb) ∗ ovPts d (rest Tb.idx 6256 i.val) (newV Tb)))

/-- What tile `i` hands tile `j` over the barrier: the rows of its block that `j`'s part of the list names, copied. -/
abbrev payK (i j : ℕ) : sProp (𝕄 F) :=
  iprop(okPts d (piece Tb.idx 6256 i j) Tb.kp ∗ oaPts d (piece Tb.idx 6400 i j) (older Tb.age))
abbrev payV (i j : ℕ) : sProp (𝕄 F) := ovPts d (piece Tb.idx 6256 i j) Tb.vp

/-! ### Splitting and joining rows -/

/-- Held rows of a family of exclusive predicates are the rows of each. -/
theorem pts_family {ℓ : Loc nD τ sig} {ι : Type} [Fintype ι] [DecidableEq ι] {q : PosShare TreeShare}
    (f : Buf (Elt F) ℓ) {s : Finset (Idx ℓ)} {S : ι → Finset (Idx ℓ)} (hs : s = Finset.univ.biUnion S)
    (hd : ∀ i j, i ≠ j → Disjoint (S i) (S j)) :
    (ℓ ↦[s]{q} f : sProp (𝕄 F)) = bigSep Finset.univ fun i => ℓ ↦[S i]{q} f := by
  rw [hs]
  exact pointsTo_biUnion Finset.univ S fun i _ j _ h => hd i j h

theorem ok_family {ι : Type} [Fintype ι] [DecidableEq ι] {p : ℕ → Prop} {P : ι → ℕ → Prop}
    (hp : ∀ n, n < 100000 → (p n ↔ ∃ i, P i n)) (hd : ∀ i j, i ≠ j → ∀ n, P i n → P j n → False) (f : S100000x128.Idx → Elt F .f32) :
    (okPts d p f : sProp (𝕄 F)) = bigSep Finset.univ fun i => okPts d (P i) f :=
  pts_family (ℓ := okLoc d) f (rowsF_family hp) fun i j h => rowsF_disjoint (hd i j h)

theorem ov_family {ι : Type} [Fintype ι] [DecidableEq ι] {p : ℕ → Prop} {P : ι → ℕ → Prop}
    (hp : ∀ n, n < 100000 → (p n ↔ ∃ i, P i n)) (hd : ∀ i j, i ≠ j → ∀ n, P i n → P j n → False) (f : S100000x128.Idx → Elt F .f32) :
    (ovPts d p f : sProp (𝕄 F)) = bigSep Finset.univ fun i => ovPts d (P i) f :=
  pts_family (ℓ := ovLoc d) f (rowsF_family hp) fun i j h => rowsF_disjoint (hd i j h)

theorem oa_family {ι : Type} [Fintype ι] [DecidableEq ι] {p : ℕ → Prop} {P : ι → ℕ → Prop}
    (hp : ∀ n, n < 102400 → (p n ↔ ∃ i, P i n)) (hd : ∀ i j, i ≠ j → ∀ n, P i n → P j n → False) (f : S102400.Idx → Elt F .f32) :
    (oaPts d p f : sProp (𝕄 F)) = bigSep Finset.univ fun i => oaPts d (P i) f :=
  pts_family (ℓ := oaLoc d) f (rowsF_family hp) fun i j h => rowsF_disjoint (hd i j h)

/-- A block's rows: those of each part, and the rest. -/
theorem block_iff (b i n : ℕ) (idx : Vec F S1024 .i32) :
    inBlock b i n ↔ ∃ o : Option (Fin 16), (match o with | none => rest idx b i n | some j => piece idx b i j.val n) := by
  constructor
  · intro h
    by_cases hn : ∃ j : Fin 16, named idx j.val n
    · obtain ⟨j, hj⟩ := hn
      exact ⟨some j, h, hj⟩
    · exact ⟨none, h, hn⟩
  · rintro ⟨_ | j, h⟩
    exacts [h.1, h.1]

theorem block_disjoint (b i : ℕ) {idx : Vec F S1024 .i32} (hi : Distinct idx) (o o' : Option (Fin 16)) (ho : o ≠ o') (n : ℕ)
    (h : match o with | none => rest idx b i n | some j => piece idx b i j.val n)
    (h' : match o' with | none => rest idx b i n | some j => piece idx b i j.val n) : False := by
  rcases o with _ | j <;> rcases o' with _ | j'
  · exact ho rfl
  · exact h.2 ⟨j', h'.2⟩
  · exact h'.2 ⟨j, h.2⟩
  · exact ho (congrArg some (Fin.ext (named_unique hi h.2 h'.2)))

/-- A part's rows: those of each block. -/
theorem named_iff (b : ℕ) (idx : Vec F S1024 .i32) (hb : 100000 ≤ 16 * b) (hl : Below idx) (j n : ℕ) :
    named idx j n ↔ ∃ i : Fin 16, piece idx b i.val j n := by
  constructor
  · intro h
    have hn : n < 100000 := by
      obtain ⟨s, -, hs⟩ := h
      exact hs ▸ hl s
    exact ⟨⟨n / b, Nat.div_lt_of_lt_mul (by omega)⟩, rfl, h⟩
  · rintro ⟨i, -, h⟩
    exact h

theorem piece_disjoint (b : ℕ) {idx : Vec F S1024 .i32} (j : ℕ) (i i' : Fin 16) (h : i ≠ i') (n : ℕ)
    (h1 : piece idx b i.val j n) (h2 : piece idx b i'.val j n) : False :=
  h (Fin.ext (h1.1.symm.trans h2.1))

end Cert.Proof
end
-- ==== Proof.TopKFacts.lean ====
module

public import proofs.«01_k».proof.Proof.Rows
public import Idealize.ShloMosaic.Lib.SortFacts

/-! The positions a selection of the greatest names are distinct and within the operand. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-- A rank-one index moved along its only axis is the index of the new position. -/
theorem along_one {n : ℕ} (j : (⟨1, ![n]⟩ : Shape).Idx) (k : Fin n) :
    Shape.Idx.along j (⟨0, Nat.one_pos⟩ : Fin 1) k = ix1 k := by
  funext a
  match a with
  | 0 => exact Function.update_self ..

/-- Where a selection's place comes from. -/
theorem topK_at {α : Type} {n m : ℕ} (gt : α → α → BitVec 1) (x : (⟨1, ![n]⟩ : Shape).Idx → α)
    (h : (⟨1, ![n]⟩ : Shape).Slices (fun _ => 0) (⟨1, ![m]⟩ : Shape)) (s : Fin m) (hm : m ≤ n) :
    (Host.topK (⟨1, ![m]⟩ : Shape) 0 gt x h).2 (ix1 s)
      = BitVec.ofNat 32 (sortedFrom (fun k k' : Fin n => gt (x (ix1 k)) (x (ix1 k')) == 1#1) (s.castLE hm)).val := by
  unfold Host.topK Host.sort2
  dsimp only
  rw [dif_pos (show (0 : ℕ) < (⟨1, ![n]⟩ : Shape).rank from Nat.one_pos)]
  unfold extractStridedSlice
  dsimp only
  rw [dif_pos (show (0 : ℕ) < (⟨1, ![n]⟩ : Shape).rank from Nat.one_pos)]
  unfold iotaInDim
  refine congrArg (fun k : Fin n => BitVec.ofNat 32 k.val) ?_
  refine (congrFun (along_one _ _) _).trans ?_
  have e : ∀ (i : (⟨1, ![n]⟩ : Shape).Idx) (k : Fin n), Shape.Idx.along i (⟨0, Nat.one_pos⟩ : Fin 1) k = ix1 k := along_one
  refine congr (congrArg sortedFrom (funext fun k => funext fun k' => ?_)) (Fin.ext (Nat.zero_add _))
  rw [show ∀ i : (⟨1, ![n]⟩ : Shape).Idx, Shape.Idx.along i (⟨0, Nat.one_pos⟩ : Fin 1) k = ix1 k from fun i => e i k,
    show ∀ i : (⟨1, ![n]⟩ : Shape).Idx, Shape.Idx.along i (⟨0, Nat.one_pos⟩ : Fin 1) k' = ix1 k' from fun i => e i k']
  rfl

/-- The positions of the 1024 greatest of the 100000 ages come off one injective map of positions. -/
theorem topK_position (gt : Elt F .f32 → Elt F .f32 → BitVec 1) (x : S100000.Idx → Elt F .f32) (h : S100000.Slices (fun _ => 0) S1024) :
    ∃ σ : Fin 100000 → Fin 100000, Function.Injective σ ∧
      ∀ s : Fin 1024, (Host.topK S1024 0 gt x h).2 (ix1 s) = BitVec.ofNat 32 (σ (s.castLE (by decide))).val := by
  refine ⟨sortedFrom (fun k k' => gt (x (ix1 k)) (x (ix1 k')) == 1#1), sortedFrom_injective _, fun s => ?_⟩
  exact topK_at gt x h s (by decide)

theorem topK_distinct (gt : Elt F .f32 → Elt F .f32 → BitVec 1) (x : S100000.Idx → Elt F .f32) (h : S100000.Slices (fun _ => 0) S1024) :
    Distinct (F := F) (Host.topK S1024 0 gt x h).2 := by
  obtain ⟨σ, hσ, e⟩ := topK_position gt x h
  intro s s' hs
  simp only [e, BitVec.toNat_ofNat] at hs
  rw [Nat.mod_eq_of_lt (lt_trans (σ _).isLt (by decide)), Nat.mod_eq_of_lt (lt_trans (σ _).isLt (by decide))] at hs
  have := hσ (Fin.ext hs)
  exact Fin.ext (show s.val = s'.val from congrArg (fun z : Fin 100000 => z.val) this)

theorem topK_below (gt : Elt F .f32 → Elt F .f32 → BitVec 1) (x : S100000.Idx → Elt F .f32) (h : S100000.Slices (fun _ => 0) S1024) :
    Below (F := F) (Host.topK S1024 0 gt x h).2 := by
  obtain ⟨σ, -, e⟩ := topK_position gt x h
  intro s
  rw [e, BitVec.toNat_ofNat, Nat.mod_eq_of_lt (lt_trans (σ _).isLt (by decide))]
  exact (σ _).isLt

end Cert.Proof
end
-- ==== Proof.Host.lean ====
module

public import proofs.«01_k».proof.Proof.Region
public import proofs.«01_k».proof.Proof.Shares
public import proofs.«01_k».proof.Proof.TopKFacts
public import Idealize.ShloMosaic.Lib.StableHlo.RunRead
public import proofs.«01_k».proof.Proof.Gen.KernelIdeal

/-! The host program around the two kernels: what its operations are, what the buffers hold between them, and that the list of
rows the write kernel is handed names distinct rows. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-- Before the attention kernel. -/
def ops0 : List (HloOp τ sig (Elt F)) :=
  [StableHlo.reshape main_arg5 main_v0 (rfl : (.f32 : EltTy) = .f32) shapeCasts_S64_S1x64,
    StableHlo.reshape main_arg6 main_v1 (rfl : (.f32 : EltTy) = .f32) shapeCasts_S64_S1x64]

/-- Between the two kernels. -/
def ops1 : List (HloOp τ sig (Elt F)) :=
  [StableHlo.reshape main_v2_1 main_v3 (rfl : (.f32 : EltTy) = .f32) shapeCasts_S1024x1_S1024,
    StableHlo.reshape main_v2_3 main_v4 (rfl : (.f32 : EltTy) = .f32) shapeCasts_S1024x1_S1024,
    StableHlo.unary main_arg4 main_values ((fun x => (Host.topK S1024 0 (FloatOps.cmpfTotal .gt) x sliceFits_S100000_S1024).1) : (⟨S100000, .f32⟩ : BufTy).Contents (Elt F) → (⟨S1024, .f32⟩ : BufTy).Contents (Elt F)),
    StableHlo.unary main_arg4 main_indices ((fun x => (Host.topK S1024 0 (FloatOps.cmpfTotal .gt) x sliceFits_S100000_S1024).2) : (⟨S100000, .f32⟩ : BufTy).Contents (Elt F) → (⟨S1024, .i32⟩ : BufTy).Contents (Elt F)),
    StableHlo.nullary main_c (constantI S_ 32 0#32),
    StableHlo.TRef.unary (.of main_c : StableHlo.TRef sig ⟨S_, .i32⟩) main_call0.v0 (sitofp .f32),
    StableHlo.TRef.binary (.of main_arg4 : StableHlo.TRef sig ⟨S100000, .f32⟩) main_call0.v0 main_call0.v1 (fun x v => pad S102400 ![0] ![2400] ![0] x v pads_S100000_S102400_024000 h_S_),
    StableHlo.nullary main_c_0 (constantI S_ 32 0#32),
    StableHlo.TRef.unary (.of main_c_0 : StableHlo.TRef sig ⟨S_, .i32⟩) main_call1.v0 (sitofp .f32),
    StableHlo.TRef.binary (.of main_arg2 : StableHlo.TRef sig ⟨S100000x64, .f32⟩) main_call1.v0 main_call1.v1 (fun x v => pad S100000x128 ![0, 0] ![0, 64] ![0, 0] x v pads_S100000x64_S100000x128_000_0640 h_S_),
    StableHlo.nullary main_c_1 (constantI S_ 32 0#32),
    StableHlo.TRef.unary (.of main_c_1 : StableHlo.TRef sig ⟨S_, .i32⟩) main_call2.v0 (sitofp .f32),
    StableHlo.TRef.binary (.of main_arg3 : StableHlo.TRef sig ⟨S100000x64, .f32⟩) main_call2.v0 main_call2.v1 (fun x v => pad S100000x128 ![0, 0] ![0, 64] ![0, 0] x v pads_S100000x64_S100000x128_000_0640 h_S_)]

/-- After the write kernel. -/
def ops2 : List (HloOp τ sig (Elt F)) :=
  [StableHlo.unary main_v8_0 main_v9 ((extractStridedSlice S100000x64 ![0, 0] · slices_S100000x128_S100000x64_0_0) : (⟨S100000x128, .f32⟩ : BufTy).Contents (Elt F) → (⟨S100000x64, .f32⟩ : BufTy).Contents (Elt F)),
    StableHlo.unary main_v8_1 main_v10 ((extractStridedSlice S100000x64 ![0, 0] · slices_S100000x128_S100000x64_0_0) : (⟨S100000x128, .f32⟩ : BufTy).Contents (Elt F) → (⟨S100000x64, .f32⟩ : BufTy).Contents (Elt F)),
    StableHlo.unary main_v8_2 main_v11 ((extractStridedSlice S100000 ![0] · slices_S102400_S100000_0) : (⟨S102400, .f32⟩ : BufTy).Contents (Elt F) → (⟨S100000, .f32⟩ : BufTy).Contents (Elt F))]

theorem main_eq (d : Dev nD) : (main (F := F) d)
    = (StableHlo.seq ops0 >>= fun _ => (Prog.lift (.customCall (SparseCore.inner (Pipeline.entry 0)) ()) >>= fun _ =>
        (StableHlo.seq ops1 >>= fun _ => (sc.run d 0 >>= fun _ => (StableHlo.seq ops2 >>= fun _ => pure ⟨⟩))))) := by
  simp only [main, fn_pad.body, fn_pad_0.body, StableHlo.seq, ops0, ops1, ops2, bind_assoc, pure_bind]

theorem ops0_sub : ∀ op ∈ (ops0 : List (HloOp τ sig (Elt F))), op.bufs ⊆ uc := by
  intro op h
  simp only [ops0, List.mem_cons, List.not_mem_nil, or_false] at h
  rcases h with rfl | rfl
  · exact Pipeline.sub_ucRefs _ (StableHlo.reshape_bufs_sub ..)
  · exact Pipeline.sub_ucRefs _ (StableHlo.reshape_bufs_sub ..)
theorem ops0_fresh : ∀ op ∈ (ops0 : List (HloOp τ sig (Elt F))), op.fresh = ∅ := by
  intro op h
  simp only [ops0, List.mem_cons, List.not_mem_nil, or_false] at h
  rcases h with rfl | rfl <;> rfl

theorem ops1_sub : ∀ op ∈ (ops1 : List (HloOp τ sig (Elt F))), op.bufs ⊆ uc := by
  intro op h
  simp only [ops1, List.mem_cons, List.not_mem_nil, or_false] at h
  rcases h with rfl | rfl | rfl | rfl | rfl | rfl | rfl | rfl | rfl | rfl | rfl | rfl | rfl
  · exact Pipeline.sub_ucRefs _ (StableHlo.reshape_bufs_sub ..)
  · exact Pipeline.sub_ucRefs _ (StableHlo.reshape_bufs_sub ..)
  · exact Pipeline.sub_ucRefs _ (StableHlo.unary_bufs_sub ..)
  · exact Pipeline.sub_ucRefs _ (StableHlo.unary_bufs_sub ..)
  · exact Pipeline.sub_ucRefs _ (StableHlo.nullary_bufs_sub ..)
  · exact Pipeline.sub_ucRefs _ (StableHlo.unary_bufs_sub ..)
  · exact Pipeline.sub_ucRefs _ (StableHlo.binary_bufs_sub ..)
  · exact Pipeline.sub_ucRefs _ (StableHlo.nullary_bufs_sub ..)
  · exact Pipeline.sub_ucRefs _ (StableHlo.unary_bufs_sub ..)
  · exact Pipeline.sub_ucRefs _ (StableHlo.binary_bufs_sub ..)
  · exact Pipeline.sub_ucRefs _ (StableHlo.nullary_bufs_sub ..)
  · exact Pipeline.sub_ucRefs _ (StableHlo.unary_bufs_sub ..)
  · exact Pipeline.sub_ucRefs _ (StableHlo.binary_bufs_sub ..)
theorem ops1_fresh : ∀ op ∈ (ops1 : List (HloOp τ sig (Elt F))), op.fresh = ∅ := by
  intro op h
  simp only [ops1, List.mem_cons, List.not_mem_nil, or_false] at h
  rcases h with rfl | rfl | rfl | rfl | rfl | rfl | rfl | rfl | rfl | rfl | rfl | rfl | rfl <;> rfl

theorem ops2_sub : ∀ op ∈ (ops2 : List (HloOp τ sig (Elt F))), op.bufs ⊆ uc := by
  intro op h
  simp only [ops2, List.mem_cons, List.not_mem_nil, or_false] at h
  rcases h with rfl | rfl | rfl
  · exact Pipeline.sub_ucRefs _ (StableHlo.unary_bufs_sub ..)
  · exact Pipeline.sub_ucRefs _ (StableHlo.unary_bufs_sub ..)
  · exact Pipeline.sub_ucRefs _ (StableHlo.unary_bufs_sub ..)
theorem ops2_fresh : ∀ op ∈ (ops2 : List (HloOp τ sig (Elt F))), op.fresh = ∅ := by
  intro op h
  simp only [ops2, List.mem_cons, List.not_mem_nil, or_false] at h
  rcases h with rfl | rfl | rfl <;> rfl

/-! ### What the buffers hold -/

variable (m : (ℓ : Loc nD τ sig) → Buf (Elt F) ℓ)

/-- At the start. -/
def W0 (d : Dev nD) : Valuation τ sig (Elt F) := fun b => m (d, b)
/-- Before the attention kernel. -/
def V1 (d : Dev nD) : Valuation τ sig (Elt F) := StableHlo.after ops0 (W0 m d)
/-- After it. -/
def V2 (d : Dev nD) : Valuation τ sig (Elt F) := Pipeline.afterRegion (dat (V1 m) d) (V1 m d)
/-- Before the write kernel. -/
def V3 (d : Dev nD) : Valuation τ sig (Elt F) := StableHlo.after ops1 (V2 m d)

/-- What the write kernel is handed. -/
def Tb (d : Dev nD) : Tab F where
  kp := V3 m d (Proc.devRef .tc main_v6)
  vp := V3 m d (Proc.devRef .tc main_v7)
  age := V3 m d (Proc.devRef .tc main_v5)
  idx := V3 m d (Proc.devRef .tc main_indices)
  dec := V3 m d (Proc.devRef .tc main_v4)
  qn := V3 m d (Proc.devRef .tc main_v2_2)
  vt := V3 m d (Proc.devRef .tc main_arg1)
  k₀ := V3 m d (Proc.devRef .tc main_v8_0)
  v₀ := V3 m d (Proc.devRef .tc main_v8_1)
  a₀ := V3 m d (Proc.devRef .tc main_v8_2)

/-- After the write kernel. -/
def V4 (d : Dev nD) : Valuation τ sig (Elt F) :=
  Function.update (Function.update (Function.update (V3 m d) (Proc.devRef .tc main_v8_0) (newK (Tb m d)))
    (Proc.devRef .tc main_v8_1) (newV (Tb m d))) (Proc.devRef .tc main_v8_2) (newA (Tb m d))
/-- At the end. -/
def V5 (d : Dev nD) : Valuation τ sig (Elt F) := StableHlo.after ops2 (V4 m d)

/-- The attention kernel leaves every buffer but its results. -/
theorem V2_keeps (d : Dev nD) (r : Ref sig .tc) (h : ∀ w : Fin 10, Pipeline.arrRef spec0 w = r → (cfg0.win w).isOut = false) :
    V2 m d (Proc.devRef .tc r) = V1 m d (Proc.devRef .tc r) :=
  Pipeline.afterRegion_keeps (dat (V1 m) d) (V1 m d) launch0.win.arr_inj (fun _ => rfl) r h

theorem V3_idx (d : Dev nD) : V3 m d (Proc.devRef .tc main_indices)
    = (Host.topK S1024 0 (FloatOps.cmpfTotal .gt) (V2 m d (Proc.devRef .tc main_arg4)) sliceFits_S100000_S1024).2 := by
  unfold V3 ops1
  after_reads_simp

theorem Tb_distinct (d : Dev nD) : Distinct (Tb m d).idx := by
  show Distinct (V3 m d (Proc.devRef .tc main_indices))
  rw [V3_idx]
  exact topK_distinct _ _ _
theorem Tb_below (d : Dev nD) : Below (Tb m d).idx := by
  show Below (V3 m d (Proc.devRef .tc main_indices))
  rw [V3_idx]
  exact topK_below _ _ _

theorem V3_arg0 (d : Dev nD) : V3 m d (Proc.devRef .tc main_arg0) = m ((SparseCore.T d).loc main_arg0) := by
  unfold V3 ops1
  after_reads_simp
  refine (V2_keeps m d main_arg0 (by decide)).trans ?_
  unfold V1 ops0
  after_reads_simp
  rfl
theorem V3_arg1 (d : Dev nD) : V3 m d (Proc.devRef .tc main_arg1) = m ((SparseCore.T d).loc main_arg1) := by
  unfold V3 ops1
  after_reads_simp
  refine (V2_keeps m d main_arg1 (by decide)).trans ?_
  unfold V1 ops0
  after_reads_simp
  rfl
theorem V3_arg2 (d : Dev nD) : V3 m d (Proc.devRef .tc main_arg2) = m ((SparseCore.T d).loc main_arg2) := by
  unfold V3 ops1
  after_reads_simp
  refine (V2_keeps m d main_arg2 (by decide)).trans ?_
  unfold V1 ops0
  after_reads_simp
  rfl
theorem V3_arg3 (d : Dev nD) : V3 m d (Proc.devRef .tc main_arg3) = m ((SparseCore.T d).loc main_arg3) := by
  unfold V3 ops1
  after_reads_simp
  refine (V2_keeps m d main_arg3 (by decide)).trans ?_
  unfold V1 ops0
  after_reads_simp
  rfl
theorem V3_arg4 (d : Dev nD) : V3 m d (Proc.devRef .tc main_arg4) = m ((SparseCore.T d).loc main_arg4) := by
  unfold V3 ops1
  after_reads_simp
  refine (V2_keeps m d main_arg4 (by decide)).trans ?_
  unfold V1 ops0
  after_reads_simp
  rfl
theorem V3_arg5 (d : Dev nD) : V3 m d (Proc.devRef .tc main_arg5) = m ((SparseCore.T d).loc main_arg5) := by
  unfold V3 ops1
  after_reads_simp
  refine (V2_keeps m d main_arg5 (by decide)).trans ?_
  unfold V1 ops0
  after_reads_simp
  rfl
theorem V3_arg6 (d : Dev nD) : V3 m d (Proc.devRef .tc main_arg6) = m ((SparseCore.T d).loc main_arg6) := by
  unfold V3 ops1
  after_reads_simp
  refine (V2_keeps m d main_arg6 (by decide)).trans ?_
  unfold V1 ops0
  after_reads_simp
  rfl

end Cert.Proof
end
-- ==== Proof.Bar.lean ====
module

public import proofs.«01_k».proof.Proof.Shares

/-! The barrier of the write kernel: its cells' schedule, which hands the copied rows of every block to the tiles that
overwrite them, and the run of the barrier on one tile. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

theorem sep_shuffle (A B C : sProp (𝕄 F)) : iprop((A ∗ B) ∗ C) = iprop(A ∗ C ∗ B) := by
  have h1 : iprop((A ∗ B) ∗ C) ⊢ iprop(A ∗ C ∗ B) := by
    iintro ⟨⟨HA, HB⟩, HC⟩
    isplitl [HA]; · iexact HA
    isplitl [HC]; · iexact HC
    iexact HB
  have h2 : iprop(A ∗ C ∗ B) ⊢ iprop((A ∗ B) ∗ C) := by
    iintro ⟨HA, HC, HB⟩
    isplitr [HC]; swap; · iexact HC
    isplitl [HA]; · iexact HA
    iexact HB
  exact BI.equiv_iff.mp ⟨h1, h2⟩

variable (Tb : Dev nD → Tab F)

/-- Tile `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- What tile `i` of core `c` hands tile `j` of it. -/
def pay (d : Dev nD) (c : Fin τ.nSC) (j : Fin τ.nSub) (i : ℕ) : sProp (𝕄 F) :=
  if c.val = 0 then payK (Tb d) d i j.val else payV (Tb d) d i j.val

instance pay_storable (d : Dev nD) (c : Fin τ.nSC) (j : Fin τ.nSub) (i : ℕ) : BI.Storable (upEmb : UEmb _ (𝕄 F)) (pay Tb d c j i) := by
  unfold pay
  split <;> infer_instance

/-- What a cell's duty hands over. -/
def cellPay (g : GSem nD τ sig) (n : ℕ) : sProp (𝕄 F) :=
  match g with
  | ((d, .scVector c j), _) => pay Tb d c j n
  | _ => iprop(emp)

instance cellPay_storable (g : GSem nD τ sig) (n : ℕ) : BI.Storable (upEmb : UEmb _ (𝕄 F)) (cellPay Tb g n) := by
  unfold cellPay
  split <;> infer_instance

/-- The barrier cells' schedule: one round on each, of one unit duty per tile of the core. -/
def bRd : Rounds.Schedule (GSem nD τ sig) ℕ (𝕄 F) where
  duties g r := if isBar g ∧ r = 0 then (Finset.univ : Finset (Fin τ.nSub)).image Fin.val else ∅
  amount _ _ _ := 1
  payload g _ n := cellPay Tb g n
  amount_pos _ _ _ _ := Nat.one_pos

instance bRd_payload_storable (g : GSem nD τ sig) (r n : ℕ) : BI.Storable (upEmb : UEmb _ (𝕄 F)) ((bRd Tb).payload g r n) :=
  cellPay_storable Tb g n

theorem bRd_duties₀ (d : Dev nD) (c : Fin τ.nSC) (j : Fin τ.nSub) :
    (bRd Tb).duties (bcell d c j) 0 = (Finset.univ : Finset (Fin τ.nSub)).image Fin.val := by
  simp [bRd, isBar]
theorem bRd_duties_succ (g : GSem nD τ sig) (r : ℕ) (hr : 1 ≤ r) : (bRd Tb).duties g r = ∅ :=
  if_neg fun h => absurd h.2 (Nat.ne_of_gt hr)
theorem bRd_mem₀ (d : Dev nD) (c : Fin τ.nSC) (j i : Fin τ.nSub) : i.val ∈ (bRd Tb).duties (bcell d c j) 0 := by
  rw [bRd_duties₀]; exact Finset.mem_image_of_mem _ (Finset.mem_univ i)
theorem bRd_expect (d : Dev nD) (c : Fin τ.nSC) (j : Fin τ.nSub) : 0 + grid1.bound 1 = (bRd Tb).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of core `c` owe for the barrier: a unit on every tile's cell of its core. -/
def oxV (d : Dev nD) (c : Fin τ.nSC) : CellTallies nD τ sig (HIx 1) :=
  ∑ j : Fin (grid1.bound 1), tallyAt (bcell d c (j.castLE hsub1)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) :
    ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: the invariants of every cell of its core, its duty tokens there and that each has reached
round 0, its own position at the origin of round 0, and the credit for the units of its own round. -/
def bkit (d : Dev nD) (c : Fin τ.nSC) (i : Fin τ.nSub) : sProp (𝕄 F) :=
  iprop((∃ κ : GSem nD τ sig → ℕ, bigSep Finset.univ fun j : Fin (grid1.bound 1) =>
      cellInv EB (bRd Tb) (κ (bcell d c (j.castLE hsub1))) (bcell d c (j.castLE hsub1)))
    ∗ (bigSep Finset.univ fun j : Fin (grid1.bound 1) => iprop(dutyTok EB (bcell d c (j.castLE hsub1)) 0 i.val
        ∗ reached EB (bcell d c (j.castLE hsub1)) 0))
    ∗ atPos EB (bcell d c i) 0 ∅ 0
    ∗ cred (tallyAt (bcell d c i) (some 0) (grid1.bound 1)))

/-- The barrier on tile `i`: it hands every tile of its core what it owes it and receives what every tile owes it; its
barrier semaphore is closed at zero. -/
theorem wp_bar (d : Dev nD) (i : grid1.Coords) (O : CellTallies nD τ sig (HIx 1)) (W : Waits sig (HIx 1))
    (hOlev : ∀ g ι, 0 < O g ι → 8 * (0 : Fin 1).val + 6 ≤ (K (F := F)).lev g ι) (Φ : PUnit → sProp (𝕄 F)) :
    iprop(levAts (K (F := F)).L (K (F := F)).lev ∗ bkit Tb d (qL i) (sL i)
        ∗ (bigSep Finset.univ fun j : Fin 16 => pay Tb d (qL i) j (i 1).val)
        ∗ owes (V d (qL i) (sL i)) (O + oxV d (qL i)) W
        ∗ ((owes (V d (qL i) (sL i)) O (insert (.reg sc_bar0, some 0) W) ∗ semVal (bcell d (qL i) (sL i)) 0
            ∗ bigSep Finset.univ fun j : Fin 16 => pay Tb d (qL i) (sL i) j.val) -∗ Φ ⟨⟩))
      ⊢ wp frame (wpE (defs₀ (F := F)) 𝒱₀ (V d (qL i) (sL i)) none) Set.univ
          (SparseCore.subcoreBarrier sc_bar0 (grid1.bound 1) hsub1) Φ := by
  unfold bkit
  iintro ⟨#Hlv, ⟨⟨%κ, #Hinv⟩, Htoks, Hat, Hcred⟩, Hpay, HO, HΦ⟩
  ihave Htp := (Entails.of_eq (show iprop((bigSep Finset.univ fun j : Fin (grid1.bound 1) => iprop(dutyTok EB (bcell d (qL i) (j.castLE hsub1)) 0 (sL i).val
        ∗ reached EB (bcell d (qL i) (j.castLE hsub1)) 0))
      ∗ (bigSep Finset.univ fun j : Fin (grid1.bound 1) => pay Tb d (qL i) (j.castLE hsub1) (i 1).val))
      = (bigSep Finset.univ fun j : Fin (grid1.bound 1) => iprop(dutyTok EB (bcell d (qL i) (j.castLE hsub1)) 0 (sL i).val
        ∗ (bRd Tb).payload (bcell d (qL i) (j.castLE hsub1)) 0 (sL i).val ∗ reached EB (bcell d (qL i) (j.castLE hsub1)) 0)) from by
    rw [← bigSep_sep']
    refine bigSep_congr fun j _ => ?_
    exact sep_shuffle _ _ _)) $$ [Htoks Hpay]
  · isplitl [Htoks]
    · iexact Htoks
    · iexact Hpay
  iapply (SparseCore.wp_subcoreBarrier 𝒱₀ none EB (bRd Tb) d (sc := qL i) (i := sL i) sc_bar0 (grid1.bound 1) hsub1 (i 1) rfl κ (fun _ => 0) (sL i).val
      (fun j => bRd_mem₀ Tb d _ _ _) (fun _ => rfl) (bRd_expect Tb d _ _) (some 0) O _) $$ [HO Htp Hcred Hat]
  · isplitr; · iexact Hinv
    isplitl [HO]; · iexact HO
    isplitl [Htp]; · iexact Htp
    isplitl [Hcred]; · iexact Hcred
    isplitl [Hat]; · iexact Hat
    iapply ((K (F := F)).mayOwe_of_bound (thr := V d (qL i) (sL i)) 3 (fun p hp => by
        rw [Finset.mem_singleton] at hp; subst hp
        show (K (F := F)).lev (bcell d (qL i) (sL i)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd Tb) (g := bcell d (qL i) (sL i)) (Set.mem_univ (κ _)) (fun h => h) (bRd_duties_succ Tb _)) $$ [Hat] with Hbar
  · isplitr
    · iapply (SparseCore.ent (bigSep_elim (Φ := fun j : Fin (grid1.bound 1) =>
        (cellInv EB (bRd Tb) (κ (bcell d (qL i) (j.castLE hsub1))) (bcell d (qL i) (j.castLE hsub1)) : sProp (𝕄 F))) (Finset.mem_univ (i 1)))); iexact Hinv
    · iexact Hat
  sl_step
  iapply HΦ
  isplitl [HO]; · iexact HO
  isplitl [Hbar]; · iexact Hbar
  ihave Hgot' := (Entails.of_eq (show (bigSep ((bRd Tb).duties (bcell d (qL i) (sL i)) 0 \ ∅) fun m => (bRd Tb).payload (bcell d (qL i) (sL i)) 0 m)
      = bigSep Finset.univ fun j : Fin 16 => pay Tb d (qL i) (sL i) j.val from by
    rw [bRd_duties₀, Finset.sdiff_empty, SparseCore.bigSep_image_of_injOn (fun a _ b _ h => Fin.val_injective h)]; rfl)) $$ Hgot
  iexact Hgot'

end Cert.Proof
end
-- ==== Proof.Pieces.lean ====
module

public import proofs.«01_k».proof.Proof.Bar
public import Idealize.ShloMosaic.Lib.SparseCore.Stream

/-! What the tile's transfers leave, in terms of the tables: copied blocks, fetched parts of the lists, gathered rows,
scattered rows; and how a block's rows go out over the barrier and come back. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

theorem wp_then (d : Dev nD) (c : Fin τ.nSC) (j : Fin τ.nSub) {β : Type} (m : Prog (TpuEff nD τ sig (Elt F) Λ₀ (.scVector c j)) PUnit)
    (k : PUnit → Prog (TpuEff nD τ sig (Elt F) Λ₀ (.scVector c j)) β) (Φ : β → sProp (𝕄 F)) (P Q : sProp (𝕄 F))
    (h : P ⊢ wp frame (wpE (defs₀ (F := F)) 𝒱₀ (V d c j) none) Set.univ m fun _ => Q) :
    iprop(P ∗ (Q -∗ wp frame (wpE (defs₀ (F := F)) 𝒱₀ (V d c j) none) Set.univ (k ⟨⟩) Φ))
      ⊢ wp frame (wpE (defs₀ (F := F)) 𝒱₀ (V d c j) none) Set.univ (m >>= k) Φ := by
  rw [wp_bind]
  iintro ⟨HP, Hk⟩
  iapply (wp_wand_r (Fr := frame) (wpE := wpE (defs₀ (F := F)) 𝒱₀ (V d c j) none))
  isplitl [HP]
  · iapply h
    iexact HP
  · iintro %_ HQ
    iapply Hk
    iexact HQ

/-- A whole buffer owned at contents `X` is its place holding `X`. -/
theorem ownV_whole (d : Dev nD) (c : Fin τ.nSC) (j : Fin τ.nSub) (r : Ref sig .scVector) (X : r.ty.shape.Idx → Elt F r.ty.elt) :
    (ownV d c j (Memref.whole r) X : sProp (𝕄 F)) = ((Memref.whole r).view.loc (V d c j) ↦{fullShare} X) := by
  have hs : (Memref.whole r).view.set = Finset.univ := View.set_whole r
  have h1 : (ownV d c j (Memref.whole r) X : sProp (𝕄 F)) ⊢ ((Memref.whole r).view.loc (V d c j) ↦{fullShare} X) := by
    unfold ownV owns
    rw [hs]
    iintro ⟨%f, %hf, H⟩
    obtain rfl : f = X := hf
    iexact H
  have h2 : ((Memref.whole r).view.loc (V d c j) ↦{fullShare} X : sProp (𝕄 F)) ⊢ ownV d c j (Memref.whole r) X := by
    unfold ownV owns
    rw [hs]
    iintro H
    iexists X
    isplitr
    · ipureintro; rfl
    · iexact H
  exact BI.equiv_iff.mp ⟨h1, h2⟩

/-! ### Blocks -/

theorem mem_unit2 {o0 o1 n0 n1 : ℕ} {hb} {x : S100000x128.Idx} (h1 : o1 = 0) (hn : n1 = 128) :
    x ∈ (Rect.unit (s := S100000x128) ![o0, o1] ![n0, n1] hb).set ↔ o0 ≤ (x 0).val ∧ (x 0).val < o0 + n0 := by
  subst h1 hn
  rw [Rect.mem_set_unit]
  constructor
  · intro h; exact h 0
  · intro h
    exact Fin.forall_fin_two.mpr ⟨h, Nat.zero_le _, by have : (x 1).val < 128 := (x 1).isLt; show (x 1).val < 0 + 128; omega⟩

theorem mem_unit1 {o0 n0 : ℕ} {hb} {x : S102400.Idx} :
    x ∈ (Rect.unit (s := S102400) ![o0] ![n0] hb).set ↔ o0 ≤ (x 0).val ∧ (x 0).val < o0 + n0 := by
  rw [Rect.mem_set_unit]
  constructor
  · intro h; exact h 0
  · intro h b; fin_cases b; exact h

/-- The block of a tile but the last. -/
theorem set_blk {o : Fin 2 → ℕ} (j : ℕ) (ho : o = ![6256 * j, 0]) (hb) :
    (Rect.unit (s := S100000x128) o S6256x128.size hb).set = rowsF S100000x128 0 (inBlock 6256 j) := by
  subst ho
  ext x
  rw [mem_rowsF]
  refine (mem_unit2 (n0 := 6256) (n1 := 128) rfl rfl).trans ?_
  unfold inBlock
  constructor <;> intro h <;> omega

/-- The block of the last tile. -/
theorem set_last {o : Fin 2 → ℕ} (j : ℕ) (hj : j = 15) (ho : o = ![6256 * j, 0]) (hb) :
    (Rect.unit (s := S100000x128) o S6160x128.size hb).set = rowsF S100000x128 0 (inBlock 6256 j) := by
  subst ho hj
  ext x
  rw [mem_rowsF]
  refine (mem_unit2 (n0 := 6160) (n1 := 128) rfl rfl).trans ?_
  unfold inBlock
  have : (x 0).val < 100000 := (x 0).isLt
  constructor <;> intro h <;> omega

/-- A block of the ages. -/
theorem set_age {o : Fin 1 → ℕ} (j : ℕ) (ho : o = ![6400 * j]) (hb) :
    (Rect.unit (s := S102400) o S6400.size hb).set = rowsF S102400 0 (inBlock 6400 j) := by
  subst ho
  ext x
  rw [mem_rowsF]
  refine (mem_unit1 (n0 := 6400)).trans ?_
  unfold inBlock
  constructor <;> intro h <;> omega

section

variable (d : Dev nD) (c : Fin τ.nSC) (j : Fin τ.nSub)

/-- What a write through a rectangle of a whole buffer leaves on it. -/
theorem written (r : Ref sig .scVector) (R : Rect r.ty.shape) (f : r.ty.Contents (Elt F)) (w : R.shape.Idx → Elt F r.ty.elt) (y : R.shape.Idx) :
    ((View.whole r).slice R).writes (Elt F) f [⟨Rect.whole R.shape, w⟩] (R.emb y) = w y := by
  have h := View.read_writes_cons_emb (v := (View.whole r).slice R) (f := f) (Rect.whole R.shape) w [] y
  have hy : (Rect.whole R.shape).emb y = y := by
    funext a
    refine Fin.ext ?_
    show 0 + 1 * (y a).val = (y a).val
    omega
  rw [hy] at h
  exact h

/-- A rectangle's elements are its image. -/
theorem emb_of_mem {s : Shape} {R : Rect s} {x : s.Idx} (hx : x ∈ R.set) : ∃ y, R.emb y = x := by
  rw [← Rect.map_emb_univ] at hx
  obtain ⟨y, -, h⟩ := Finset.mem_map.mp hx
  exact ⟨y, h⟩

/-- A rectangle of the key table's copy, after the copy of it, holds the key table there. -/
theorem ok_copied {p : ℕ → Prop} (R : Rect S100000x128) (hR : ∀ a, R.stride a = 1) (hS : R.set = rowsF S100000x128 0 p)
    (f g : S100000x128.Idx → Elt F .f32) (w : R.shape.Idx → Elt F .f32) (hw : w = fun y => g (R.emb y)) :
    (((Memref.whole main_v8_0_scv).slice R hR).view.loc (V d c j) ↦[((Memref.whole main_v8_0_scv).slice R hR).view.set]{fullShare}
        ((Memref.whole main_v8_0_scv).slice R hR).view.writes (Elt F) f [⟨Rect.whole R.shape, w⟩] : sProp (𝕄 F)) = okPts d p g := by
  have hs : ((Memref.whole main_v8_0_scv).slice R hR).view.set = rowsF S100000x128 0 p := (View.set_slice_whole main_v8_0_scv R).trans hS
  rw [hs]
  refine pointsTo_congr (ℓ := okLoc d) fun x hx => ?_
  obtain ⟨y, rfl⟩ := emb_of_mem (hS ▸ hx)
  refine (written main_v8_0_scv R f w y).trans ?_
  rw [hw]

theorem ok_start {p : ℕ → Prop} (R : Rect S100000x128) (hR : ∀ a, R.stride a = 1) (hS : R.set = rowsF S100000x128 0 p)
    (f : S100000x128.Idx → Elt F .f32) :
    (((Memref.whole main_v8_0_scv).slice R hR).view.loc (V d c j) ↦[((Memref.whole main_v8_0_scv).slice R hR).view.set]{fullShare} f : sProp (𝕄 F))
      = okPts d p f := by
  have hs : ((Memref.whole main_v8_0_scv).slice R hR).view.set = rowsF S100000x128 0 p := (View.set_slice_whole main_v8_0_scv R).trans hS
  rw [hs]

/-- A rectangle of the value table's copy, after the copy of it, holds the value table there. -/
theorem ov_copied {p : ℕ → Prop} (R : Rect S100000x128) (hR : ∀ a, R.stride a = 1) (hS : R.set = rowsF S100000x128 0 p)
    (f g : S100000x128.Idx → Elt F .f32) (w : R.shape.Idx → Elt F .f32) (hw : w = fun y => g (R.emb y)) :
    (((Memref.whole main_v8_1_scv).slice R hR).view.loc (V d c j) ↦[((Memref.whole main_v8_1_scv).slice R hR).view.set]{fullShare}
        ((Memref.whole main_v8_1_scv).slice R hR).view.writes (Elt F) f [⟨Rect.whole R.shape, w⟩] : sProp (𝕄 F)) = ovPts d p g := by
  have hs : ((Memref.whole main_v8_1_scv).slice R hR).view.set = rowsF S100000x128 0 p := (View.set_slice_whole main_v8_1_scv R).trans hS
  rw [hs]
  refine pointsTo_congr (ℓ := ovLoc d) fun x hx => ?_
  obtain ⟨y, rfl⟩ := emb_of_mem (hS ▸ hx)
  refine (written main_v8_1_scv R f w y).trans ?_
  rw [hw]

theorem ov_start {p : ℕ → Prop} (R : Rect S100000x128) (hR : ∀ a, R.stride a = 1) (hS : R.set = rowsF S100000x128 0 p)
    (f : S100000x128.Idx → Elt F .f32) :
    (((Memref.whole main_v8_1_scv).slice R hR).view.loc (V d c j) ↦[((Memref.whole main_v8_1_scv).slice R hR).view.set]{fullShare} f : sProp (𝕄 F))
      = ovPts d p f := by
  have hs : ((Memref.whole main_v8_1_scv).slice R hR).view.set = rowsF S100000x128 0 p := (View.set_slice_whole main_v8_1_scv R).trans hS
  rw [hs]

theorem agesAt_all (a : Vec F S6400 .f32) (y : S6400.Idx) : agesAt a 400 y = FloatOps.addf (a y) (Scalar.ofBits .f32 0x3F800000#32) := by
  unfold agesAt
  have h : (y 0).val < 6400 := (y 0).isLt
  rw [if_pos (show (y 0).val < 16 * 400 from h)]

/-- A rectangle of the ages' copy, after the write of the aged block, holds the ages one more. -/
theorem oa_copied {p : ℕ → Prop} (R : Rect S102400) (hR : ∀ a, R.stride a = 1) (hS : R.set = rowsF S102400 0 p)
    (f g : S102400.Idx → Elt F .f32) (w : R.shape.Idx → Elt F .f32)
    (hw : ∀ y, w y = FloatOps.addf (g (R.emb y)) (Scalar.ofBits .f32 0x3F800000#32)) :
    (((Memref.whole main_v8_2_scv).slice R hR).view.loc (V d c j) ↦[((Memref.whole main_v8_2_scv).slice R hR).view.set]{fullShare}
        ((Memref.whole main_v8_2_scv).slice R hR).view.writes (Elt F) f [⟨Rect.whole R.shape, w⟩] : sProp (𝕄 F)) = oaPts d p (older g) := by
  have hs : ((Memref.whole main_v8_2_scv).slice R hR).view.set = rowsF S102400 0 p := (View.set_slice_whole main_v8_2_scv R).trans hS
  rw [hs]
  refine pointsTo_congr (ℓ := oaLoc d) fun x hx => ?_
  obtain ⟨y, rfl⟩ := emb_of_mem (hS ▸ hx)
  exact (written main_v8_2_scv R f w y).trans (hw y)

theorem oa_start {p : ℕ → Prop} (R : Rect S102400) (hR : ∀ a, R.stride a = 1) (hS : R.set = rowsF S102400 0 p)
    (f : S102400.Idx → Elt F .f32) :
    (((Memref.whole main_v8_2_scv).slice R hR).view.loc (V d c j) ↦[((Memref.whole main_v8_2_scv).slice R hR).view.set]{fullShare} f : sProp (𝕄 F))
      = oaPts d p f := by
  have hs : ((Memref.whole main_v8_2_scv).slice R hR).view.set = rowsF S102400 0 p := (View.set_slice_whole main_v8_2_scv R).trans hS
  rw [hs]

end

/-! ### Blocks over the barrier -/

theorem block_or (b i n : ℕ) (idx : Vec F S1024 .i32) :
    inBlock b i n ↔ rest idx b i n ∨ ∃ j : Fin 16, piece idx b i j.val n := by
  constructor
  · intro h
    by_cases hn : ∃ j : Fin 16, named idx j.val n
    · obtain ⟨j, hj⟩ := hn
      exact .inr ⟨j, h, hj⟩
    · exact .inl ⟨h, hn⟩
  · rintro (h | ⟨j, h⟩)
    exacts [h.1, h.1]

/-- Two exclusive sets of rows. -/
theorem rowsF_or {s : Shape} {ax : Fin s.rank} {p p1 p2 : ℕ → Prop} (h : ∀ n, p n ↔ p1 n ∨ p2 n) :
    rowsF s ax p = rowsF s ax p1 ∪ rowsF s ax p2 := by
  ext x
  simp only [Finset.mem_union, mem_rowsF]
  exact h _

variable (d : Dev nD)

theorem pts_or {ℓ : Loc nD τ sig} {S S1 S2 : Finset (Idx ℓ)} (h : S = S1 ∪ S2) (hd : Disjoint S1 S2) (f : Buf (Elt F) ℓ) :
    (ℓ ↦[S]{fullShare} f : sProp (𝕄 F)) = iprop((ℓ ↦[S1]{fullShare} f) ∗ (ℓ ↦[S2]{fullShare} f)) := by
  rw [h]
  have e := pointsTo_union (q := fullShare) (f := f) hd (Ix := HIx 1) (Val := Elt F) (Name := ℕ) (U := UU) (Lvl := ℕ)
  exact BI.equiv_iff.mp ⟨e.1, e.2⟩

theorem rest_pieces {b i : ℕ} {idx : Vec F S1024 .i32} (n : ℕ) (h : rest idx b i n) (h' : ∃ j : Fin 16, piece idx b i j.val n) : False := by
  obtain ⟨j, hj⟩ := h'
  exact h.2 ⟨j, hj.2⟩

theorem parts_disjoint {b i : ℕ} {idx : Vec F S1024 .i32} (hi : Distinct idx) (j j' : Fin 16) (hj : j ≠ j') (n : ℕ)
    (h : piece idx b i j.val n) (h' : piece idx b i j'.val n) : False :=
  hj (Fin.ext (named_unique hi h.2 h'.2))

/-- A block of the key table's copy: what stays, and what goes to each tile. -/
theorem ok_out {idx : Vec F S1024 .i32} (hi : Distinct idx) (i : ℕ) (f : S100000x128.Idx → Elt F .f32) :
    (okPts d (inBlock 6256 i) f : sProp (𝕄 F))
      = iprop(okPts d (rest idx 6256 i) f ∗ bigSep Finset.univ fun j : Fin 16 => okPts d (piece idx 6256 i j.val) f) := by
  rw [← ok_family d (fun _ _ => Iff.rfl) (parts_disjoint hi) f]
  exact pts_or (ℓ := okLoc d) (rowsF_or fun n => block_or 6256 i n idx) (rowsF_disjoint rest_pieces) f

theorem ov_out {idx : Vec F S1024 .i32} (hi : Distinct idx) (i : ℕ) (f : S100000x128.Idx → Elt F .f32) :
    (ovPts d (inBlock 6256 i) f : sProp (𝕄 F))
      = iprop(ovPts d (rest idx 6256 i) f ∗ bigSep Finset.univ fun j : Fin 16 => ovPts d (piece idx 6256 i j.val) f) := by
  rw [← ov_family d (fun _ _ => Iff.rfl) (parts_disjoint hi) f]
  exact pts_or (ℓ := ovLoc d) (rowsF_or fun n => block_or 6256 i n idx) (rowsF_disjoint rest_pieces) f

theorem oa_out {idx : Vec F S1024 .i32} (hi : Distinct idx) (i : ℕ) (f : S102400.Idx → Elt F .f32) :
    (oaPts d (inBlock 6400 i) f : sProp (𝕄 F))
      = iprop(oaPts d (rest idx 6400 i) f ∗ bigSep Finset.univ fun j : Fin 16 => oaPts d (piece idx 6400 i j.val) f) := by
  rw [← oa_family d (fun _ _ => Iff.rfl) (parts_disjoint hi) f]
  exact pts_or (ℓ := oaLoc d) (rowsF_or fun n => block_or 6400 i n idx) (rowsF_disjoint rest_pieces) f

/-- The rows a part names, from every block. -/
theorem ok_in {idx : Vec F S1024 .i32} (hl : Below idx) (j : ℕ) (f : S100000x128.Idx → Elt F .f32) :
    (bigSep Finset.univ fun i : Fin 16 => (okPts d (piece idx 6256 i.val j) f : sProp (𝕄 F))) = okPts d (named idx j) f :=
  (ok_family d (fun n _ => named_iff 6256 idx (by norm_num) hl j n) (piece_disjoint 6256 j) f).symm

theorem ov_in {idx : Vec F S1024 .i32} (hl : Below idx) (j : ℕ) (f : S100000x128.Idx → Elt F .f32) :
    (bigSep Finset.univ fun i : Fin 16 => (ovPts d (piece idx 6256 i.val j) f : sProp (𝕄 F))) = ovPts d (named idx j) f :=
  (ov_family d (fun n _ => named_iff 6256 idx (by norm_num) hl j n) (piece_disjoint 6256 j) f).symm

theorem oa_in {idx : Vec F S1024 .i32} (hl : Below idx) (j : ℕ) (f : S102400.Idx → Elt F .f32) :
    (bigSep Finset.univ fun i : Fin 16 => (oaPts d (piece idx 6400 i.val j) f : sProp (𝕄 F))) = oaPts d (named idx j) f :=
  (oa_family d (fun n _ => named_iff 6400 idx (by norm_num) hl j n) (piece_disjoint 6400 j) f).symm

/-- The barrier of a tile of the second core. -/
theorem wp_barV (Tb : Dev nD → Tab F) (i : grid1.Coords) (hl : Below (Tb d).idx) (hq : (qL i).val = 1)
    (O : CellTallies nD τ sig (HIx 1)) (W : Waits sig (HIx 1))
    (hOlev : ∀ g ι, 0 < O g ι → 8 * (0 : Fin 1).val + 6 ≤ (K (F := F)).lev g ι)
    {β : Type} (k : PUnit → Prog (TpuEff nD τ sig (Elt F) Λ₀ (.scVector (qL i) (sL i))) β) (Φ : β → sProp (𝕄 F)) :
    iprop(levAts (K (F := F)).L (K (F := F)).lev ∗ bkit Tb d (qL i) (sL i)
        ∗ (bigSep Finset.univ fun j : Fin 16 => ovPts d (piece (Tb d).idx 6256 (i 1).val j.val) (Tb d).vp)
        ∗ owes (V d (qL i) (sL i)) (O + oxV d (qL i)) W
        ∗ ((owes (V d (qL i) (sL i)) O (insert (.reg sc_bar0, some 0) W) ∗ semVal (bcell d (qL i) (sL i)) 0
            ∗ ovPts d (named (Tb d).idx (i 1).val) (Tb d).vp) -∗ wp frame (wpE (defs₀ (F := F)) 𝒱₀ (V d (qL i) (sL i)) none) Set.univ (k ⟨⟩) Φ))
      ⊢ wp frame (wpE (defs₀ (F := F)) 𝒱₀ (V d (qL i) (sL i)) none) Set.univ
          (SparseCore.subcoreBarrier sc_bar0 (grid1.bound 1) hsub1 >>= k) Φ := by
  have hp : ∀ (c : Fin τ.nSC) (j : Fin 16) (n : ℕ), c.val = 1 → pay Tb d c j n = payV (Tb d) d n j.val :=
    fun c j n h => if_neg (by rw [h]; decide)
  have e1 : (bigSep Finset.univ fun j : Fin 16 => pay Tb d (qL i) j (i 1).val)
      = bigSep Finset.univ fun j : Fin 16 => ovPts d (piece (Tb d).idx 6256 (i 1).val j.val) (Tb d).vp := bigSep_congr fun j _ => hp _ j _ hq
  have e2 : (bigSep Finset.univ fun j : Fin 16 => pay Tb d (qL i) (sL i) j.val) = ovPts d (named (Tb d).idx (i 1).val) (Tb d).vp :=
    (bigSep_congr fun j _ => hp _ (sL i) _ hq).trans (ov_in d hl (i 1).val (Tb d).vp)
  rw [wp_bind, ← e1, ← e2]
  exact wp_bar Tb d i O W hOlev fun a => wp frame (wpE (defs₀ (F := F)) 𝒱₀ (V d (qL i) (sL i)) none) Set.univ (k a) Φ

/-- The barrier of a tile of the first core. -/
theorem wp_barK (Tb : Dev nD → Tab F) (i : grid1.Coords) (hl : Below (Tb d).idx) (hq : (qL i).val = 0)
    (O : CellTallies nD τ sig (HIx 1)) (W : Waits sig (HIx 1))
    (hOlev : ∀ g ι, 0 < O g ι → 8 * (0 : Fin 1).val + 6 ≤ (K (F := F)).lev g ι)
    {β : Type} (k : PUnit → Prog (TpuEff nD τ sig (Elt F) Λ₀ (.scVector (qL i) (sL i))) β) (Φ : β → sProp (𝕄 F)) :
    iprop(levAts (K (F := F)).L (K (F := F)).lev ∗ bkit Tb d (qL i) (sL i)
        ∗ ((bigSep Finset.univ fun j : Fin 16 => okPts d (piece (Tb d).idx 6256 (i 1).val j.val) (Tb d).kp)
          ∗ (bigSep Finset.univ fun j : Fin 16 => oaPts d (piece (Tb d).idx 6400 (i 1).val j.val) (older (Tb d).age)))
        ∗ owes (V d (qL i) (sL i)) (O + oxV d (qL i)) W
        ∗ ((owes (V d (qL i) (sL i)) O (insert (.reg sc_bar0, some 0) W) ∗ semVal (bcell d (qL i) (sL i)) 0
            ∗ (okPts d (named (Tb d).idx (i 1).val) (Tb d).kp ∗ oaPts d (named (Tb d).idx (i 1).val) (older (Tb d).age)))
              -∗ wp frame (wpE (defs₀ (F := F)) 𝒱₀ (V d (qL i) (sL i)) none) Set.univ (k ⟨⟩) Φ))
      ⊢ wp frame (wpE (defs₀ (F := F)) 𝒱₀ (V d (qL i) (sL i)) none) Set.univ
          (SparseCore.subcoreBarrier sc_bar0 (grid1.bound 1) hsub1 >>= k) Φ := by
  have hp : ∀ (c : Fin τ.nSC) (j : Fin 16) (n : ℕ), c.val = 0 → pay Tb d c j n = payK (Tb d) d n j.val :=
    fun c j n h => if_pos h
  have e1 : (bigSep Finset.univ fun j : Fin 16 => pay Tb d (qL i) j (i 1).val)
      = iprop((bigSep Finset.univ fun j : Fin 16 => okPts d (piece (Tb d).idx 6256 (i 1).val j.val) (Tb d).kp)
          ∗ (bigSep Finset.univ fun j : Fin 16 => oaPts d (piece (Tb d).idx 6400 (i 1).val j.val) (older (Tb d).age))) := by
    rw [← bigSep_sep']; exact bigSep_congr fun j _ => hp _ j _ hq
  have e2 : (bigSep Finset.univ fun j : Fin 16 => pay Tb d (qL i) (sL i) j.val)
      = iprop(okPts d (named (Tb d).idx (i 1).val) (Tb d).kp ∗ oaPts d (named (Tb d).idx (i 1).val) (older (Tb d).age)) := by
    rw [← ok_in d hl (i 1).val (Tb d).kp, ← oa_in d hl (i 1).val (older (Tb d).age), ← bigSep_sep']
    exact bigSep_congr fun j _ => hp _ (sL i) _ hq
  rw [wp_bind, ← e1, ← e2]
  exact wp_bar Tb d i O W hOlev fun a => wp frame (wpE (defs₀ (F := F)) 𝒱₀ (V d (qL i) (sL i)) none) Set.univ (k a) Φ

/-! ### The parts of the lists a tile fetches -/

/-- Entry `k` of part `j`. -/
abbrev part (j : Fin 16) (k : Fin 64) : Fin 1024 := ⟨64 * j.val + k.val, by omega⟩

def idxB (idx : Vec F S1024 .i32) (j : Fin 16) : Vec F S64 .i32 := fun y => idx (ix1 (part j (y 0)))
def decB (dec : Vec F S1024 .f32) (j : Fin 16) : Vec F S64 .f32 := fun y => dec (ix1 (part j (y 0)))
def srcB (y : Vec F S1024x64 .f32) (j : Fin 16) : Vec F S64x64 .f32 := fun z => y (ix2 (part j (z 0)) (z 1))
def rowsB {idx : Vec F S1024 .i32} (hl : Below idx) (tab : Vec F S100000x128 .f32) (j : Fin 16) : Vec F S64x128 .f32 :=
  fun z => tab (ix2 ⟨(idx (ix1 (part j (z 0)))).toNat, hl _⟩ (z 1))

theorem emb_part1 {o : Fin 1 → ℕ} (j : Fin 16) (ho : o = ![64 * j.val]) (hb) (y : S64.Idx) :
    (Rect.unit (s := S1024) o S64.size hb).emb y = ix1 (part j (y 0)) := by
  subst ho
  funext a
  fin_cases a
  exact Fin.ext (by show 64 * j.val + 1 * (y 0).val = 64 * j.val + (y 0).val; omega)

theorem emb_part2 {o : Fin 2 → ℕ} (j : Fin 16) (ho : o = ![64 * j.val, 0]) (hb) (z : S64x64.Idx) :
    (Rect.unit (s := S1024x64) o S64x64.size hb).emb z = ix2 (part j (z 0)) (z 1) := by
  subst ho
  funext a
  fin_cases a
  · exact Fin.ext (by show 64 * j.val + 1 * (z 0).val = 64 * j.val + (z 0).val; omega)
  · exact Fin.ext (by show 0 + 1 * (z 1).val = (z 1).val; omega)

/-- A whole buffer written whole holds what was written. -/
theorem pts_fetched (d : Dev nD) (c : Fin τ.nSC) (j : Fin τ.nSub) (r : Ref sig .scVector) (f X : r.ty.shape.Idx → Elt F r.ty.elt)
    (w : r.ty.shape.Idx → Elt F r.ty.elt) (hw : w = X) :
    ((Memref.whole r).view.loc (V d c j) ↦{fullShare} (View.write (Elt F) (Memref.whole r).view f w Finset.univ) : sProp (𝕄 F))
      = ((Memref.whole r).view.loc (V d c j) ↦{fullShare} X) := by
  subst hw
  exact congrArg (fun Y => ((Memref.whole r).view.loc (V d c j) ↦{fullShare} Y : sProp (𝕄 F))) (View.write_whole_univ r f w)

theorem named_part (idx : Vec F S1024 .i32) (j : Fin 16) (k : Fin 64) : named idx j.val (idx (ix1 (part j k))).toNat :=
  ⟨part j k, by show (64 * j.val + k.val) / 64 = j.val; omega, rfl⟩

theorem part_of_named {idx : Vec F S1024 .i32} {j : Fin 16} {n : ℕ} (h : named idx j.val n) :
    ∃ k : Fin 64, (idx (ix1 (part j k))).toNat = n := by
  obtain ⟨s, hs, hn⟩ := h
  refine ⟨⟨s.val - 64 * j.val, by have := s.isLt; omega⟩, ?_⟩
  have : part j ⟨s.val - 64 * j.val, by have := s.isLt; omega⟩ = s := Fin.ext (by show 64 * j.val + (s.val - 64 * j.val) = s.val; omega)
  rw [this, hn]

/-- The blended rows are the updated table's at the named rows. -/
theorem blended {idx : Vec F S1024 .i32} (hi : Distinct idx) (hl : Below idx) (dec : Vec F S1024 .f32) (y : Vec F S1024x64 .f32)
    (tab : Vec F S100000x128 .f32) (j : Fin 16) (k : Fin 64) (x : S100000x128.Idx) (hx : (idx (ix1 (part j k))).toNat = (x 0).val) :
    rowsAt (decB dec j) (rowsB hl tab j) (srcB y j) 256 (ix2 k (x 1)) = upd idx dec y tab x := by
  have hx' : (ix2 ⟨(idx (ix1 (part j k))).toNat, hl _⟩ (x 1) : S100000x128.Idx) = x := by
    funext a
    fin_cases a
    · exact Fin.ext hx
    · rfl
  rw [upd_of_named hi hx]
  unfold rowsAt
  have hk := k.isLt
  by_cases h : (x 1).val < 64
  · rw [dif_pos h, dif_pos (show ((ix2 k (x 1) : S64x128.Idx) 1).val < 64 ∧ 4 * ((ix2 k (x 1) : S64x128.Idx) 0).val + ((ix2 k (x 1) : S64x128.Idx) 1).val / 16 < 256 from
      ⟨h, by show 4 * k.val + (x 1).val / 16 < 256; omega⟩)]
    show bl (dec (ix1 (part j k))) (tab (ix2 ⟨(idx (ix1 (part j k))).toNat, hl _⟩ (x 1))) _ = _
    rw [hx']
    rfl
  · rw [dif_neg h, dif_neg fun h' => h h'.1]
    exact congrArg tab hx'

/-! ### Gathered and scattered rows -/

theorem rowMajor_S64 (k : Fin 64) (h : S64.numel = 64) : S64.rowMajor.symm (k.cast h.symm) = ix1 k := by
  rw [Equiv.symm_apply_eq]
  refine Fin.ext ?_
  exact (Shape.rowMajor_val_one (d := ![64]) (ix1 k)).symm

section

variable {c : Thread nD τ} {s₀ s : Shape} {a : ℕ} {sp : Space}

/-- An element of a named row after a scatter is the source's at its own coordinates in the naming entry's row. -/
theorem scatter_at (v : View sig c.2.kind sp s₀ .f32) (src : Memref sig c.2.kind .vmem s .f32) (hg : s₀.Gathers a s)
    (r : Fin (s.size hg.axis') → Fin (s₀.size hg.axis)) (hr : Function.Injective r) (fs : Buf (Elt F) (src.view.loc c))
    (fd : Buf (Elt F) (v.loc c)) (k : Fin (s.size hg.axis')) (x : s₀.Idx) (hx : (x hg.axis).val = (r k).val) (z : s.Idx)
    (hz : (z hg.axis').val = k.val) (hz' : ∀ b : Fin s₀.rank, b.val ≠ a → (z (b.cast hg.1.symm)).val = (x b).val) :
    v.read (Elt F) (SparseCore.scatterBuf c v hg.axis r (SparseCore.scatterRowPayload c src hg fs) fd) x = src.view.read (Elt F) fs z := by
  let y : (s₀.rowRect hg.axis (r k)).shape.Idx := fun (b : Fin s₀.rank) => ⟨if b = hg.axis then 0 else (x b).val, by
    show _ < (if b = hg.axis then 1 else s₀.size b)
    split
    · exact Nat.one_pos
    · exact (x b).isLt⟩
  have hy : (s₀.rowRect hg.axis (r k)).emb y = x := by
    funext b
    refine Fin.ext ?_
    show (if b = hg.axis then (r k).val else 0) + 1 * (if b = hg.axis then 0 else (x b).val) = (x b).val
    by_cases hb : b = hg.axis
    · subst hb; rw [if_pos rfl, if_pos rfl, hx]; rfl
    · rw [if_neg hb, if_neg hb]; omega
  have hm : v.emb x ∈ (v.slice (s₀.rowRect hg.axis (r k))).set := by
    rw [← hy]
    exact Finset.mem_map.mpr ⟨y, Finset.mem_univ _, rfl⟩
  have he : v.emb x = (v.slice (s₀.rowRect hg.axis (r k))).emb y := by rw [View.emb_slice, ← hy]; rfl
  have key := View.write_emb_of_mem (Val := Elt F) (v := v.slice (s₀.rowRect hg.axis (r k))) fd (SparseCore.scatterRowPayload c src hg fs k)
    (Finset.mem_univ y)
  rw [View.read_apply, SparseCore.scatterBuf_of_mem c v hg.axis r hr _ fd hm, he]
  refine (congrArg (cast _) key).trans ?_
  rw [cast_cast, cast_eq]
  show src.view.read (Elt F) fs ((s.rowRect hg.axis' k).emb ((Shape.idxEquiv hg.rowShape_eq).symm y)) = _
  refine congrArg _ ?_
  funext b
  refine Fin.ext ?_
  show (if b = hg.axis' then k.val else 0) + 1 * (((Shape.idxEquiv hg.rowShape_eq).symm y) b).val = (z b).val
  have hb' : (((Shape.idxEquiv hg.rowShape_eq).symm y) b).val = (y (b.cast hg.1)).val := Shape.idxEquiv_symm_apply_val _ _ _
  rw [hb']
  by_cases hb : b = hg.axis'
  · subst hb
    rw [if_pos rfl, hz]
    show k.val + 1 * (if hg.axis = hg.axis then 0 else _) = k.val
    rw [if_pos rfl]; rfl
  · rw [if_neg hb]
    have hne : b.cast hg.1 ≠ hg.axis := fun h => hb (Fin.ext (show b.val = a from Fin.ext_iff.mp h))
    show 0 + 1 * (if b.cast hg.1 = hg.axis then 0 else (x (b.cast hg.1)).val) = (z b).val
    rw [if_neg hne]
    have := hz' (b.cast hg.1) fun h => hne (Fin.ext h)
    rw [← this]
    simp

end

theorem axis_rows (hg : S100000x128.Gathers 0 S64x128) : hg.axis = (0 : Fin 2) ∧ hg.axis' = (0 : Fin 2) := ⟨rfl, rfl⟩

theorem rows_part {n : ℕ} (idx : Vec F S1024 .i32) (j : Fin 16) (hn : S64.numel = 64) (hin : ∀ y, (idxB idx j y).toNat < n) (k : Fin 64) :
    (SparseCore.rows (idxB idx j) hn hin k).val = (idx (ix1 (part j k))).toNat := by
  show (idxB idx j (S64.rowMajor.symm (k.cast hn.symm))).toNat = _
  rw [rowMajor_S64 k hn]
  rfl

/-- Row numbers that are a part's words. -/
def Names (idx : Vec F S1024 .i32) (j : Fin 16) (hg : S100000x128.Gathers 0 S64x128) (r : Fin (S64x128.size hg.axis') → Fin (S100000x128.size hg.axis)) : Prop :=
  ∀ k : Fin 64, (r k).val = (idx (ix1 (part j k))).toNat

theorem Names.inj {idx : Vec F S1024 .i32} (hi : Distinct idx) {j : Fin 16} {hg : S100000x128.Gathers 0 S64x128}
    {r : Fin (S64x128.size hg.axis') → Fin (S100000x128.size hg.axis)} (hr : Names idx j hg r) : Function.Injective r := fun k k' h => by
  have h1 := congrArg Fin.val h
  rw [hr k, hr k'] at h1
  have h3 : (part j k).val = (part j k').val := congrArg Fin.val (hi h1)
  exact Fin.ext (Nat.add_left_cancel h3)

/-- The gathered rows are the table's rows the part names. -/
theorem gathered {idx : Vec F S1024 .i32} (hl : Below idx) (j : Fin 16) (tab : Vec F S100000x128 .f32) (hg : S100000x128.Gathers 0 S64x128)
    (hb) (r : Fin (S64x128.size hg.axis') → Fin (S100000x128.size hg.axis)) (hr : Names idx j hg r) (z : S64x128.Idx) :
    tab ((Rect.unit (s := S100000x128) ![0, 0] S100000x128.size hb).emb (hg.idx r z)) = rowsB hl tab j z := by
  refine congrArg tab ?_
  funext a
  refine Fin.ext ?_
  have h0 : (hg.idx r z (0 : Fin 2)).val = (idx (ix1 (part j (z 0)))).toNat :=
    (congrArg Fin.val (Shape.Gathers.idx_axis hg r z)).trans (hr (z 0))
  have h1 : (hg.idx r z (1 : Fin 2)).val = (z 1).val :=
    Shape.Gathers.idx_of_ne hg r z (1 : Fin 2) (by decide)
  revert a
  refine Fin.forall_fin_two.mpr ⟨?_, ?_⟩
  · show 0 + 1 * (hg.idx r z (0 : Fin 2)).val = (idx (ix1 (part j (z 0)))).toNat
    rw [h0]; omega
  · show 0 + 1 * (hg.idx r z (1 : Fin 2)).val = (z 1).val
    rw [h1]; omega

/-- A scattered row is the source's row the naming entry's place has. -/
theorem scattered {d : Dev nD} {c : Fin τ.nSC} {j' : Fin τ.nSub} {idx : Vec F S1024 .i32} (hi : Distinct idx) (j : Fin 16)
    (v : View sig .scVector .hbm S100000x128 .f32) (hg : S100000x128.Gathers 0 S64x128)
    (r : Fin (S64x128.size hg.axis') → Fin (S100000x128.size hg.axis)) (hr : Names idx j hg r) (X : Vec F S64x128 .f32)
    (fd : Buf (Elt F) (v.loc (V d c j'))) (k : Fin 64) (x : S100000x128.Idx) (hx : (idx (ix1 (part j k))).toNat = (x 0).val) :
    v.read (Elt F) (SparseCore.scatterBuf (V d c j') v hg.axis r
      (SparseCore.scatterRowPayload (V d c j') (Memref.whole cc1_scratch2) hg X) fd) x = X (ix2 k (x 1)) :=
  scatter_at (c := V d c j') v (Memref.whole cc1_scratch2) hg r (hr.inj hi) X fd k x (hx.symm.trans (hr k).symm) (ix2 k (x 1)) rfl
    (Fin.forall_fin_two.mpr ⟨fun h => absurd rfl h, fun _ => rfl⟩)

/-- The one element of a whole table a whole rectangle places at `x` is `x`. -/
theorem emb_all (x : S100000x128.Idx) (hb) : (Rect.unit (s := S100000x128) ![0, 0] S100000x128.size hb).emb x = x := by
  funext a
  refine Fin.ext ?_
  revert a
  exact Fin.forall_fin_two.mpr ⟨by show 0 + 1 * (x 0).val = (x 0).val; omega, by show 0 + 1 * (x 1).val = (x 1).val; omega⟩

/-- An element a view places is in the rows a predicate names when its own row is. -/
theorem mem_where {κ : Kind} {sp : Space} {s : Shape} {e : EltTy} (v : View sig κ sp s e) (ax : Fin s.rank) (p : ℕ → Prop) (x : s.Idx) :
    v.emb x ∈ SparseCore.rowsWhere v ax p ↔ p (x ax).val := by
  have h : ∀ k : Fin (s.size ax), v.emb x ∈ (v.slice (s.rowRect ax k)).set ↔ (x ax).val = k.val := fun k => by
    have hu : x ∈ (s.rowRect ax k).set ↔ ∀ b, (if b = ax then k.val else 0) ≤ (x b).val ∧ (x b).val < (if b = ax then k.val else 0) + (s.rowShape ax).size b :=
      Rect.mem_set_unit
    rw [View.set_slice, Finset.mem_map' v.emb, hu]
    constructor
    · intro h
      have := h ax
      rw [if_pos rfl] at this
      have h1 : (s.rowShape ax).size ax = 1 := if_pos rfl
      rw [h1] at this
      omega
    · intro h b
      by_cases hb : b = ax
      · subst hb
        rw [if_pos rfl]
        have h1 : (s.rowShape b).size b = 1 := if_pos rfl
        rw [h1]
        omega
      · rw [if_neg hb]
        have h1 : (s.rowShape ax).size b = s.size b := if_neg hb
        rw [h1, Nat.zero_add]
        exact ⟨Nat.zero_le _, (x b).isLt⟩
  rw [SparseCore.mem_rowsWhere]
  constructor
  · rintro ⟨k, hk, hx⟩
    rwa [(h k).mp hx]
  · exact fun hp => ⟨x ax, hp, (h _).mpr rfl⟩

/-- The named rows of the value table's copy, as the scatter's target names them. -/
theorem ov_where (d : Dev nD) (c : Fin τ.nSC) (j : Fin τ.nSub) (hb) (p : ℕ → Prop) (f : S100000x128.Idx → Elt F .f32) :
    (ovPts d p f : sProp (𝕄 F))
      = (((Memref.whole main_v8_1_scv).slice (Rect.unit (s := S100000x128) ![0, 0] S100000x128.size hb) (fun _ => rfl)).view.loc (V d c j)
        ↦[SparseCore.rowsWhere ((Memref.whole main_v8_1_scv).slice (Rect.unit (s := S100000x128) ![0, 0] S100000x128.size hb) (fun _ => rfl)).view
          ⟨0, Nat.zero_lt_two⟩ p]{fullShare} f) := by
  have h : SparseCore.rowsWhere ((Memref.whole main_v8_1_scv).slice (Rect.unit (s := S100000x128) ![0, 0] S100000x128.size hb) (fun _ => rfl)).view
      ⟨0, Nat.zero_lt_two⟩ p = rowsF S100000x128 0 p := by
    ext x
    have h1 := mem_where ((Memref.whole main_v8_1_scv).slice (Rect.unit (s := S100000x128) ![0, 0] S100000x128.size hb) (fun _ => rfl)).view ⟨0, Nat.zero_lt_two⟩ p x
    have hx : ((Memref.whole main_v8_1_scv).slice (Rect.unit (s := S100000x128) ![0, 0] S100000x128.size hb) (fun _ => rfl)).view.emb x = x := emb_all x hb
    rw [hx] at h1
    exact h1.trans mem_rowsF.symm
  rw [h]

/-- The named rows of the key table's copy, as the scatter's target names them. -/
theorem ok_where (d : Dev nD) (c : Fin τ.nSC) (j : Fin τ.nSub) (hb) (p : ℕ → Prop) (f : S100000x128.Idx → Elt F .f32) :
    (okPts d p f : sProp (𝕄 F))
      = (((Memref.whole main_v8_0_scv).slice (Rect.unit (s := S100000x128) ![0, 0] S100000x128.size hb) (fun _ => rfl)).view.loc (V d c j)
        ↦[SparseCore.rowsWhere ((Memref.whole main_v8_0_scv).slice (Rect.unit (s := S100000x128) ![0, 0] S100000x128.size hb) (fun _ => rfl)).view
          ⟨0, Nat.zero_lt_two⟩ p]{fullShare} f) := by
  have h : SparseCore.rowsWhere ((Memref.whole main_v8_0_scv).slice (Rect.unit (s := S100000x128) ![0, 0] S100000x128.size hb) (fun _ => rfl)).view
      ⟨0, Nat.zero_lt_two⟩ p = rowsF S100000x128 0 p := by
    ext x
    have h1 := mem_where ((Memref.whole main_v8_0_scv).slice (Rect.unit (s := S100000x128) ![0, 0] S100000x128.size hb) (fun _ => rfl)).view ⟨0, Nat.zero_lt_two⟩ p x
    have hx : ((Memref.whole main_v8_0_scv).slice (Rect.unit (s := S100000x128) ![0, 0] S100000x128.size hb) (fun _ => rfl)).view.emb x = x := emb_all x hb
    rw [hx] at h1
    exact h1.trans mem_rowsF.symm
  rw [h]

/-- A buffer's one whole write, read everywhere. -/
theorem pts_written (d : Dev nD) (c : Fin τ.nSC) (j : Fin τ.nSub) (r : Ref sig .scVector) (f X : r.ty.shape.Idx → Elt F r.ty.elt)
    (w : r.ty.shape.Idx → Elt F r.ty.elt) (hw : w = X) :
    ((Memref.whole r).view.loc (V d c j) ↦{fullShare} ((Memref.whole r).view.writes (Elt F) f [⟨Rect.whole r.ty.shape, w⟩]) : sProp (𝕄 F))
      = ((Memref.whole r).view.loc (V d c j) ↦{fullShare} X) := by
  subst hw
  refine congrArg (fun Y => ((Memref.whole r).view.loc (V d c j) ↦{fullShare} Y : sProp (𝕄 F))) ?_
  funext y
  have h := View.read_writes_cons_emb (v := View.whole r) (f := f) (Rect.whole r.ty.shape) w [] y
  have hy : (Rect.whole r.ty.shape).emb y = y := by
    funext a
    refine Fin.ext ?_
    show 0 + 1 * (y a).val = (y a).val
    omega
  rw [hy] at h
  exact h

/-- The named rows of the value table's copy after the scatter of the blended rows. -/
theorem ov_scattered {d : Dev nD} {c : Fin τ.nSC} {j' : Fin τ.nSub} {idx : Vec F S1024 .i32} (hi : Distinct idx) (hl : Below idx) (dec : Vec F S1024 .f32)
    (y : Vec F S1024x64 .f32) (tab : Vec F S100000x128 .f32) (j : Fin 16) (hg : S100000x128.Gathers 0 S64x128) (hb)
    (r : Fin (S64x128.size hg.axis') → Fin (S100000x128.size hg.axis)) (hr : Names idx j hg r) (fd g : S100000x128.Idx → Elt F .f32)
    (he : g = SparseCore.scatterBuf (V d c j') ((Memref.whole main_v8_1_scv).slice (Rect.unit (s := S100000x128) ![0, 0] S100000x128.size hb) (fun _ => rfl)).view
      hg.axis r (SparseCore.scatterRowPayload (V d c j') (Memref.whole cc1_scratch2) hg (rowsAt (decB dec j) (rowsB hl tab j) (srcB y j) 256)) fd) :
    (ovPts d (named idx j.val) g : sProp (𝕄 F)) = ovPts d (named idx j.val) (upd idx dec y tab) := by
  refine pointsTo_congr (ℓ := ovLoc d) fun x hx => ?_
  obtain ⟨k, hk⟩ := part_of_named (mem_rowsF.mp hx)
  have h1 := scattered (d := d) (c := c) (j' := j') hi j ((Memref.whole main_v8_1_scv).slice (Rect.unit (s := S100000x128) ![0, 0] S100000x128.size hb) (fun _ => rfl)).view
    hg r hr (rowsAt (decB dec j) (rowsB hl tab j) (srcB y j) 256) fd k x hk
  rw [← he, blended hi hl dec y tab j k x hk] at h1
  rw [← h1]
  exact congrArg g (emb_all x hb).symm

/-- The named rows of the key table's copy after the scatter of the blended rows. -/
theorem ok_scattered {d : Dev nD} {c : Fin τ.nSC} {j' : Fin τ.nSub} {idx : Vec F S1024 .i32} (hi : Distinct idx) (hl : Below idx) (dec : Vec F S1024 .f32)
    (y : Vec F S1024x64 .f32) (tab : Vec F S100000x128 .f32) (j : Fin 16) (hg : S100000x128.Gathers 0 S64x128) (hb)
    (r : Fin (S64x128.size hg.axis') → Fin (S100000x128.size hg.axis)) (hr : Names idx j hg r) (fd g : S100000x128.Idx → Elt F .f32)
    (he : g = SparseCore.scatterBuf (V d c j') ((Memref.whole main_v8_0_scv).slice (Rect.unit (s := S100000x128) ![0, 0] S100000x128.size hb) (fun _ => rfl)).view
      hg.axis r (SparseCore.scatterRowPayload (V d c j') (Memref.whole cc1_scratch2) hg (rowsAt (decB dec j) (rowsB hl tab j) (srcB y j) 256)) fd) :
    (okPts d (named idx j.val) g : sProp (𝕄 F)) = okPts d (named idx j.val) (upd idx dec y tab) := by
  refine pointsTo_congr (ℓ := okLoc d) fun x hx => ?_
  obtain ⟨k, hk⟩ := part_of_named (mem_rowsF.mp hx)
  have h1 := scattered (d := d) (c := c) (j' := j') hi j ((Memref.whole main_v8_0_scv).slice (Rect.unit (s := S100000x128) ![0, 0] S100000x128.size hb) (fun _ => rfl)).view
    hg r hr (rowsAt (decB dec j) (rowsB hl tab j) (srcB y j) 256) fd k x hk
  rw [← he, blended hi hl dec y tab j k x hk] at h1
  rw [← h1]
  exact congrArg g (emb_all x hb).symm

/-- Rows no entry names are as they were. -/
theorem ov_rest {d : Dev nD} {idx : Vec F S1024 .i32} (dec : Vec F S1024 .f32) (y : Vec F S1024x64 .f32) (tab : Vec F S100000x128 .f32) (b i : ℕ) :
    (ovPts d (rest idx b i) tab : sProp (𝕄 F)) = ovPts d (rest idx b i) (upd idx dec y tab) :=
  pointsTo_congr (ℓ := ovLoc d) fun x hx => (upd_of_not fun ⟨s, hs⟩ => (mem_rowsF.mp hx).2 (by
    obtain ⟨j, hj⟩ := named_of_word idx s
    exact ⟨j, hs ▸ hj⟩)).symm

theorem ok_rest {d : Dev nD} {idx : Vec F S1024 .i32} (dec : Vec F S1024 .f32) (y : Vec F S1024x64 .f32) (tab : Vec F S100000x128 .f32) (b i : ℕ) :
    (okPts d (rest idx b i) tab : sProp (𝕄 F)) = okPts d (rest idx b i) (upd idx dec y tab) :=
  pointsTo_congr (ℓ := okLoc d) fun x hx => (upd_of_not fun ⟨s, hs⟩ => (mem_rowsF.mp hx).2 (by
    obtain ⟨j, hj⟩ := named_of_word idx s
    exact ⟨j, hs ▸ hj⟩)).symm

theorem oa_rest {d : Dev nD} {idx : Vec F S1024 .i32} (age : Vec F S102400 .f32) (b i : ℕ) :
    (oaPts d (rest idx b i) (older age) : sProp (𝕄 F)) = oaPts d (rest idx b i) (newAge idx age) :=
  pointsTo_congr (ℓ := oaLoc d) fun x hx => by
    classical
    unfold newAge
    rw [if_neg fun ⟨s, hs⟩ => (mem_rowsF.mp hx).2 (by
      obtain ⟨j, hj⟩ := named_of_word idx s
      exact ⟨j, hs ▸ hj⟩)]

end Cert.Proof
end
-- ==== Proof.TileV.lean ====
module

public import proofs.«01_k».proof.Proof.Pieces

/-! The run of a tile of the second core, with the contents it leaves. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "kpV" => (Memref.whole Cert.KernelIdeal.main_v6_scv : Memref Cert.KernelIdeal.sig Kind.scVector Space.hbm Cert.KernelIdeal.S100000x128 EltTy.f32)
local notation "vpV" => (Memref.whole Cert.KernelIdeal.main_v7_scv : Memref Cert.KernelIdeal.sig Kind.scVector Space.hbm Cert.KernelIdeal.S100000x128 EltTy.f32)
local notation "ageV" => (Memref.whole Cert.KernelIdeal.main_v5_scv : Memref Cert.KernelIdeal.sig Kind.scVector Space.hbm Cert.KernelIdeal.S102400 EltTy.f32)
local notation "idxV" => (Memref.whole Cert.KernelIdeal.main_indices_scv : Memref Cert.KernelIdeal.sig Kind.scVector Space.hbm Cert.KernelIdeal.S1024 EltTy.i32)
local notation "decV" => (Memref.whole Cert.KernelIdeal.main_v4_scv : Memref Cert.KernelIdeal.sig Kind.scVector Space.hbm Cert.KernelIdeal.S1024 EltTy.f32)
local notation "qnV" => (Memref.whole Cert.KernelIdeal.main_v2_2_scv : Memref Cert.KernelIdeal.sig Kind.scVector Space.hbm Cert.KernelIdeal.S1024x64 EltTy.f32)
local notation "vtV" => (Memref.whole Cert.KernelIdeal.main_arg1_scv : Memref Cert.KernelIdeal.sig Kind.scVector Space.hbm Cert.KernelIdeal.S1024x64 EltTy.f32)
local notation "okV" => (Memref.whole Cert.KernelIdeal.main_v8_0_scv : Memref Cert.KernelIdeal.sig Kind.scVector Space.hbm Cert.KernelIdeal.S100000x128 EltTy.f32)
local notation "ovV" => (Memref.whole Cert.KernelIdeal.main_v8_1_scv : Memref Cert.KernelIdeal.sig Kind.scVector Space.hbm Cert.KernelIdeal.S100000x128 EltTy.f32)
local notation "oaV" => (Memref.whole Cert.KernelIdeal.main_v8_2_scv : Memref Cert.KernelIdeal.sig Kind.scVector Space.hbm Cert.KernelIdeal.S102400 EltTy.f32)
local notation "sI" => (Memref.whole Cert.KernelIdeal.cc1_scratch0 : Memref Cert.KernelIdeal.sig Kind.scVector Space.vmem Cert.KernelIdeal.S64 EltTy.i32)
local notation "sD" => (Memref.whole Cert.KernelIdeal.cc1_scratch1 : Memref Cert.KernelIdeal.sig Kind.scVector Space.vmem Cert.KernelIdeal.S64 EltTy.f32)
local notation "sR" => (Memref.whole Cert.KernelIdeal.cc1_scratch2 : Memref Cert.KernelIdeal.sig Kind.scVector Space.vmem Cert.KernelIdeal.S64x128 EltTy.f32)
local notation "sS" => (Memref.whole Cert.KernelIdeal.cc1_scratch3 : Memref Cert.KernelIdeal.sig Kind.scVector Space.vmem Cert.KernelIdeal.S64x64 EltTy.f32)
local notation "sA" => (Memref.whole Cert.KernelIdeal.cc1_scratch4 : Memref Cert.KernelIdeal.sig Kind.scVector Space.vmem Cert.KernelIdeal.S6400 EltTy.f32)

variable (d : Dev nD) (i : grid1.Coords)

/-- A tile of the second core: its block of the value table copied, the barrier, its part of the list's rows blended and written. -/
theorem tile_val (Tb : Dev nD → Tab F) (hi : Distinct (Tb d).idx) (hl : Below (Tb d).idx) (q q' : PosShare TreeShare)
   (hq : (qL i).val = 1)
   (h1 : ¬ k1_cond1 i = 1#1) (h4 : k1_cond4 i = 1#1) (h7 : ¬ k1_cond7 i = 1#1) (h8 : k1_cond8 i = 1#1)
   (hj : ((i 1).val < 15 ∧ k1_cond5 i = 1#1 ∧ ¬ k1_cond6 i = 1#1) ∨ ((i 1).val = 15 ∧ ¬ k1_cond5 i = 1#1 ∧ k1_cond6 i = 1#1))
   (O : CellTallies nD τ sig (HIx 1)) (W : Waits sig (HIx 1)) (hO : ∀ g, O g none = 0)
   (hOlev : ∀ g ι, 0 < O g ι → 8 * (0 : Fin 1).val + 6 ≤ (K (F := F)).lev g ι)
   (fI : Buf (Elt F) ((V d (qL i) (sL i)).loc cc1_scratch0)) (fD : Buf (Elt F) ((V d (qL i) (sL i)).loc cc1_scratch1))
   (fR : Buf (Elt F) ((V d (qL i) (sL i)).loc cc1_scratch2)) (fS : Buf (Elt F) ((V d (qL i) (sL i)).loc cc1_scratch3)) :
   iprop(levAts (K (F := F)).L (K (F := F)).lev ∗ bkit Tb d (qL i) (sL i)
     ∗ ((vpV).view.loc (V d (qL i) (sL i)) ↦{q} (Tb d).vp) ∗ ((vtV).view.loc (V d (qL i) (sL i)) ↦{q} (Tb d).vt)
     ∗ ((idxV).view.loc (V d (qL i) (sL i)) ↦{q'} (Tb d).idx) ∗ ((decV).view.loc (V d (qL i) (sL i)) ↦{q'} (Tb d).dec)
     ∗ ovPts d (inBlock 6256 (i 1).val) (Tb d).v₀
     ∗ ((sI).view.loc (V d (qL i) (sL i)) ↦{fullShare} fI) ∗ ((sD).view.loc (V d (qL i) (sL i)) ↦{fullShare} fD)
     ∗ ((sR).view.loc (V d (qL i) (sL i)) ↦{fullShare} fR) ∗ ((sS).view.loc (V d (qL i) (sL i)) ↦{fullShare} fS)
     ∗ semVal (V d (qL i) (sL i), .dma cc1_scoped4.sem) 0 ∗ semVal (V d (qL i) (sL i), .dma cc1_scoped5.sem) 0
     ∗ semVal (V d (qL i) (sL i), .dma cc1_scoped6.sem) 0 ∗ semVal (V d (qL i) (sL i), .dma cc1_scoped7.sem) 0
     ∗ semVal (V d (qL i) (sL i), .dma cc1_scoped9.sem) 0
     ∗ semVal (V d (qL i) (sL i), .dma cc1_scratch5.sem) 0
     ∗ owes (V d (qL i) (sL i)) (O + oxV d (qL i)) W)
    ⊢ wp frame (wpE (defs₀ (F := F)) 𝒱₀ (V d (qL i) (sL i)) none) Set.univ (cc1__write_body (F := F) i kpV (Memref.isWhole_whole _) vpV (Memref.isWhole_whole _) ageV (Memref.isWhole_whole _) idxV (Memref.isWhole_whole _) decV (Memref.isWhole_whole _) qnV (Memref.isWhole_whole _) vtV (Memref.isWhole_whole _) okV (Memref.isWhole_whole _) ovV (Memref.isWhole_whole _) oaV (Memref.isWhole_whole _) sI (Memref.isWhole_whole _) sD (Memref.isWhole_whole _) sR (Memref.isWhole_whole _) sS (Memref.isWhole_whole _) sA (Memref.isWhole_whole _) cc1_scratch5 cc1_scratch6 cc1_scoped0 cc1_scoped1 cc1_scoped2 cc1_scoped3 cc1_scoped4 cc1_scoped5 cc1_scoped6 cc1_scoped7 cc1_scoped8 cc1_scoped9) fun _ => iprop(
     ((vpV).view.loc (V d (qL i) (sL i)) ↦{q} (Tb d).vp) ∗ ((vtV).view.loc (V d (qL i) (sL i)) ↦{q} (Tb d).vt)
     ∗ ((idxV).view.loc (V d (qL i) (sL i)) ↦{q'} (Tb d).idx) ∗ ((decV).view.loc (V d (qL i) (sL i)) ↦{q'} (Tb d).dec)
     ∗ (ovPts d (named (Tb d).idx (i 1).val) (newV (Tb d)) ∗ ovPts d (rest (Tb d).idx 6256 (i 1).val) (newV (Tb d)))
     ∗ (∃ f, (V d (qL i) (sL i)).loc cc1_scratch0 ↦{fullShare} f) ∗ (∃ f, (V d (qL i) (sL i)).loc cc1_scratch1 ↦{fullShare} f)
     ∗ (∃ f, (V d (qL i) (sL i)).loc cc1_scratch2 ↦{fullShare} f) ∗ (∃ f, (V d (qL i) (sL i)).loc cc1_scratch3 ↦{fullShare} f)
     ∗ semVal (V d (qL i) (sL i), .dma cc1_scoped4.sem) 0 ∗ semVal (V d (qL i) (sL i), .dma cc1_scoped5.sem) 0
     ∗ semVal (V d (qL i) (sL i), .dma cc1_scoped6.sem) 0 ∗ semVal (V d (qL i) (sL i), .dma cc1_scoped7.sem) 0
     ∗ semVal (V d (qL i) (sL i), .dma cc1_scoped9.sem) 0
     ∗ semVal (V d (qL i) (sL i), .dma cc1_scratch5.sem) 0
     ∗ semVal (bcell d (qL i) (sL i)) 0
     ∗ ∃ W', ⌜∀ p ∈ W', p ∈ W ∨ p.2 = none ∨ p.2 = some (0 : Fin 1)⌝ ∗ owes (V d (qL i) (sL i)) O W') := by
  have hO' : ∀ g, (O + oxV d (qL i)) g none = 0 := fun g => by rw [Pi.add_apply, Finsupp.add_apply, hO g, oxV_none]
  rw [cc1__write_body_eq_skeleton]; unfold cc1__write_body_skel
  rcases hj with ⟨hj, h5, h6⟩ | ⟨hj, h5, h6⟩
  rw [dif_neg h1, dif_pos h4, dif_pos h5]
  iintro ⟨#Hlv, Hb, Hv, Ht, Hi, Hd, Hov, HI, HD, HR, HS, H4, H5, H6, H7, H9, Hg, HO⟩
  ihave Hmw := (show levAts (K (F := F)).L (K (F := F)).lev ⊢ Transfers.MayWaits (V d (qL i) (sL i)) (default : HIx 1) (O + oxV d (qL i)) from
    (K (F := F)).mayWaits_none (thr := V d (qL i) (sL i)) hO') $$ Hlv
  ihave Hov' := (Entails.of_eq (ov_start d (qL i) (sL i) (Rect.unit (s := S100000x128) (k1_off5 i) S6256x128.size (k1_off5_inb i h4 h5)) (fun _ => rfl)
    (set_blk (i 1).val (k1_off5_eq i) _) _).symm) $$ Hov
  sl_exec
  ihave Hov := (Entails.of_eq (ov_copied d (qL i) (sL i) (Rect.unit (s := S100000x128) (k1_off5 i) S6256x128.size (k1_off5_inb i h4 h5)) (fun _ => rfl)
    (set_blk (i 1).val (k1_off5_eq i) _) _ (Tb d).vp _ (by sl_unfold_words; rfl))) $$ Hov'
  rotate_left
  rw [dif_neg h1, dif_pos h4, dif_neg h5]
  iintro ⟨#Hlv, Hb, Hv, Ht, Hi, Hd, Hov, HI, HD, HR, HS, H4, H5, H6, H7, H9, Hg, HO⟩
  ihave Hmw := (show levAts (K (F := F)).L (K (F := F)).lev ⊢ Transfers.MayWaits (V d (qL i) (sL i)) (default : HIx 1) (O + oxV d (qL i)) from
    (K (F := F)).mayWaits_none (thr := V d (qL i) (sL i)) hO') $$ Hlv
  ihave Hov' := (Entails.of_eq (ov_start d (qL i) (sL i) (Rect.unit (s := S100000x128) (k1_off6 i) S6160x128.size (k1_off6_inb i h4 h6)) (fun _ => rfl)
    (set_last (i 1).val hj (k1_off6_eq i) _) _).symm) $$ Hov
  sl_exec
  ihave Hov := (Entails.of_eq (ov_copied d (qL i) (sL i) (Rect.unit (s := S100000x128) (k1_off6 i) S6160x128.size (k1_off6_inb i h4 h6)) (fun _ => rfl)
    (set_last (i 1).val hj (k1_off6_eq i) _) _ (Tb d).vp _ (by sl_unfold_words; rfl))) $$ Hov'
  all_goals
    ihave Hov2 := (Entails.of_eq (ov_out d hi (i 1).val _)) $$ Hov
    icases Hov2 with ⟨Hrest, Hpay⟩
    iapply (wp_barV d Tb i hl hq O _ hOlev _ _)
    isplitr; · iexact Hlv
    isplitl [Hb]; · iexact Hb
    isplitl [Hpay]; · iexact Hpay
    isplitl [HO]; · iexact HO
    iintro ⟨HO, Hbar, Hnamed⟩
    ihave Hmw := (show levAts (K (F := F)).L (K (F := F)).lev ⊢ Transfers.MayWaits (V d (qL i) (sL i)) (default : HIx 1) O from
      (K (F := F)).mayWaits_none (thr := V d (qL i) (sL i)) hO) $$ Hlv
    sl_exec
    ihave HI := (Entails.of_eq (pts_fetched d (qL i) (sL i) cc1_scratch0 _ (idxB (Tb d).idx (i 1)) _
      (by sl_unfold_words; exact funext fun y => congrArg (Tb d).idx (emb_part1 (i 1) (k1_off7_eq i) _ y)))) $$ HI
    ihave HD := (Entails.of_eq (pts_fetched d (qL i) (sL i) cc1_scratch1 _ (decB (Tb d).dec (i 1)) _
      (by sl_unfold_words; exact funext fun y => congrArg (Tb d).dec (emb_part1 (i 1) (k1_off7_eq i) _ y)))) $$ HD
    have hin : ∀ j, ((sI).view.read (Elt F) (idxB (Tb d).idx (i 1)) j).toNat < S100000x128.size gathers_S100000x128_S64x128.axis := fun j => hl _
    sl_exec
    ihave HR := (Entails.of_eq (pts_written d (qL i) (sL i) cc1_scratch2 _ (rowsB hl (Tb d).vp (i 1)) _
      (by sl_unfold_words; exact funext fun z => gathered hl (i 1) (Tb d).vp gathers_S100000x128_S64x128 _ _ (fun k => rows_part (Tb d).idx (i 1) rfl hin k) z))) $$ HR
    ihave HS := (Entails.of_eq (pts_fetched d (qL i) (sL i) cc1_scratch3 _ (srcB (Tb d).vt (i 1)) _
      (by sl_unfold_words; exact funext fun z => congrArg (Tb d).vt (emb_part2 (i 1) (k1_off18_eq i) _ z)))) $$ HS
    ihave HR' := (Entails.of_eq (ownV_whole d (qL i) (sL i) cc1_scratch2 _).symm) $$ HR
    ihave HS' := (Entails.of_eq (ownV_whole d (qL i) (sL i) cc1_scratch3 _).symm) $$ HS
    ihave HD' := (Entails.of_eq (ownV_whole d (qL i) (sL i) cc1_scratch1 _).symm) $$ HD
    iapply (wp_then d (qL i) (sL i) _ _ _ _ _ (wp_t3 d i kpV (Memref.isWhole_whole _) vpV (Memref.isWhole_whole _) ageV (Memref.isWhole_whole _) idxV (Memref.isWhole_whole _) decV (Memref.isWhole_whole _) qnV (Memref.isWhole_whole _) vtV (Memref.isWhole_whole _) okV (Memref.isWhole_whole _) ovV (Memref.isWhole_whole _) oaV (Memref.isWhole_whole _) sI (Memref.isWhole_whole _) sD (Memref.isWhole_whole _) sR (Memref.isWhole_whole _) sS (Memref.isWhole_whole _) sA (Memref.isWhole_whole _) cc1_scratch5 cc1_scratch6 cc1_scoped0 cc1_scoped1 cc1_scoped2 cc1_scoped3 cc1_scoped4 cc1_scoped5 cc1_scoped6 cc1_scoped7 cc1_scoped8 cc1_scoped9 h8 _ _ _))
    isplitl [HR' HS' HD']
    · isplitl [HD']; · iexact HD'
      isplitl [HR']; · iexact HR'
      iexact HS'
    iintro ⟨HD', HR', HS'⟩
    ihave HR := (Entails.of_eq (ownV_whole d (qL i) (sL i) cc1_scratch2 _)) $$ HR'
    ihave HS := (Entails.of_eq (ownV_whole d (qL i) (sL i) cc1_scratch3 _)) $$ HS'
    ihave HD := (Entails.of_eq (ownV_whole d (qL i) (sL i) cc1_scratch1 _)) $$ HD'
    have hinj : Function.Injective fun j => ((sI).view.read (Elt F) (idxB (Tb d).idx (i 1)) j).toNat := fun y y' h => by
      have h2 := congrArg Fin.val (hi h)
      funext a
      fin_cases a
      refine Fin.ext ?_
      simpa [part] using h2
    have hown : ∀ j, named (Tb d).idx (i 1).val ((sI).view.read (Elt F) (idxB (Tb d).idx (i 1)) j).toNat := fun y => named_part _ (i 1) (y 0)
    ihave Hnm := (Entails.of_eq (ov_where d (qL i) (sL i) inb_S100000x128_S100000x128_0_0 _ _)) $$ Hnamed
    sl_exec
    ihave Hnamed := (Entails.of_eq (ov_where d (qL i) (sL i) inb_S100000x128_S100000x128_0_0 _ _).symm) $$ Hnm
    ihave Hnamed := (Entails.of_eq (ov_scattered (d := d) (c := qL i) (j' := sL i) hi hl (Tb d).dec (Tb d).vt (Tb d).vp (i 1) gathers_S100000x128_S64x128
      inb_S100000x128_S100000x128_0_0 _ (fun k => rows_part (Tb d).idx (i 1) rfl hin k) (Tb d).vp _ (by sl_unfold_words; rfl))) $$ Hnamed
    ihave Hrest := (Entails.of_eq (ov_rest (d := d) (Tb d).dec (Tb d).vt (Tb d).vp 6256 (i 1).val)) $$ Hrest
    sl_step
    isplitl [Hv]; · iexact Hv
    isplitl [Ht]; · iexact Ht
    isplitl [Hi]; · iexact Hi
    isplitl [Hd]; · iexact Hd
    isplitl [Hnamed Hrest]
    · isplitl [Hnamed]; · iexact Hnamed
      iexact Hrest
    isplitl [HI]; · iexists _; iexact HI
    isplitl [HD]; · iexists _; iexact HD
    isplitl [HR]; · iexists _; iexact HR
    isplitl [HS]; · iexists _; iexact HS
    isplitl [H4]; · iexact H4
    isplitl [H5]; · iexact H5
    isplitl [H6]; · iexact H6
    isplitl [H7]; · iexact H7
    isplitl [H9]; · iexact H9
    isplitl [Hg]; · iexact Hg
    isplitl [Hbar]; · iexact Hbar
    iexists _
    isplitr
    rotate_left
    · iexact HO
    · ipureintro
      intro p hp
      repeat (rcases Finset.mem_insert.mp hp with rfl | hp; · first | exact .inr (.inl rfl) | exact .inr (.inr rfl))
      exact .inl hp

end Cert.Proof
end
-- ==== Proof.AgeScatter.lean ====
module

public import proofs.«01_k».proof.Proof.Pieces

/-! The ages' scatter: sixty-four ones, stored and copied to the named ages. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-- The four stores of ones fill the first sixty-four elements. -/
theorem ones_written (f : S6400.Idx → Elt F .f32) (z : S6400.Idx) (hz : (z 0).val < 64) :
    (Memref.whole cc1_scratch4).view.read (Elt F) ((Memref.whole cc1_scratch4).view.writes (Elt F) f
      [⟨Rect.unit (s := S6400) ![48] S16.size inb_S6400_S16_48, k1_pay121 (F := F)⟩, ⟨Rect.unit (s := S6400) ![32] S16.size inb_S6400_S16_32, k1_pay120 (F := F)⟩,
        ⟨Rect.unit (s := S6400) ![16] S16.size inb_S6400_S16_16, k1_pay119 (F := F)⟩, ⟨Rect.unit (s := S6400) ![0] S16.size inb_S6400_S16_0, k1_pay118 (F := F)⟩]) z
      = Scalar.ofBits .f32 0x3F800000#32 := by
  refine View.read_writes_apply_of_pieces (Val := Elt F) (Memref.whole cc1_scratch4).view f (fun _ => Scalar.ofBits .f32 0x3F800000#32) _ ?_ z ?_
  · intro p hp
    simp only [List.mem_cons, List.not_mem_nil, or_false] at hp
    rcases hp with rfl | rfl | rfl | rfl <;> intro x <;> rfl
  · have h4 : (z 0).val < 16 ∨ (16 ≤ (z 0).val ∧ (z 0).val < 32) ∨ (32 ≤ (z 0).val ∧ (z 0).val < 48) ∨ 48 ≤ (z 0).val := by omega
    have hm : ∀ (o : ℕ) (inb), o ≤ (z 0).val → (z 0).val < o + 16 → z ∈ (Rect.unit (s := S6400) ![o] S16.size inb).set := fun o inb h1 h2 =>
      Rect.mem_set_unit.mpr (Fin.forall_fin_one.mpr ⟨h1, h2⟩)
    rcases h4 with h | h | h | h
    · exact ⟨⟨_, k1_pay118⟩, List.mem_cons_of_mem _ (List.mem_cons_of_mem _ (List.mem_cons_of_mem _ (List.mem_cons_self ..))),
        hm 0 inb_S6400_S16_0 (Nat.zero_le _) (by omega)⟩
    · exact ⟨⟨_, k1_pay119⟩, List.mem_cons_of_mem _ (List.mem_cons_of_mem _ (List.mem_cons_self ..)), hm 16 inb_S6400_S16_16 h.1 (by omega)⟩
    · exact ⟨⟨_, k1_pay120⟩, List.mem_cons_of_mem _ (List.mem_cons_self ..), hm 32 inb_S6400_S16_32 h.1 (by omega)⟩
    · exact ⟨⟨_, k1_pay121⟩, List.mem_cons_self .., hm 48 inb_S6400_S16_48 h (by omega)⟩

/-- What the source must hold: ones in its first sixty-four elements. -/
def Ones (X : S6400.Idx → Elt F .f32) : Prop :=
  ∀ z : S6400.Idx, (z 0).val < 64 → (Memref.whole cc1_scratch4).view.read (Elt F) X z = Scalar.ofBits .f32 0x3F800000#32

theorem ones_fill (f : S6400.Idx → Elt F .f32) : Ones ((Memref.whole cc1_scratch4).view.writes (Elt F) f
      [⟨Rect.unit (s := S6400) ![48] S16.size inb_S6400_S16_48, k1_pay121 (F := F)⟩, ⟨Rect.unit (s := S6400) ![32] S16.size inb_S6400_S16_32, k1_pay120 (F := F)⟩,
        ⟨Rect.unit (s := S6400) ![16] S16.size inb_S6400_S16_16, k1_pay119 (F := F)⟩, ⟨Rect.unit (s := S6400) ![0] S16.size inb_S6400_S16_0, k1_pay118 (F := F)⟩]) :=
  fun z hz => ones_written f z hz

theorem emb_all_age (x : S102400.Idx) (hb) : (Rect.unit (s := S102400) ![0] S102400.size hb).emb x = x := by
  funext a
  refine Fin.ext ?_
  revert a
  exact Fin.forall_fin_one.mpr (by show 0 + 1 * (x 0).val = (x 0).val; omega)

/-- The named ages, as the scatter's target names them. -/
theorem oa_where (d : Dev nD) (c : Fin τ.nSC) (j : Fin τ.nSub) (hb) (p : ℕ → Prop) (f : S102400.Idx → Elt F .f32) :
    (oaPts d p f : sProp (𝕄 F))
      = (((Memref.whole main_v8_2_scv).slice (Rect.unit (s := S102400) ![0] S102400.size hb) (fun _ => rfl)).view.loc (V d c j)
        ↦[SparseCore.rowsWhere ((Memref.whole main_v8_2_scv).slice (Rect.unit (s := S102400) ![0] S102400.size hb) (fun _ => rfl)).view
          ⟨0, Nat.one_pos⟩ p]{fullShare} f) := by
  have h : SparseCore.rowsWhere ((Memref.whole main_v8_2_scv).slice (Rect.unit (s := S102400) ![0] S102400.size hb) (fun _ => rfl)).view
      ⟨0, Nat.one_pos⟩ p = rowsF S102400 0 p := by
    ext x
    have h1 := mem_where ((Memref.whole main_v8_2_scv).slice (Rect.unit (s := S102400) ![0] S102400.size hb) (fun _ => rfl)).view ⟨0, Nat.one_pos⟩ p x
    have hx : ((Memref.whole main_v8_2_scv).slice (Rect.unit (s := S102400) ![0] S102400.size hb) (fun _ => rfl)).view.emb x = x := emb_all_age x hb
    rw [hx] at h1
    exact h1.trans mem_rowsF.symm
  rw [h]

/-- Row numbers of the ages that are a part's words. -/
def NamesAge (idx : Vec F S1024 .i32) (j : Fin 16) (hg : S102400.Gathers 0 S64) (r : Fin (S64.size hg.axis') → Fin (S102400.size hg.axis)) : Prop :=
  ∀ k : Fin 64, (r k).val = (idx (ix1 (part j k))).toNat

/-- The named ages after the scatter of ones. -/
theorem oa_scattered {d : Dev nD} {c : Fin τ.nSC} {j' : Fin τ.nSub} {idx : Vec F S1024 .i32} (hi : Distinct idx) (age : Vec F S102400 .f32) (j : Fin 16)
    (hg : S102400.Gathers 0 S64) (hb) (hb') (r : Fin (S64.size hg.axis') → Fin (S102400.size hg.axis))
    (hr : NamesAge idx j hg r) (X : S6400.Idx → Elt F .f32)
    (hX : Ones X) (fd g : S102400.Idx → Elt F .f32)
    (he : g = SparseCore.scatterBuf (V d c j') ((Memref.whole main_v8_2_scv).slice (Rect.unit (s := S102400) ![0] S102400.size hb) (fun _ => rfl)).view
      hg.axis r (SparseCore.scatterRowPayload (V d c j') ((Memref.whole cc1_scratch4).slice (Rect.unit (s := S6400) ![0] S64.size hb') (fun _ => rfl)) hg X) fd) :
    (oaPts d (named idx j.val) g : sProp (𝕄 F)) = oaPts d (named idx j.val) (newAge idx age) := by
  refine pointsTo_congr (ℓ := oaLoc d) fun x hx => ?_
  obtain ⟨k, hk⟩ := part_of_named (mem_rowsF.mp hx)
  have hinj : Function.Injective r := fun k k' h => by
    have h1 := congrArg Fin.val h
    rw [hr k, hr k'] at h1
    have h3 : (part j k).val = (part j k').val := congrArg Fin.val (hi h1)
    exact Fin.ext (Nat.add_left_cancel h3)
  have h1 := scatter_at (c := V d c j') ((Memref.whole main_v8_2_scv).slice (Rect.unit (s := S102400) ![0] S102400.size hb) (fun _ => rfl)).view
    ((Memref.whole cc1_scratch4).slice (Rect.unit (s := S6400) ![0] S64.size hb') (fun _ => rfl)) hg r hinj X fd k x (hk.symm.trans (hr k).symm) (ix1 k) rfl
    (Fin.forall_fin_one.mpr fun h => absurd rfl h)
  rw [← he] at h1
  have h2 : (newAge idx age) x = Scalar.ofBits .f32 0x3F800000#32 := by
    classical
    unfold newAge
    exact if_pos ⟨part j k, hk⟩
  rw [h2]
  refine (congrArg g (emb_all_age x hb).symm).trans (h1.trans (hX _ ?_))
  show 0 + 1 * k.val < 64
  have := k.isLt
  omega

end Cert.Proof
end
-- ==== Proof.TileK.lean ====
module

public import proofs.«01_k».proof.Proof.AgeScatter

/-! The run of a tile of the first core, with the contents it leaves. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "kpV" => (Memref.whole Cert.KernelIdeal.main_v6_scv : Memref Cert.KernelIdeal.sig Kind.scVector Space.hbm Cert.KernelIdeal.S100000x128 EltTy.f32)
local notation "vpV" => (Memref.whole Cert.KernelIdeal.main_v7_scv : Memref Cert.KernelIdeal.sig Kind.scVector Space.hbm Cert.KernelIdeal.S100000x128 EltTy.f32)
local notation "ageV" => (Memref.whole Cert.KernelIdeal.main_v5_scv : Memref Cert.KernelIdeal.sig Kind.scVector Space.hbm Cert.KernelIdeal.S102400 EltTy.f32)
local notation "idxV" => (Memref.whole Cert.KernelIdeal.main_indices_scv : Memref Cert.KernelIdeal.sig Kind.scVector Space.hbm Cert.KernelIdeal.S1024 EltTy.i32)
local notation "decV" => (Memref.whole Cert.KernelIdeal.main_v4_scv : Memref Cert.KernelIdeal.sig Kind.scVector Space.hbm Cert.KernelIdeal.S1024 EltTy.f32)
local notation "qnV" => (Memref.whole Cert.KernelIdeal.main_v2_2_scv : Memref Cert.KernelIdeal.sig Kind.scVector Space.hbm Cert.KernelIdeal.S1024x64 EltTy.f32)
local notation "vtV" => (Memref.whole Cert.KernelIdeal.main_arg1_scv : Memref Cert.KernelIdeal.sig Kind.scVector Space.hbm Cert.KernelIdeal.S1024x64 EltTy.f32)
local notation "okV" => (Memref.whole Cert.KernelIdeal.main_v8_0_scv : Memref Cert.KernelIdeal.sig Kind.scVector Space.hbm Cert.KernelIdeal.S100000x128 EltTy.f32)
local notation "ovV" => (Memref.whole Cert.KernelIdeal.main_v8_1_scv : Memref Cert.KernelIdeal.sig Kind.scVector Space.hbm Cert.KernelIdeal.S100000x128 EltTy.f32)
local notation "oaV" => (Memref.whole Cert.KernelIdeal.main_v8_2_scv : Memref Cert.KernelIdeal.sig Kind.scVector Space.hbm Cert.KernelIdeal.S102400 EltTy.f32)
local notation "sI" => (Memref.whole Cert.KernelIdeal.cc1_scratch0 : Memref Cert.KernelIdeal.sig Kind.scVector Space.vmem Cert.KernelIdeal.S64 EltTy.i32)
local notation "sD" => (Memref.whole Cert.KernelIdeal.cc1_scratch1 : Memref Cert.KernelIdeal.sig Kind.scVector Space.vmem Cert.KernelIdeal.S64 EltTy.f32)
local notation "sR" => (Memref.whole Cert.KernelIdeal.cc1_scratch2 : Memref Cert.KernelIdeal.sig Kind.scVector Space.vmem Cert.KernelIdeal.S64x128 EltTy.f32)
local notation "sS" => (Memref.whole Cert.KernelIdeal.cc1_scratch3 : Memref Cert.KernelIdeal.sig Kind.scVector Space.vmem Cert.KernelIdeal.S64x64 EltTy.f32)
local notation "sA" => (Memref.whole Cert.KernelIdeal.cc1_scratch4 : Memref Cert.KernelIdeal.sig Kind.scVector Space.vmem Cert.KernelIdeal.S6400 EltTy.f32)

variable (d : Dev nD) (i : grid1.Coords)

/-- A statement run inside a sequence inside a sequence. -/
theorem wp_then_in (d : Dev nD) (c : Fin τ.nSC) (j : Fin τ.nSub) {α β : Type} (m : Prog (TpuEff nD τ sig (Elt F) Λ₀ (.scVector c j)) PUnit)
    (k : PUnit → Prog (TpuEff nD τ sig (Elt F) Λ₀ (.scVector c j)) α) (k' : α → Prog (TpuEff nD τ sig (Elt F) Λ₀ (.scVector c j)) β)
    (Φ : β → sProp (𝕄 F)) (P Q : sProp (𝕄 F))
    (h : P ⊢ wp frame (wpE (defs₀ (F := F)) 𝒱₀ (V d c j) none) Set.univ m fun _ => Q) :
    iprop(P ∗ (Q -∗ wp frame (wpE (defs₀ (F := F)) 𝒱₀ (V d c j) none) Set.univ (k ⟨⟩ >>= k') Φ))
      ⊢ wp frame (wpE (defs₀ (F := F)) 𝒱₀ (V d c j) none) Set.univ ((m >>= k) >>= k') Φ := by
  rw [bind_assoc]
  exact wp_then d c j m (fun x => k x >>= k') Φ P Q h

set_option maxHeartbeats 1000000 in
/-- A tile of the first core: its block of the key table copied, its block of the ages copied one more each, the barrier, its part of the list's rows blended and written, their ages set to one. -/
theorem tile_key (Tb : Dev nD → Tab F) (hi : Distinct (Tb d).idx) (hl : Below (Tb d).idx) (q q' : PosShare TreeShare)
   (hq : (qL i).val = 0)
   (h1 : k1_cond1 i = 1#1) (h4 : ¬ k1_cond4 i = 1#1) (h7 : k1_cond7 i = 1#1) (h8 : ¬ k1_cond8 i = 1#1)
   (hj : ((i 1).val < 15 ∧ k1_cond2 i = 1#1 ∧ ¬ k1_cond3 i = 1#1) ∨ ((i 1).val = 15 ∧ ¬ k1_cond2 i = 1#1 ∧ k1_cond3 i = 1#1))
   (O : CellTallies nD τ sig (HIx 1)) (W : Waits sig (HIx 1)) (hO : ∀ g, O g none = 0)
   (hOlev : ∀ g ι, 0 < O g ι → 8 * (0 : Fin 1).val + 6 ≤ (K (F := F)).lev g ι)
   (fI : Buf (Elt F) ((V d (qL i) (sL i)).loc cc1_scratch0)) (fD : Buf (Elt F) ((V d (qL i) (sL i)).loc cc1_scratch1))
   (fR : Buf (Elt F) ((V d (qL i) (sL i)).loc cc1_scratch2)) (fS : Buf (Elt F) ((V d (qL i) (sL i)).loc cc1_scratch3)) (fA : Buf (Elt F) ((V d (qL i) (sL i)).loc cc1_scratch4)) :
   iprop(levAts (K (F := F)).L (K (F := F)).lev ∗ bkit Tb d (qL i) (sL i)
     ∗ ((kpV).view.loc (V d (qL i) (sL i)) ↦{q} (Tb d).kp) ∗ ((qnV).view.loc (V d (qL i) (sL i)) ↦{q} (Tb d).qn)
     ∗ ((ageV).view.loc (V d (qL i) (sL i)) ↦{q} (Tb d).age)
     ∗ ((idxV).view.loc (V d (qL i) (sL i)) ↦{q'} (Tb d).idx) ∗ ((decV).view.loc (V d (qL i) (sL i)) ↦{q'} (Tb d).dec)
     ∗ okPts d (inBlock 6256 (i 1).val) (Tb d).k₀ ∗ oaPts d (inBlock 6400 (i 1).val) (Tb d).a₀
     ∗ ((sI).view.loc (V d (qL i) (sL i)) ↦{fullShare} fI) ∗ ((sD).view.loc (V d (qL i) (sL i)) ↦{fullShare} fD)
     ∗ ((sR).view.loc (V d (qL i) (sL i)) ↦{fullShare} fR) ∗ ((sS).view.loc (V d (qL i) (sL i)) ↦{fullShare} fS) ∗ ((sA).view.loc (V d (qL i) (sL i)) ↦{fullShare} fA)
     ∗ semVal (V d (qL i) (sL i), .dma cc1_scoped0.sem) 0 ∗ semVal (V d (qL i) (sL i), .dma cc1_scoped1.sem) 0
     ∗ semVal (V d (qL i) (sL i), .dma cc1_scoped2.sem) 0 ∗ semVal (V d (qL i) (sL i), .dma cc1_scoped3.sem) 0
     ∗ semVal (V d (qL i) (sL i), .dma cc1_scoped6.sem) 0 ∗ semVal (V d (qL i) (sL i), .dma cc1_scoped7.sem) 0
     ∗ semVal (V d (qL i) (sL i), .dma cc1_scoped8.sem) 0
     ∗ semVal (V d (qL i) (sL i), .dma cc1_scratch5.sem) 0 ∗ semVal (V d (qL i) (sL i), .dma cc1_scratch6.sem) 0
     ∗ owes (V d (qL i) (sL i)) (O + oxV d (qL i)) W)
    ⊢ wp frame (wpE (defs₀ (F := F)) 𝒱₀ (V d (qL i) (sL i)) none) Set.univ (cc1__write_body (F := F) i kpV (Memref.isWhole_whole _) vpV (Memref.isWhole_whole _) ageV (Memref.isWhole_whole _) idxV (Memref.isWhole_whole _) decV (Memref.isWhole_whole _) qnV (Memref.isWhole_whole _) vtV (Memref.isWhole_whole _) okV (Memref.isWhole_whole _) ovV (Memref.isWhole_whole _) oaV (Memref.isWhole_whole _) sI (Memref.isWhole_whole _) sD (Memref.isWhole_whole _) sR (Memref.isWhole_whole _) sS (Memref.isWhole_whole _) sA (Memref.isWhole_whole _) cc1_scratch5 cc1_scratch6 cc1_scoped0 cc1_scoped1 cc1_scoped2 cc1_scoped3 cc1_scoped4 cc1_scoped5 cc1_scoped6 cc1_scoped7 cc1_scoped8 cc1_scoped9) fun _ => iprop(
     ((kpV).view.loc (V d (qL i) (sL i)) ↦{q} (Tb d).kp) ∗ ((qnV).view.loc (V d (qL i) (sL i)) ↦{q} (Tb d).qn)
     ∗ ((ageV).view.loc (V d (qL i) (sL i)) ↦{q} (Tb d).age)
     ∗ ((idxV).view.loc (V d (qL i) (sL i)) ↦{q'} (Tb d).idx) ∗ ((decV).view.loc (V d (qL i) (sL i)) ↦{q'} (Tb d).dec)
     ∗ (okPts d (named (Tb d).idx (i 1).val) (newK (Tb d)) ∗ okPts d (rest (Tb d).idx 6256 (i 1).val) (newK (Tb d)))
     ∗ (oaPts d (named (Tb d).idx (i 1).val) (newA (Tb d)) ∗ oaPts d (rest (Tb d).idx 6400 (i 1).val) (newA (Tb d)))
     ∗ (∃ f, (V d (qL i) (sL i)).loc cc1_scratch0 ↦{fullShare} f) ∗ (∃ f, (V d (qL i) (sL i)).loc cc1_scratch1 ↦{fullShare} f)
     ∗ (∃ f, (V d (qL i) (sL i)).loc cc1_scratch2 ↦{fullShare} f) ∗ (∃ f, (V d (qL i) (sL i)).loc cc1_scratch3 ↦{fullShare} f) ∗ (∃ f, (V d (qL i) (sL i)).loc cc1_scratch4 ↦{fullShare} f)
     ∗ semVal (V d (qL i) (sL i), .dma cc1_scoped0.sem) 0 ∗ semVal (V d (qL i) (sL i), .dma cc1_scoped1.sem) 0
     ∗ semVal (V d (qL i) (sL i), .dma cc1_scoped2.sem) 0 ∗ semVal (V d (qL i) (sL i), .dma cc1_scoped3.sem) 0
     ∗ semVal (V d (qL i) (sL i), .dma cc1_scoped6.sem) 0 ∗ semVal (V d (qL i) (sL i), .dma cc1_scoped7.sem) 0
     ∗ semVal (V d (qL i) (sL i), .dma cc1_scoped8.sem) 0
     ∗ semVal (V d (qL i) (sL i), .dma cc1_scratch5.sem) 0 ∗ semVal (V d (qL i) (sL i), .dma cc1_scratch6.sem) 0
     ∗ semVal (bcell d (qL i) (sL i)) 0
     ∗ ∃ W', ⌜∀ p ∈ W', p ∈ W ∨ p.2 = none ∨ p.2 = some (0 : Fin 1)⌝ ∗ owes (V d (qL i) (sL i)) O W') := by
  have hO' : ∀ g, (O + oxV d (qL i)) g none = 0 := fun g => by rw [Pi.add_apply, Finsupp.add_apply, hO g, oxV_none]
  rw [cc1__write_body_eq_skeleton]; unfold cc1__write_body_skel
  rw [k1_part22_eq_skeleton]; unfold k1_part22_skel
  rcases hj with ⟨hj, h5, h6⟩ | ⟨hj, h5, h6⟩
  rw [dif_pos h1, dif_pos h5]
  iintro ⟨#Hlv, Hb, Hv, Ht, Ha, Hi, Hd, Hok, Hoa, HI, HD, HR, HS, HA, H4, H5, H2, H3, H6, H7, H9, Hg, Hn, HO⟩
  ihave Hmw := (show levAts (K (F := F)).L (K (F := F)).lev ⊢ Transfers.MayWaits (V d (qL i) (sL i)) (default : HIx 1) (O + oxV d (qL i)) from
    (K (F := F)).mayWaits_none (thr := V d (qL i) (sL i)) hO') $$ Hlv
  ihave Hok' := (Entails.of_eq (ok_start d (qL i) (sL i) (Rect.unit (s := S100000x128) (k1_off1 i) S6256x128.size (k1_off1_inb i h1 h5)) (fun _ => rfl)
    (set_blk (i 1).val (k1_off1_eq i) _) _).symm) $$ Hok
  ihave Hoa' := (Entails.of_eq (oa_start d (qL i) (sL i) (Rect.unit (s := S102400) (k1_off3 i) S6400.size (k1_off3_inb i h1)) (fun _ => rfl)
    (set_age (i 1).val (k1_off3_eq i) _) _).symm) $$ Hoa
  sl_exec
  ihave HA := (Entails.of_eq (pts_fetched d (qL i) (sL i) cc1_scratch4 _
    (fun y => (Tb d).age ((Rect.unit (s := S102400) (k1_off3 i) S6400.size (k1_off3_inb i h1)).emb y)) _ (by sl_unfold_words; rfl))) $$ HA
  ihave HA' := (Entails.of_eq (ownV_whole d (qL i) (sL i) cc1_scratch4 _).symm) $$ HA
  iapply (wp_then d (qL i) (sL i) _ _ _ _ _ (wp_t1 d i kpV (Memref.isWhole_whole _) vpV (Memref.isWhole_whole _) ageV (Memref.isWhole_whole _) idxV (Memref.isWhole_whole _) decV (Memref.isWhole_whole _) qnV (Memref.isWhole_whole _) vtV (Memref.isWhole_whole _) okV (Memref.isWhole_whole _) ovV (Memref.isWhole_whole _) oaV (Memref.isWhole_whole _) sI (Memref.isWhole_whole _) sD (Memref.isWhole_whole _) sR (Memref.isWhole_whole _) sS (Memref.isWhole_whole _) sA (Memref.isWhole_whole _) cc1_scratch5 cc1_scratch6 cc1_scoped0 cc1_scoped1 cc1_scoped2 cc1_scoped3 cc1_scoped4 cc1_scoped5 cc1_scoped6 cc1_scoped7 cc1_scoped8 cc1_scoped9 h1 _))
  isplitl [HA']; · iexact HA'
  iintro HA'
  ihave HA := (Entails.of_eq (ownV_whole d (qL i) (sL i) cc1_scratch4 _)) $$ HA'
  sl_exec
  ihave Hoa := (Entails.of_eq (oa_copied d (qL i) (sL i) (Rect.unit (s := S102400) (k1_off3 i) S6400.size (k1_off3_inb i h1)) (fun _ => rfl)
    (set_age (i 1).val (k1_off3_eq i) _) _ (Tb d).age _ (by sl_unfold_words; exact fun y => agesAt_all (fun y => (Tb d).age ((Rect.unit (s := S102400) _ S6400.size _).emb y)) y))) $$ Hoa'
  ihave Hok := (Entails.of_eq (ok_copied d (qL i) (sL i) (Rect.unit (s := S100000x128) (k1_off1 i) S6256x128.size (k1_off1_inb i h1 h5)) (fun _ => rfl)
    (set_blk (i 1).val (k1_off1_eq i) _) _ (Tb d).kp _ (by sl_unfold_words; rfl))) $$ Hok'
  rotate_left
  rw [dif_pos h1, dif_neg h5]
  iintro ⟨#Hlv, Hb, Hv, Ht, Ha, Hi, Hd, Hok, Hoa, HI, HD, HR, HS, HA, H4, H5, H2, H3, H6, H7, H9, Hg, Hn, HO⟩
  ihave Hmw := (show levAts (K (F := F)).L (K (F := F)).lev ⊢ Transfers.MayWaits (V d (qL i) (sL i)) (default : HIx 1) (O + oxV d (qL i)) from
    (K (F := F)).mayWaits_none (thr := V d (qL i) (sL i)) hO') $$ Hlv
  ihave Hok' := (Entails.of_eq (ok_start d (qL i) (sL i) (Rect.unit (s := S100000x128) (k1_off2 i) S6160x128.size (k1_off2_inb i h1 h6)) (fun _ => rfl)
    (set_last (i 1).val hj (k1_off2_eq i) _) _).symm) $$ Hok
  ihave Hoa' := (Entails.of_eq (oa_start d (qL i) (sL i) (Rect.unit (s := S102400) (k1_off3 i) S6400.size (k1_off3_inb i h1)) (fun _ => rfl)
    (set_age (i 1).val (k1_off3_eq i) _) _).symm) $$ Hoa
  sl_exec
  ihave HA := (Entails.of_eq (pts_fetched d (qL i) (sL i) cc1_scratch4 _
    (fun y => (Tb d).age ((Rect.unit (s := S102400) (k1_off3 i) S6400.size (k1_off3_inb i h1)).emb y)) _ (by sl_unfold_words; rfl))) $$ HA
  ihave HA' := (Entails.of_eq (ownV_whole d (qL i) (sL i) cc1_scratch4 _).symm) $$ HA
  iapply (wp_then d (qL i) (sL i) _ _ _ _ _ (wp_t1 d i kpV (Memref.isWhole_whole _) vpV (Memref.isWhole_whole _) ageV (Memref.isWhole_whole _) idxV (Memref.isWhole_whole _) decV (Memref.isWhole_whole _) qnV (Memref.isWhole_whole _) vtV (Memref.isWhole_whole _) okV (Memref.isWhole_whole _) ovV (Memref.isWhole_whole _) oaV (Memref.isWhole_whole _) sI (Memref.isWhole_whole _) sD (Memref.isWhole_whole _) sR (Memref.isWhole_whole _) sS (Memref.isWhole_whole _) sA (Memref.isWhole_whole _) cc1_scratch5 cc1_scratch6 cc1_scoped0 cc1_scoped1 cc1_scoped2 cc1_scoped3 cc1_scoped4 cc1_scoped5 cc1_scoped6 cc1_scoped7 cc1_scoped8 cc1_scoped9 h1 _))
  isplitl [HA']; · iexact HA'
  iintro HA'
  ihave HA := (Entails.of_eq (ownV_whole d (qL i) (sL i) cc1_scratch4 _)) $$ HA'
  sl_exec
  ihave Hoa := (Entails.of_eq (oa_copied d (qL i) (sL i) (Rect.unit (s := S102400) (k1_off3 i) S6400.size (k1_off3_inb i h1)) (fun _ => rfl)
    (set_age (i 1).val (k1_off3_eq i) _) _ (Tb d).age _ (by sl_unfold_words; exact fun y => agesAt_all (fun y => (Tb d).age ((Rect.unit (s := S102400) _ S6400.size _).emb y)) y))) $$ Hoa'
  ihave Hok := (Entails.of_eq (ok_copied d (qL i) (sL i) (Rect.unit (s := S100000x128) (k1_off2 i) S6160x128.size (k1_off2_inb i h1 h6)) (fun _ => rfl)
    (set_last (i 1).val hj (k1_off2_eq i) _) _ (Tb d).kp _ (by sl_unfold_words; rfl))) $$ Hok'
  all_goals
    ihave Hok2 := (Entails.of_eq (ok_out d hi (i 1).val _)) $$ Hok
    icases Hok2 with ⟨Hrest, Hpay⟩
    ihave Hoa2 := (Entails.of_eq (oa_out d hi (i 1).val _)) $$ Hoa
    icases Hoa2 with ⟨Hresta, Hpaya⟩
    iapply (wp_barK d Tb i hl hq O _ hOlev _ _)
    isplitr; · iexact Hlv
    isplitl [Hb]; · iexact Hb
    isplitl [Hpay Hpaya]
    · isplitl [Hpay]; · iexact Hpay
      iexact Hpaya
    isplitl [HO]; · iexact HO
    iintro ⟨HO, Hbar, Hnamed, Hnameda⟩
    ihave Hmw := (show levAts (K (F := F)).L (K (F := F)).lev ⊢ Transfers.MayWaits (V d (qL i) (sL i)) (default : HIx 1) O from
      (K (F := F)).mayWaits_none (thr := V d (qL i) (sL i)) hO) $$ Hlv
    sl_exec
    ihave HI := (Entails.of_eq (pts_fetched d (qL i) (sL i) cc1_scratch0 _ (idxB (Tb d).idx (i 1)) _
      (by sl_unfold_words; exact funext fun y => congrArg (Tb d).idx (emb_part1 (i 1) (k1_off7_eq i) _ y)))) $$ HI
    ihave HD := (Entails.of_eq (pts_fetched d (qL i) (sL i) cc1_scratch1 _ (decB (Tb d).dec (i 1)) _
      (by sl_unfold_words; exact funext fun y => congrArg (Tb d).dec (emb_part1 (i 1) (k1_off7_eq i) _ y)))) $$ HD
    have hin : ∀ j, ((sI).view.read (Elt F) (idxB (Tb d).idx (i 1)) j).toNat < S100000x128.size gathers_S100000x128_S64x128.axis := fun j => hl _
    sl_exec
    ihave HR := (Entails.of_eq (pts_written d (qL i) (sL i) cc1_scratch2 _ (rowsB hl (Tb d).kp (i 1)) _
      (by sl_unfold_words; exact funext fun z => gathered hl (i 1) (Tb d).kp gathers_S100000x128_S64x128 _ _ (fun k => rows_part (Tb d).idx (i 1) rfl hin k) z))) $$ HR
    ihave HS := (Entails.of_eq (pts_fetched d (qL i) (sL i) cc1_scratch3 _ (srcB (Tb d).qn (i 1)) _
      (by sl_unfold_words; exact funext fun z => congrArg (Tb d).qn (emb_part2 (i 1) (k1_off8_eq i) _ z)))) $$ HS
    ihave HR' := (Entails.of_eq (ownV_whole d (qL i) (sL i) cc1_scratch2 _).symm) $$ HR
    ihave HS' := (Entails.of_eq (ownV_whole d (qL i) (sL i) cc1_scratch3 _).symm) $$ HS
    ihave HD' := (Entails.of_eq (ownV_whole d (qL i) (sL i) cc1_scratch1 _).symm) $$ HD
    iapply (wp_then_in d (qL i) (sL i) _ _ _ _ _ _ (wp_t2 d i kpV (Memref.isWhole_whole _) vpV (Memref.isWhole_whole _) ageV (Memref.isWhole_whole _) idxV (Memref.isWhole_whole _) decV (Memref.isWhole_whole _) qnV (Memref.isWhole_whole _) vtV (Memref.isWhole_whole _) okV (Memref.isWhole_whole _) ovV (Memref.isWhole_whole _) oaV (Memref.isWhole_whole _) sI (Memref.isWhole_whole _) sD (Memref.isWhole_whole _) sR (Memref.isWhole_whole _) sS (Memref.isWhole_whole _) sA (Memref.isWhole_whole _) cc1_scratch5 cc1_scratch6 cc1_scoped0 cc1_scoped1 cc1_scoped2 cc1_scoped3 cc1_scoped4 cc1_scoped5 cc1_scoped6 cc1_scoped7 cc1_scoped8 cc1_scoped9 h7 _ _ _))
    isplitl [HR' HS' HD']
    · isplitl [HD']; · iexact HD'
      isplitl [HR']; · iexact HR'
      iexact HS'
    iintro ⟨HD', HR', HS'⟩
    ihave HR := (Entails.of_eq (ownV_whole d (qL i) (sL i) cc1_scratch2 _)) $$ HR'
    ihave HS := (Entails.of_eq (ownV_whole d (qL i) (sL i) cc1_scratch3 _)) $$ HS'
    ihave HD := (Entails.of_eq (ownV_whole d (qL i) (sL i) cc1_scratch1 _)) $$ HD'
    have hinj : Function.Injective fun j => ((sI).view.read (Elt F) (idxB (Tb d).idx (i 1)) j).toNat := fun y y' h => by
      have h2 := congrArg Fin.val (hi h)
      funext a
      fin_cases a
      refine Fin.ext ?_
      simpa [part] using h2
    have hown : ∀ j, named (Tb d).idx (i 1).val ((sI).view.read (Elt F) (idxB (Tb d).idx (i 1)) j).toNat := fun y => named_part _ (i 1) (y 0)
    have hin' : ∀ j, ((sI).view.read (Elt F) (idxB (Tb d).idx (i 1)) j).toNat < S102400.size gathers_S102400_S64.axis := fun j => (hl _).trans (by decide)
    ihave Hna := (Entails.of_eq (oa_where d (qL i) (sL i) inb_S102400_S102400_0 _ _)) $$ Hnameda
    ihave Hnm := (Entails.of_eq (ok_where d (qL i) (sL i) inb_S100000x128_S100000x128_0_0 _ _)) $$ Hnamed
    sl_exec
    ihave Hnamed := (Entails.of_eq (ok_where d (qL i) (sL i) inb_S100000x128_S100000x128_0_0 _ _).symm) $$ Hnm
    ihave Hnamed := (Entails.of_eq (ok_scattered (d := d) (c := qL i) (j' := sL i) hi hl (Tb d).dec (Tb d).qn (Tb d).kp (i 1) gathers_S100000x128_S64x128
      inb_S100000x128_S100000x128_0_0 _ (fun k => rows_part (Tb d).idx (i 1) rfl hin k) (Tb d).kp _ (by sl_unfold_words; rfl))) $$ Hnamed
    ihave Hrest := (Entails.of_eq (ok_rest (d := d) (Tb d).dec (Tb d).qn (Tb d).kp 6256 (i 1).val)) $$ Hrest
    ihave Hnameda := (Entails.of_eq (oa_where d (qL i) (sL i) inb_S102400_S102400_0 _ _).symm) $$ Hna
    ihave Hnameda := (Entails.of_eq (oa_scattered (d := d) (c := qL i) (j' := sL i) hi (Tb d).age (i 1) gathers_S102400_S64
      inb_S102400_S102400_0 inb_S6400_S64_0 _ (fun k => rows_part (Tb d).idx (i 1) rfl hin' k) _ (ones_fill _) _ _ (by sl_unfold_words; rfl))) $$ Hnameda
    ihave Hresta := (Entails.of_eq (oa_rest (d := d) (idx := (Tb d).idx) (Tb d).age 6400 (i 1).val)) $$ Hresta
    sl_step
    isplitl [Hv]; · iexact Hv
    isplitl [Ht]; · iexact Ht
    isplitl [Ha]; · iexact Ha
    isplitl [Hi]; · iexact Hi
    isplitl [Hd]; · iexact Hd
    isplitl [Hnamed Hrest]
    · isplitl [Hnamed]; · iexact Hnamed
      iexact Hrest
    isplitl [Hnameda Hresta]
    · isplitl [Hnameda]; · iexact Hnameda
      iexact Hresta
    isplitl [HI]; · iexists _; iexact HI
    isplitl [HD]; · iexists _; iexact HD
    isplitl [HR]; · iexists _; iexact HR
    isplitl [HS]; · iexists _; iexact HS
    isplitl [HA]; · iexists _; iexact HA
    isplitl [H4]; · iexact H4
    isplitl [H5]; · iexact H5
    isplitl [H2]; · iexact H2
    isplitl [H3]; · iexact H3
    isplitl [H6]; · iexact H6
    isplitl [H7]; · iexact H7
    isplitl [H9]; · iexact H9
    isplitl [Hg]; · iexact Hg
    isplitl [Hn]; · iexact Hn
    isplitl [Hbar]; · iexact Hbar
    iexists _
    isplitr
    rotate_left
    · iexact HO
    · ipureintro
      intro p hp
      repeat (rcases Finset.mem_insert.mp hp with rfl | hp; · first | exact .inr (.inl rfl) | exact .inr (.inr rfl))
      exact .inl hp

end Cert.Proof
end
-- ==== Proof.Tile.lean ====
module

public import proofs.«01_k».proof.Proof.TileV
public import proofs.«01_k».proof.Proof.TileK

/-! A tile of either core, from what the launch hands it to what it hands back. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (ownCells ownRefs ownSems0 ownBufs mem_ownCells)
open Idealize.ShloMosaic.Pipeline (Dat Cfg Window BodyObligation cellOf)

variable {F : FTy → Type} [FloatOps F]

local notation "kpV" => (Memref.whole Cert.KernelIdeal.main_v6_scv : Memref Cert.KernelIdeal.sig Kind.scVector Space.hbm Cert.KernelIdeal.S100000x128 EltTy.f32)
local notation "vpV" => (Memref.whole Cert.KernelIdeal.main_v7_scv : Memref Cert.KernelIdeal.sig Kind.scVector Space.hbm Cert.KernelIdeal.S100000x128 EltTy.f32)
local notation "ageV" => (Memref.whole Cert.KernelIdeal.main_v5_scv : Memref Cert.KernelIdeal.sig Kind.scVector Space.hbm Cert.KernelIdeal.S102400 EltTy.f32)
local notation "idxV" => (Memref.whole Cert.KernelIdeal.main_indices_scv : Memref Cert.KernelIdeal.sig Kind.scVector Space.hbm Cert.KernelIdeal.S1024 EltTy.i32)
local notation "decV" => (Memref.whole Cert.KernelIdeal.main_v4_scv : Memref Cert.KernelIdeal.sig Kind.scVector Space.hbm Cert.KernelIdeal.S1024 EltTy.f32)
local notation "qnV" => (Memref.whole Cert.KernelIdeal.main_v2_2_scv : Memref Cert.KernelIdeal.sig Kind.scVector Space.hbm Cert.KernelIdeal.S1024x64 EltTy.f32)
local notation "vtV" => (Memref.whole Cert.KernelIdeal.main_arg1_scv : Memref Cert.KernelIdeal.sig Kind.scVector Space.hbm Cert.KernelIdeal.S1024x64 EltTy.f32)
local notation "okV" => (Memref.whole Cert.KernelIdeal.main_v8_0_scv : Memref Cert.KernelIdeal.sig Kind.scVector Space.hbm Cert.KernelIdeal.S100000x128 EltTy.f32)
local notation "ovV" => (Memref.whole Cert.KernelIdeal.main_v8_1_scv : Memref Cert.KernelIdeal.sig Kind.scVector Space.hbm Cert.KernelIdeal.S100000x128 EltTy.f32)
local notation "oaV" => (Memref.whole Cert.KernelIdeal.main_v8_2_scv : Memref Cert.KernelIdeal.sig Kind.scVector Space.hbm Cert.KernelIdeal.S102400 EltTy.f32)
local notation "sI" => (Memref.whole Cert.KernelIdeal.cc1_scratch0 : Memref Cert.KernelIdeal.sig Kind.scVector Space.vmem Cert.KernelIdeal.S64 EltTy.i32)
local notation "sD" => (Memref.whole Cert.KernelIdeal.cc1_scratch1 : Memref Cert.KernelIdeal.sig Kind.scVector Space.vmem Cert.KernelIdeal.S64 EltTy.f32)
local notation "sR" => (Memref.whole Cert.KernelIdeal.cc1_scratch2 : Memref Cert.KernelIdeal.sig Kind.scVector Space.vmem Cert.KernelIdeal.S64x128 EltTy.f32)
local notation "sS" => (Memref.whole Cert.KernelIdeal.cc1_scratch3 : Memref Cert.KernelIdeal.sig Kind.scVector Space.vmem Cert.KernelIdeal.S64x64 EltTy.f32)
local notation "sA" => (Memref.whole Cert.KernelIdeal.cc1_scratch4 : Memref Cert.KernelIdeal.sig Kind.scVector Space.vmem Cert.KernelIdeal.S6400 EltTy.f32)

/-! ### The kernel's conditions -/

theorem cond1_of (i : grid1.Coords) (h : (i 0).val = 0) : k1_cond1 i = 1#1 := by unfold k1_cond1; rw [h]; rfl
theorem cond1_of_not (i : grid1.Coords) (h : (i 0).val = 1) : ¬ k1_cond1 i = 1#1 := by unfold k1_cond1; rw [h]; decide
theorem cond7_of (i : grid1.Coords) (h : (i 0).val = 0) : k1_cond7 i = 1#1 := by unfold k1_cond7; rw [h]; rfl
theorem cond7_of_not (i : grid1.Coords) (h : (i 0).val = 1) : ¬ k1_cond7 i = 1#1 := by unfold k1_cond7; rw [h]; decide
theorem cond4_of (i : grid1.Coords) (h : (i 0).val = 1) : k1_cond4 i = 1#1 := by unfold k1_cond4; rw [h]; rfl
theorem cond4_of_not (i : grid1.Coords) (h : (i 0).val = 0) : ¬ k1_cond4 i = 1#1 := by unfold k1_cond4; rw [h]; decide
theorem cond8_of (i : grid1.Coords) (h : (i 0).val = 1) : k1_cond8 i = 1#1 := by unfold k1_cond8; rw [h]; rfl
theorem cond8_of_not (i : grid1.Coords) (h : (i 0).val = 0) : ¬ k1_cond8 i = 1#1 := by unfold k1_cond8; rw [h]; decide

theorem conds_key (i : grid1.Coords) :
    ((i 1).val < 15 ∧ k1_cond2 i = 1#1 ∧ ¬ k1_cond3 i = 1#1) ∨ ((i 1).val = 15 ∧ ¬ k1_cond2 i = 1#1 ∧ k1_cond3 i = 1#1) := by
  have hlt : (i 1).val < 16 := (i 1).isLt
  unfold k1_cond2 k1_cond3
  generalize (i 1).val = n at hlt ⊢
  interval_cases n <;> decide
theorem conds_val (i : grid1.Coords) :
    ((i 1).val < 15 ∧ k1_cond5 i = 1#1 ∧ ¬ k1_cond6 i = 1#1) ∨ ((i 1).val = 15 ∧ ¬ k1_cond5 i = 1#1 ∧ k1_cond6 i = 1#1) := by
  have hlt : (i 1).val < 16 := (i 1).isLt
  unfold k1_cond5 k1_cond6
  generalize (i 1).val = n at hlt ⊢
  interval_cases n <;> decide

/-! ### The tile's own buffers and semaphores -/

/-- A separating conjunction over a list of two or more. -/
theorem bigSepL_two {I : Type} (i j : I) (l : List I) (Φ : I → sProp (𝕄 F)) : bigSepL (i :: j :: l) Φ = iprop(Φ i ∗ bigSepL (j :: l) Φ) := rfl

/-- The semaphores the kernel's copies signal. -/
abbrev semsV : List (SemLoc sig) :=
  [.dma cc1_scoped0.sem, .dma cc1_scoped1.sem, .dma cc1_scoped2.sem, .dma cc1_scoped3.sem, .dma cc1_scoped4.sem, .dma cc1_scoped5.sem, .dma cc1_scoped6.sem,
    .dma cc1_scoped7.sem, .dma cc1_scoped8.sem, .dma cc1_scoped9.sem, .dma cc1_scratch5.sem, .dma cc1_scratch6.sem]
/-- The kernel's scratch buffers. -/
abbrev refsV : List (Ref sig .scVector) := [cc1_scratch0, cc1_scratch1, cc1_scratch2, cc1_scratch3, cc1_scratch4]

theorem semsV_nodup : semsV.Nodup := by decide
theorem semsV_scoped : ∀ s ∈ semsV, s.isScoped .scVector = true := by decide
theorem refsV_nodup : refsV.Nodup := by decide
theorem refsV_own (c : Fin τ.nSC) (j : Fin τ.nSub) : ∀ r ∈ refsV, ((Proc.scVector c j).devRef r : DevRef τ sig).owner = .proc (.scVector c j) := by
  intro r hr
  fin_cases hr <;> rfl

/-- The tile's semaphores beside those. -/
def semRest (d : Dev nD) (c : Fin τ.nSC) (j : Fin τ.nSub) : sProp (𝕄 F) :=
  bigSep (ownCells (V d c j) \ (semsV.toFinset.image fun s => ((V d c j, s) : GSem nD τ sig))) fun g => semVal g 0
/-- The tile's buffers beside those. -/
def bufRest (d : Dev nD) (c : Fin τ.nSC) (j : Fin τ.nSub) : sProp (𝕄 F) :=
  bigSep (ownRefs (τ := τ) (sig := sig) (.scVector c j) \ (refsV.toFinset.image fun r => ((Proc.scVector c j).devRef r : DevRef τ sig)))
    fun b => iprop(∃ f, ((d, b) : Loc nD τ sig) ↦{fullShare} f)

theorem sems_split (d : Dev nD) (c : Fin τ.nSC) (j : Fin τ.nSub) :
    (ownSems0 (V d c j) : sProp (𝕄 F)) = iprop(bigSepL semsV (fun s => semVal (V d c j, s) 0) ∗ semRest d c j) := by
  have hsub : (semsV.toFinset.image fun s => ((V d c j, s) : GSem nD τ sig)) ⊆ ownCells (V d c j) := by
    intro g hg
    obtain ⟨s, hs, rfl⟩ := Finset.mem_image.mp hg
    exact mem_ownCells.mpr ⟨rfl, semsV_scoped s (List.mem_toFinset.mp hs)⟩
  unfold SparseCore.Cfg.ownSems0 semRest
  conv_lhs => rw [← Finset.union_sdiff_of_subset hsub]
  rw [bigSep_union Finset.disjoint_sdiff, SparseCore.bigSep_image_of_injOn (fun a _ b _ e => (Prod.mk.inj e).2), bigSep_eq_bigSepL semsV semsV_nodup]
  rfl

theorem bufs_split (d : Dev nD) (c : Fin τ.nSC) (j : Fin τ.nSub) :
    (ownBufs (V d c j) : sProp (𝕄 F)) = iprop(bigSepL refsV (fun r => iprop(∃ f, (V d c j).loc r ↦{fullShare} f)) ∗ bufRest d c j) := by
  have hsub : (refsV.toFinset.image fun r => ((Proc.scVector c j).devRef r : DevRef τ sig)) ⊆ ownRefs (τ := τ) (sig := sig) (.scVector c j) := by
    intro g hg
    obtain ⟨s, hs, rfl⟩ := Finset.mem_image.mp hg
    exact SparseCore.Cfg.mem_ownRefs_of_owner (refsV_own c j s (List.mem_toFinset.mp hs))
  unfold SparseCore.Cfg.ownBufs bufRest
  conv_lhs => rw [← Finset.union_sdiff_of_subset hsub]
  rw [bigSep_union Finset.disjoint_sdiff, SparseCore.bigSep_image_of_injOn (fun a _ b _ e => Proc.devRef_injective _ e), bigSep_eq_bigSepL refsV refsV_nodup]
  rfl

/-! ### The tiles -/

variable (d : Dev nD) (i : grid1.Coords) (Tb : Dev nD → Tab F)

/-- What a tile is handed: the first core's tiles the keys' side, the second's the values'. -/
def goAt (c : ℕ) (T : Tab F) (d : Dev nD) (j : Fin 16) : sProp (𝕄 F) := if c = 0 then goK T d j else goV T d j
/-- What a tile hands back. -/
def tdAt (c : ℕ) (T : Tab F) (d : Dev nD) (j : Fin 16) : sProp (𝕄 F) := if c = 0 then tdK T d j else tdV T d j

/-- A tile's run, of either core. -/
theorem tile_body (hF : (K (F := F)).Facts) (hi : Distinct (Tb d).idx) (hl : Below (Tb d).idx)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit Tb d (qL i) (sL i) ∗ goAt (i 0).val (Tb d) d (i 1)
        ∗ scopedBufs (V d (qL i) (sL i)) ∗ scopedSems0 (V d (qL i) (sL i)) ∗ owes (V d (qL i) (sL i)) (O + oxV d (qL i)) W)
      ⊢ wp frame (wpE (defs₀ (F := F)) 𝒱₀ (V d (qL i) (sL i)) none) Set.univ (cc1__write_body (F := F) i kpV (Memref.isWhole_whole _) vpV (Memref.isWhole_whole _) ageV (Memref.isWhole_whole _) idxV (Memref.isWhole_whole _) decV (Memref.isWhole_whole _) qnV (Memref.isWhole_whole _) vtV (Memref.isWhole_whole _) okV (Memref.isWhole_whole _) ovV (Memref.isWhole_whole _) oaV (Memref.isWhole_whole _) sI (Memref.isWhole_whole _) sD (Memref.isWhole_whole _) sR (Memref.isWhole_whole _) sS (Memref.isWhole_whole _) sA (Memref.isWhole_whole _) cc1_scratch5 cc1_scratch6 cc1_scoped0 cc1_scoped1 cc1_scoped2 cc1_scoped3 cc1_scoped4 cc1_scoped5 cc1_scoped6 cc1_scoped7 cc1_scoped8 cc1_scoped9)
          fun _ => iprop((tdAt (i 0).val (Tb d) d (i 1) ∗ semVal (bcell d (qL i) (sL i)) 0)
            ∗ scopedBufs (V d (qL i) (sL i)) ∗ scopedSems0 (V d (qL i) (sL i))
            ∗ ∃ W', ⌜∀ p ∈ W', p ∈ W ∨ p.2 = none ∨ p.2 = some (0 : Fin 1)⌝ ∗ owes (V d (qL i) (sL i)) O W') := by
  have h2 : (i 0).val = 0 ∨ (i 0).val = 1 := by
    have : (i 0).val < 2 := (i 0).isLt
    omega
  rw [(K (F := F)).scopedBufs_V hF d (qL i) (sL i), SparseCore.Cfg.scopedSems0_V (Val := Elt F) d (qL i) (sL i), sems_split, bufs_split]
  simp only [semsV, refsV, bigSepL_two, bigSepL_singleton]
  unfold goAt tdAt
  rcases h2 with h0 | h0
  · rw [if_pos h0, if_pos h0]
    iintro ⟨#Hlv, Hb, ⟨⟨Hi, Hd⟩, ⟨Hkp, Hage, Hqn⟩, Hok, Hoa⟩, ⟨⟨⟨%f0, H0⟩, ⟨%f1, H1⟩, ⟨%f2, H2⟩, ⟨%f3, H3⟩, ⟨%f4, H4⟩⟩, Hbr⟩, ⟨⟨S0, S1, S2, S3, S4, S5, S6, S7, S8, S9, SG, SN⟩, Hsr⟩, HO⟩
    iapply (wp_wand_r (Fr := frame) (wpE := wpE (defs₀ (F := F)) 𝒱₀ (V d (qL i) (sL i)) none))
    isplitr [S4 S5 S9 Hbr Hsr]
    · iapply (tile_key d i Tb hi hl (q1 (i 1)) (q2 0 (i 1)) h0 (cond1_of i h0) (cond4_of_not i h0) (cond7_of i h0) (cond8_of_not i h0) (conds_key i) O W hO hOlev f0 f1 f2 f3 f4)
      isplitr; · iexact Hlv
      iframe
    · iintro %_ ⟨Hkp, Hqn, Hage, Hi, Hd, Hok, Hoa, H0, H1, H2, H3, H4, S0, S1, S2, S3, S6, S7, S8, SG, SN, Hbar, HO⟩
      iframe
      isplitl [Hi Hd]
      · isplitl [Hi]; · iexact Hi
        iexact Hd
      isplitl [Hkp Hqn Hage]
      · isplitl [Hkp]; · iexact Hkp
        isplitl [Hage]; · iexact Hage
        iexact Hqn
      isplitl [Hok]; · iexact Hok
      iexact Hoa
  · have hne : ¬ (i 0).val = 0 := by omega
    rw [if_neg hne, if_neg hne]
    iintro ⟨#Hlv, Hb, ⟨⟨Hi, Hd⟩, ⟨Hvp, Hvt⟩, Hov⟩, ⟨⟨⟨%f0, H0⟩, ⟨%f1, H1⟩, ⟨%f2, H2⟩, ⟨%f3, H3⟩, H4⟩, Hbr⟩, ⟨⟨S0, S1, S2, S3, S4, S5, S6, S7, S8, S9, SG, SN⟩, Hsr⟩, HO⟩
    iapply (wp_wand_r (Fr := frame) (wpE := wpE (defs₀ (F := F)) 𝒱₀ (V d (qL i) (sL i)) none))
    isplitr [S0 S1 S2 S3 S8 SN H4 Hbr Hsr]
    · iapply (tile_val d i Tb hi hl (q1 (i 1)) (q2 1 (i 1)) h0 (cond1_of_not i h0) (cond4_of i h0) (cond7_of_not i h0) (cond8_of i h0) (conds_val i) O W hO hOlev f0 f1 f2 f3)
      isplitr; · iexact Hlv
      iframe
    · iintro %_ ⟨Hvp, Hvt, Hi, Hd, Hov, H0, H1, H2, H3, S4, S5, S6, S7, S9, SG, Hbar, HO⟩
      iframe
      isplitl [Hi Hd]
      · isplitl [Hi]; · iexact Hi
        iexact Hd
      isplitl [Hvp Hvt]
      · isplitl [Hvp]; · iexact Hvp
        iexact Hvt
      iexact Hov

end Cert.Proof
end
-- ==== Proof.Split.lean ====
module

public import proofs.«01_k».proof.Proof.Shares

/-! What a core is handed, split among its tiles, and what its tiles hand back, joined. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-- A resource of rows that splits along any partition of the rows splits into the blocks. -/
theorem whole_blocks {X : (ℕ → Prop) → sProp (𝕄 F)} {N : ℕ} (b : ℕ) (hb : N ≤ 16 * b)
    (fam : ∀ {ι : Type} [Fintype ι] [DecidableEq ι] {p : ℕ → Prop} {P : ι → ℕ → Prop}, (∀ n, n < N → (p n ↔ ∃ i, P i n)) →
      (∀ i j, i ≠ j → ∀ n, P i n → P j n → False) → X p = bigSep Finset.univ fun i => X (P i)) :
    X (fun _ => True) = bigSep Finset.univ fun i : Fin 16 => X (inBlock b i.val) :=
  fam (fun n hn => ⟨fun _ => ⟨⟨n / b, Nat.div_lt_of_lt_mul (by omega)⟩, rfl⟩, fun _ => trivial⟩)
    fun i j h n hi hj => h (Fin.ext (hi.symm.trans hj))

/-- and into, for each tile, the rows its part of the list names and the rows of its block nobody names. -/
theorem whole_parts {X : (ℕ → Prop) → sProp (𝕄 F)} {N : ℕ} (b : ℕ) (hb : N ≤ 16 * b) {idx : Vec F S1024 .i32} (hi : Distinct idx)
    (fam : ∀ {ι : Type} [Fintype ι] [DecidableEq ι] {p : ℕ → Prop} {P : ι → ℕ → Prop}, (∀ n, n < N → (p n ↔ ∃ i, P i n)) →
      (∀ i j, i ≠ j → ∀ n, P i n → P j n → False) → X p = bigSep Finset.univ fun i => X (P i)) :
    X (fun _ => True) = bigSep Finset.univ fun i : Fin 16 => iprop(X (named idx i.val) ∗ X (rest idx b i.val)) := by
  have h1 : X (fun _ => True) = bigSep Finset.univ fun o : Bool => X (fun n => if o then ∃ j : Fin 16, named idx j.val n else ¬ ∃ j : Fin 16, named idx j.val n) :=
    fam (fun n _ => ⟨fun _ => by
      by_cases h : ∃ j : Fin 16, named idx j.val n
      · exact ⟨true, by simpa using h⟩
      · exact ⟨false, by simpa using h⟩, fun _ => trivial⟩) fun i j h n hi hj => by
        cases i <;> cases j <;> simp_all
  have h2 : X (fun n => ∃ j : Fin 16, named idx j.val n) = bigSep Finset.univ fun i : Fin 16 => X (named idx i.val) :=
    fam (fun n _ => Iff.rfl) fun i j h n hi' hj => h (Fin.ext (named_unique hi hi' hj))
  have h3 : X (fun n => ¬ ∃ j : Fin 16, named idx j.val n) = bigSep Finset.univ fun i : Fin 16 => X (rest idx b i.val) :=
    fam (fun n hn => ⟨fun h => ⟨⟨n / b, Nat.div_lt_of_lt_mul (by omega)⟩, rfl, h⟩, fun ⟨_, h⟩ => h.2⟩)
      fun i j h n hi' hj => h (Fin.ext (hi'.1.symm.trans hj.1))
  rw [h1, bigSep_sep', ← h2, ← h3, BI.bigSep_univ_eq_bigSepL [true, false] (by decide) (by decide)]
  simp only [bigSepL_cons_cons, bigSepL_singleton, if_true, Bool.false_eq_true, if_false]
  rfl

/-- A share dealt among sixteen tiles. -/
theorem deal16 {ℓ : Loc nD τ sig} (q : PosShare TreeShare) (f : Buf (Elt F) ℓ) :
    (ℓ ↦{q} f : sProp (𝕄 F)) = bigSep Finset.univ fun i : Fin 16 => ℓ ↦{Transfers.dealOf q Finset.univ i} f :=
  Transfers.pointsTo_deal Finset.univ ⟨0, Finset.mem_univ _⟩ q

variable (Tb : Tab F) (d : Dev nD)

/-- What the first core is handed, and hands back. -/
abbrev stK : sProp (𝕄 F) := iprop(bothPts Tb d (qC 0) ∗ keyPts Tb d fullShare ∗ okPts d (fun _ => True) Tb.k₀ ∗ oaPts d (fun _ => True) Tb.a₀)
abbrev dnK : sProp (𝕄 F) := iprop(bothPts Tb d (qC 0) ∗ keyPts Tb d fullShare ∗ okPts d (fun _ => True) (newK Tb) ∗ oaPts d (fun _ => True) (newA Tb))
/-- What the second core is handed, and hands back. -/
abbrev stV : sProp (𝕄 F) := iprop(bothPts Tb d (qC 1) ∗ valPts Tb d fullShare ∗ ovPts d (fun _ => True) Tb.v₀)
abbrev dnV : sProp (𝕄 F) := iprop(bothPts Tb d (qC 1) ∗ valPts Tb d fullShare ∗ ovPts d (fun _ => True) (newV Tb))

theorem both_deal (q : PosShare TreeShare) :
    (bothPts Tb d q : sProp (𝕄 F)) = bigSep Finset.univ fun i : Fin 16 => bothPts Tb d (Transfers.dealOf q Finset.univ i) := by
  unfold bothPts
  rw [bigSep_sep', ← deal16, ← deal16]
theorem key_deal (q : PosShare TreeShare) :
    (keyPts Tb d q : sProp (𝕄 F)) = bigSep Finset.univ fun i : Fin 16 => keyPts Tb d (Transfers.dealOf q Finset.univ i) := by
  unfold keyPts
  rw [bigSep_sep', bigSep_sep', ← deal16, ← deal16, ← deal16]
theorem val_deal (q : PosShare TreeShare) :
    (valPts Tb d q : sProp (𝕄 F)) = bigSep Finset.univ fun i : Fin 16 => valPts Tb d (Transfers.dealOf q Finset.univ i) := by
  unfold valPts
  rw [bigSep_sep', ← deal16, ← deal16]

theorem sep3 (A B C : Fin 16 → sProp (𝕄 F)) :
    (bigSep Finset.univ fun i => iprop(A i ∗ B i ∗ C i)) = iprop(bigSep Finset.univ A ∗ bigSep Finset.univ B ∗ bigSep Finset.univ C) :=
  (bigSep_sep' Finset.univ A fun i => iprop(B i ∗ C i)).trans (congrArg _ (bigSep_sep' Finset.univ B C))
theorem sep4 (A B C E : Fin 16 → sProp (𝕄 F)) :
    (bigSep Finset.univ fun i => iprop(A i ∗ B i ∗ C i ∗ E i))
      = iprop(bigSep Finset.univ A ∗ bigSep Finset.univ B ∗ bigSep Finset.univ C ∗ bigSep Finset.univ E) :=
  (bigSep_sep' Finset.univ A fun i => iprop(B i ∗ C i ∗ E i)).trans (congrArg _ (sep3 B C E))

theorem stK_deal : (stK Tb d : sProp (𝕄 F)) = bigSep Finset.univ fun i : Fin 16 => goK Tb d i :=
  (congrArg₂ _ (both_deal Tb d (qC 0)) (congrArg₂ _ (key_deal Tb d fullShare) (congrArg₂ _
    (whole_blocks (X := fun p => okPts d p Tb.k₀) 6256 (by decide) (fun hp hd => ok_family d hp hd Tb.k₀))
    (whole_blocks (X := fun p => oaPts d p Tb.a₀) 6400 (by decide) (fun hp hd => oa_family d hp hd Tb.a₀))))).trans (sep4 _ _ _ _).symm
theorem stV_deal : (stV Tb d : sProp (𝕄 F)) = bigSep Finset.univ fun i : Fin 16 => goV Tb d i :=
  (congrArg₂ _ (both_deal Tb d (qC 1)) (congrArg₂ _ (val_deal Tb d fullShare)
    (whole_blocks (X := fun p => ovPts d p Tb.v₀) 6256 (by decide) (fun hp hd => ov_family d hp hd Tb.v₀)))).trans (sep3 _ _ _).symm
theorem dnK_join (hi : Distinct Tb.idx) : (dnK Tb d : sProp (𝕄 F)) = bigSep Finset.univ fun i : Fin 16 => tdK Tb d i :=
  (congrArg₂ _ (both_deal Tb d (qC 0)) (congrArg₂ _ (key_deal Tb d fullShare) (congrArg₂ _
    (whole_parts (X := fun p => okPts d p (newK Tb)) 6256 (by decide) hi (fun hp hd => ok_family d hp hd (newK Tb)))
    (whole_parts (X := fun p => oaPts d p (newA Tb)) 6400 (by decide) hi (fun hp hd => oa_family d hp hd (newA Tb)))))).trans (sep4 _ _ _ _).symm
theorem dnV_join (hi : Distinct Tb.idx) : (dnV Tb d : sProp (𝕄 F)) = bigSep Finset.univ fun i : Fin 16 => tdV Tb d i :=
  (congrArg₂ _ (both_deal Tb d (qC 1)) (congrArg₂ _ (val_deal Tb d fullShare)
    (whole_parts (X := fun p => ovPts d p (newV Tb)) 6256 (by decide) hi (fun hp hd => ov_family d hp hd (newV Tb))))).trans (sep3 _ _ _).symm

/-- A whole table is all its rows. -/
theorem okPts_all (f : S100000x128.Idx → Elt F .f32) : (okPts d (fun _ => True) f : sProp (𝕄 F)) = (okLoc d ↦{fullShare} f) := by
  unfold okPts
  rw [rowsF_univ fun _ _ => trivial]
theorem ovPts_all (f : S100000x128.Idx → Elt F .f32) : (ovPts d (fun _ => True) f : sProp (𝕄 F)) = (ovLoc d ↦{fullShare} f) := by
  unfold ovPts
  rw [rowsF_univ fun _ _ => trivial]
theorem oaPts_all (f : S102400.Idx → Elt F .f32) : (oaPts d (fun _ => True) f : sProp (𝕄 F)) = (oaLoc d ↦{fullShare} f) := by
  unfold oaPts
  rw [rowsF_univ fun _ _ => trivial]
/-- What both cores read, dealt to the two. -/
theorem both_cores : (bothPts Tb d fullShare : sProp (𝕄 F)) = iprop(bothPts Tb d (qC 0) ∗ bothPts Tb d (qC 1)) := by
  have h : ∀ {ℓ : Loc nD τ sig} (f : Buf (Elt F) ℓ), (ℓ ↦{fullShare} f : sProp (𝕄 F)) = iprop((ℓ ↦{qC 0} f) ∗ ℓ ↦{qC 1} f) := by
    intro ℓ f
    refine (Transfers.pointsTo_deal (Finset.univ : Finset (Fin 2)) ⟨0, Finset.mem_univ _⟩ fullShare).trans ?_
    exact (BI.bigSep_univ_eq_bigSepL (Φ := fun i : Fin 2 => (ℓ ↦{Transfers.dealOf fullShare Finset.univ i} f : sProp (𝕄 F))) [(0 : Fin 2), 1] (by decide) (by decide))
  unfold bothPts
  rw [h, h (ℓ := decLoc d)]
  have h1 : ∀ A B C E : sProp (𝕄 F), iprop((A ∗ B) ∗ C ∗ E) = iprop((A ∗ C) ∗ B ∗ E) := by
    intro A B C E
    have g : ∀ A B C E : sProp (𝕄 F), iprop((A ∗ B) ∗ C ∗ E) ⊢ iprop((A ∗ C) ∗ B ∗ E) := by
      intro A B C E
      iintro ⟨⟨HA, HB⟩, HC, HE⟩
      iframe
    exact BI.equiv_iff.mp ⟨g A B C E, g A C B E⟩
  exact h1 _ _ _ _

end Cert.Proof
end
-- ==== Proof.Launch.lean ====
module

public import proofs.«01_k».proof.Proof.Host
public import proofs.«01_k».proof.Proof.Tile
public import proofs.«01_k».proof.Proof.Split

/-! The launch of the write kernel: what its threads are handed and hand back, and the ghost state it starts from. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "kpV" => (Memref.whole Cert.KernelIdeal.main_v6_scv : Memref Cert.KernelIdeal.sig Kind.scVector Space.hbm Cert.KernelIdeal.S100000x128 EltTy.f32)
local notation "vpV" => (Memref.whole Cert.KernelIdeal.main_v7_scv : Memref Cert.KernelIdeal.sig Kind.scVector Space.hbm Cert.KernelIdeal.S100000x128 EltTy.f32)
local notation "ageV" => (Memref.whole Cert.KernelIdeal.main_v5_scv : Memref Cert.KernelIdeal.sig Kind.scVector Space.hbm Cert.KernelIdeal.S102400 EltTy.f32)
local notation "idxV" => (Memref.whole Cert.KernelIdeal.main_indices_scv : Memref Cert.KernelIdeal.sig Kind.scVector Space.hbm Cert.KernelIdeal.S1024 EltTy.i32)
local notation "decV" => (Memref.whole Cert.KernelIdeal.main_v4_scv : Memref Cert.KernelIdeal.sig Kind.scVector Space.hbm Cert.KernelIdeal.S1024 EltTy.f32)
local notation "qnV" => (Memref.whole Cert.KernelIdeal.main_v2_2_scv : Memref Cert.KernelIdeal.sig Kind.scVector Space.hbm Cert.KernelIdeal.S1024x64 EltTy.f32)
local notation "vtV" => (Memref.whole Cert.KernelIdeal.main_arg1_scv : Memref Cert.KernelIdeal.sig Kind.scVector Space.hbm Cert.KernelIdeal.S1024x64 EltTy.f32)
local notation "okV" => (Memref.whole Cert.KernelIdeal.main_v8_0_scv : Memref Cert.KernelIdeal.sig Kind.scVector Space.hbm Cert.KernelIdeal.S100000x128 EltTy.f32)
local notation "ovV" => (Memref.whole Cert.KernelIdeal.main_v8_1_scv : Memref Cert.KernelIdeal.sig Kind.scVector Space.hbm Cert.KernelIdeal.S100000x128 EltTy.f32)
local notation "oaV" => (Memref.whole Cert.KernelIdeal.main_v8_2_scv : Memref Cert.KernelIdeal.sig Kind.scVector Space.hbm Cert.KernelIdeal.S102400 EltTy.f32)
local notation "sI" => (Memref.whole Cert.KernelIdeal.cc1_scratch0 : Memref Cert.KernelIdeal.sig Kind.scVector Space.vmem Cert.KernelIdeal.S64 EltTy.i32)
local notation "sD" => (Memref.whole Cert.KernelIdeal.cc1_scratch1 : Memref Cert.KernelIdeal.sig Kind.scVector Space.vmem Cert.KernelIdeal.S64 EltTy.f32)
local notation "sR" => (Memref.whole Cert.KernelIdeal.cc1_scratch2 : Memref Cert.KernelIdeal.sig Kind.scVector Space.vmem Cert.KernelIdeal.S64x128 EltTy.f32)
local notation "sS" => (Memref.whole Cert.KernelIdeal.cc1_scratch3 : Memref Cert.KernelIdeal.sig Kind.scVector Space.vmem Cert.KernelIdeal.S64x64 EltTy.f32)
local notation "sA" => (Memref.whole Cert.KernelIdeal.cc1_scratch4 : Memref Cert.KernelIdeal.sig Kind.scVector Space.vmem Cert.KernelIdeal.S6400 EltTy.f32)

variable (m : (ℓ : Loc nD τ sig) → Buf (Elt F) ℓ)

/-- The barrier semaphores of the tasks of SparseCore `c` of the grid, at zero. -/
abbrev bars (d : Dev nD) (c : Fin ((K (F := F)).nCore 0)) : sProp (𝕄 F) :=
  bigSep Finset.univ fun i : Fin ((K (F := F)).nSub 0) => semVal (bcell d ((K (F := F)).core 0 c) ((K (F := F)).sub 0 i)) 0

/-- What a core is handed, and what it hands back. -/
def stAt (c : ℕ) (T : Tab F) (d : Dev nD) : sProp (𝕄 F) := if c = 0 then stK T d else stV T d
def dnAt (c : ℕ) (T : Tab F) (d : Dev nD) : sProp (𝕄 F) := if c = 0 then dnK T d else dnV T d

instance stAt_storable (c : ℕ) (T : Tab F) (d : Dev nD) : BI.Storable (upEmb : UEmb _ (𝕄 F)) (stAt c T d) := by
  unfold stAt; split <;> infer_instance
instance dnAt_storable (c : ℕ) (T : Tab F) (d : Dev nD) : BI.Storable (upEmb : UEmb _ (𝕄 F)) (dnAt c T d) := by
  unfold dnAt; split <;> infer_instance
instance goAt_storable (c : ℕ) (T : Tab F) (d : Dev nD) (j : Fin 16) : BI.Storable (upEmb : UEmb _ (𝕄 F)) (goAt c T d j) := by
  unfold goAt; split <;> infer_instance
instance tdAt_storable (c : ℕ) (T : Tab F) (d : Dev nD) (j : Fin 16) : BI.Storable (upEmb : UEmb _ (𝕄 F)) (tdAt c T d j) := by
  unfold tdAt; split <;> infer_instance

set_option backward.proofsInPublic true in
/-- The one call: each core is handed its tables and hands them back, its output at what the tiles left, with each tile's
    barrier semaphore, closed, at zero; each tile's proof consumes its barrier kit and owes its arrivals. -/
def P : (K (F := F)).Pay (nD := nD) (Val := Elt F) (Name := ℕ) (U := UU) where
  st := fun q d c => match q with | 0 => stAt c.val (Tb m d) d
  dn := fun q d c => match q with | 0 => iprop(dnAt c.val (Tb m d) d ∗ bars d c)
  go := fun q d c i => match q with | 0 => goAt c.val (Tb m d) d (Fin.cast nSub_zero i)
  td := fun q d c i => match q with
    | 0 => iprop(tdAt c.val (Tb m d) d (Fin.cast nSub_zero i) ∗ semVal (bcell d ((K (F := F)).core 0 c) ((K (F := F)).sub 0 i)) 0)
  x := fun _ thr => match thr with
    | (d, .scVector c i) => bkit (Tb m) d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st q d c := match q with
    | 0 => (inferInstance : BI.Storable (upEmb : UEmb _ (𝕄 F)) (stAt c.val (Tb m d) d))
  dn q d c := match q with
    | 0 => (inferInstance : BI.Storable (upEmb : UEmb _ (𝕄 F)) iprop(dnAt c.val (Tb m d) d ∗ bars d c))
  go q d c i := match q with
    | 0 => (inferInstance : BI.Storable (upEmb : UEmb _ (𝕄 F)) (goAt c.val (Tb m d) d (Fin.cast nSub_zero i)))
  td q d c i := match q with
    | 0 => (inferInstance : BI.Storable (upEmb : UEmb _ (𝕄 F)) iprop(tdAt c.val (Tb m d) d (Fin.cast nSub_zero i) ∗ semVal _ 0))

/-! ## The tiles' obligation -/

/-- The coordinates of tile `s` of core `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__write_body (coordsV c s) kpV (Memref.isWhole_whole _) vpV (Memref.isWhole_whole _) ageV (Memref.isWhole_whole _) idxV (Memref.isWhole_whole _) decV (Memref.isWhole_whole _) qnV (Memref.isWhole_whole _) vtV (Memref.isWhole_whole _) okV (Memref.isWhole_whole _) ovV (Memref.isWhole_whole _) oaV (Memref.isWhole_whole _) sI (Memref.isWhole_whole _) sD (Memref.isWhole_whole _) sR (Memref.isWhole_whole _) sS (Memref.isWhole_whole _) sA (Memref.isWhole_whole _)
          cc1_scratch5 cc1_scratch6 cc1_scoped0 cc1_scoped1 cc1_scoped2 cc1_scoped3 cc1_scoped4 cc1_scoped5 cc1_scoped6 cc1_scoped7 cc1_scoped8 cc1_scoped9) ⟨⟩ c s := rfl

set_option maxRecDepth 16384 in
theorem tileObl (hF : (K (F := F)).Facts) : (K (F := F)).TileObl (D (F := F)) 𝒱 (P m) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (Tb m) hF (Tb_distinct m d) (Tb_below m d) O W hO hOlev

/-! ## A core's resources split and join -/

theorem bigSep_tasks (Φ : Fin 16 → sProp (𝕄 F)) :
    (bigSep Finset.univ fun i : Fin ((K (F := F)).nSub 0) => Φ (Fin.cast nSub_zero i)) = bigSep Finset.univ Φ :=
  bigSep_congr fun _ _ => congrArg Φ (Fin.ext rfl)

theorem stAt_deal (c : ℕ) (T : Tab F) (d : Dev nD) : (stAt c T d : sProp (𝕄 F)) = bigSep Finset.univ fun i : Fin 16 => goAt c T d i := by
  unfold stAt goAt
  split
  · exact stK_deal T d
  · exact stV_deal T d
theorem dnAt_join (c : ℕ) (T : Tab F) (d : Dev nD) (hi : Distinct T.idx) :
    (dnAt c T d : sProp (𝕄 F)) = bigSep Finset.univ fun i : Fin 16 => tdAt c T d i := by
  unfold dnAt tdAt
  split
  · exact dnK_join T d hi
  · exact dnV_join T d hi

theorem vecSplit : (K (F := F)).VecSplit' (P m) 0 := by
  intro d c
  show stAt c.val (Tb m d) d ⊢ |={Set.univ}=> iprop(
      (bigSep Finset.univ fun i : Fin ((K (F := F)).nSub 0) => goAt c.val (Tb m d) d (Fin.cast nSub_zero i))
      ∗ ((bigSep Finset.univ fun i : Fin ((K (F := F)).nSub 0) => iprop(tdAt c.val (Tb m d) d (Fin.cast nSub_zero i)
            ∗ semVal (bcell d ((K (F := F)).core 0 c) ((K (F := F)).sub 0 i)) 0))
          -∗ iprop(dnAt c.val (Tb m d) d ∗ bars d c)))
  rw [bigSep_sep' _ (fun i : Fin ((K (F := F)).nSub 0) => tdAt c.val (Tb m d) d (Fin.cast nSub_zero i)),
    bigSep_tasks (F := F) (fun i => goAt c.val (Tb m d) d i), bigSep_tasks (F := F) (fun i => tdAt c.val (Tb m d) d i),
    ← stAt_deal, ← dnAt_join _ _ _ (Tb_distinct m d)]
  iintro H; imodintro
  isplitl [H]; · iexact H
  iintro ⟨Hx, Hbars⟩
  isplitl [Hx]; · iexact Hx
  iexact Hbars

/-! ## The launch element of the certificate's ghost state, and what the launch hands over -/

abbrev DCI : Type := Dev nD × Fin τ.nSC × Fin τ.nSub
abbrev bcell₃ (x : DCI) : GSem nD τ sig := bcell x.1 x.2.1 x.2.2

/-- The tiles' barrier cells: of the free semaphores, the ones the certificate takes at the launch. -/
def bCells : Finset (GSem nD τ sig) := (Finset.univ : Finset DCI).image bcell₃
/-- Tile `i`'s token in tile `j`'s cell, for every pair of tiles of a core. -/
def bToks : Finset (GSem nD τ sig × ℕ × ℕ) :=
  ((Finset.univ : Finset DCI) ×ˢ Finset.univ).image fun x : DCI × Fin (grid1.bound 1) => (bcell x.1.1 x.1.2.1 (x.2.castLE hsub1), 0, x.1.2.2.val)
/-- The pipeline's cells are distinct. -/
theorem pinj : Function.Injective (Pipeline.cellOf (nD := nD) (τ := τ) (Pipeline.pin (pcfgs (F := F)) adm)) := launch0.cellOf_inj
def u₀ : UU := (initOf (K (F := F)).hsCells (K (F := F)).hsToks, (initOf bCells bToks,
  (initOf (Pipeline.cells (Pipeline.pin (pcfgs (F := F)) adm) pinj) (Pipeline.launchToks (Pipeline.pin (pcfgs (F := F)) adm) pinj), 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) (p : UP) : (ownU ((a, (b, (p, 1))) : UU) : sProp (𝕄 F)) ⊢ iprop(BI.own (EH a) ∗ BI.own (EB b) ∗ BI.own (EP p)) := by
  have h1 : (ownU ((a, (b, (p, 1))) : UU) : sProp (𝕄 F)) ⊢ iprop(BI.own (EH a) ∗ BI.own (uEmb.toEmb (((1 : UH), (b, (p, (1 : Counters)))) : UU))) :=
    BI.own_op_elim ((uEmb (nD := nD) (sig := sig) (Ix := HIx 1) (Val := Elt F) (Name := ℕ) (U := UU) (Lvl := ℕ) (τ := τ)).toEmb.op_of_mem
      (Prod.mk_mem_op (URA.mem_op_one a) (URA.mem_one_op (b, (p, (1 : Counters))))))
  have h2 : (BI.own (uEmb.toEmb (((1 : UH), (b, (p, (1 : Counters)))) : UU)) : sProp (𝕄 F)) ⊢ iprop(BI.own (EB b) ∗ BI.own (EP p)) :=
    BI.own_op_elim ((uEmb (nD := nD) (sig := sig) (Ix := HIx 1) (Val := Elt F) (Name := ℕ) (U := UU) (Lvl := ℕ) (τ := τ)).toEmb.op_of_mem
      (Prod.mk_mem_op (URA.mem_op_one (1 : UH)) (Prod.mk_mem_op (URA.mem_op_one b) (URA.mem_one_op (p, (1 : Counters))))))
  exact h1.trans (sep_mono_right h2)

/-- Every barrier semaphore of the grid at zero, out of the free semaphores the launch hands over. -/
theorem sems_b : ((K (F := F)).freeOn (· ∈ bCells) : sProp (𝕄 F)) ⊢ bigSep bCells fun g => semVal g 0 := by
  unfold SparseCore.Cfg.freeOn bCells
  rw [SparseCore.bigSep_image_of_injOn (fun a _ b _ e => bcell₃_injective e)]
  refine sep_elim_right.trans (bigSep_mono fun dci _ => ?_)
  exact bigSep_elim (Φ := fun sm : SemLoc sig => (semVal (V dci.1 dci.2.1 dci.2.2, sm) 0 : sProp (𝕄 F))) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (Finset.mem_univ dci)⟩)

/-- The barrier cells' invariants, allocated at once. -/
theorem invs_b (T : Dev nD → Tab F) : iprop((bigSep bCells fun g => (semVal g 0 : sProp (𝕄 F))) ∗ bigSep bCells fun g => roundState EB (bRd T) g 0)
    ⊢ |={Set.univ}=> iprop(∃ κ : GSem nD τ sig → ℕ, bigSep bCells fun g => cellInv EB (bRd T) (κ g) g) := by
  refine (Rounds.bodies_intro EB (bRd T) bCells).trans ((inv_alloc_family bCells (Rounds.body EB (bRd T)) ∅ (E := Set.univ)).trans ?_)
  iintro H
  imod H with ⟨%κ, -, Hinv⟩
  imodintro; iexists κ; iexact Hinv

theorem sum_tallyAt_one (g : GSem nD τ sig) (ι : HIx 1) (n : ℕ) : ∑ _ : Fin n, tallyAt g ι 1 = (tallyAt g ι n : CellTallies nD τ sig (HIx 1)) := by
  induction n with
  | zero => rw [Finset.univ_eq_empty, Finset.sum_empty, tallyAt_zero]
  | succ n ih => rw [Fin.sum_univ_castSucc, ih, tallyAt_add]

/-- The credit for the kernel's own debts, regrouped: each tile the sixteen units of its own cell. -/
theorem creds_b : ((P (F := F) m).oxCred : sProp (𝕄 F)) ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) m).oxFrom 0 thr) : sProp (𝕄 F)))]
  refine sep_elim_right.trans (sep_elim_right.trans ?_)
  rw [bigSep_univ_prod, bigSep_univ_prod (fun dci : DCI => (cred (tallyAt (bcell₃ dci) (some 0) (grid1.bound 1)) : sProp (𝕄 F)))]
  refine bigSep_mono fun d _ => ?_
  rw [bigSep_univ_prod, bigSep_univ_prod (fun ci : Fin τ.nSC × Fin τ.nSub => (cred (tallyAt (bcell₃ (d, ci)) (some 0) (grid1.bound 1)) : sProp (𝕄 F)))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

/-- A persistent resource beside a big separating conjunction goes to each conjunct. -/
theorem bigSep_mono_frame {I : Type} [DecidableEq I] {R : sProp (𝕄 F)} [BI.Persistent R] {s : Finset I} {Φ Ψ : I → sProp (𝕄 F)}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp (𝕄 F)))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit (Tb m) d c i :=
  bigSep_univ_of_subsingleton (0 : Fin 1)

theorem bigSep_emp' {I : Type} (s : Finset I) : (bigSep s fun _ => iprop(emp)) = (iprop(emp) : sProp (𝕄 F)) := bigSep_emp_const s

theorem bCells_eq (Φ : GSem nD τ sig → sProp (𝕄 F)) : bigSep bCells Φ = bigSep Finset.univ fun x : DCI => Φ (bcell₃ x) := by
  unfold bCells; exact SparseCore.bigSep_image_of_injOn (fun a _ b _ e => bcell₃_injective e) Φ

variable (T : Dev nD → Tab F)

/-- What every tile of the grid is handed alike: every barrier cell's invariant, and that each has reached round 0. -/
abbrev shared : sProp (𝕄 F) :=
  iprop((∃ κ : GSem nD τ sig → ℕ, bigSep Finset.univ fun x : DCI => cellInv EB (bRd T) (κ (bcell₃ x)) (bcell₃ x))
    ∗ bigSep Finset.univ fun x : DCI => reached EB (bcell₃ x) 0)
/-- What each tile is handed of its own: its position, its tokens, its credit. -/
abbrev mine (dci : DCI) : sProp (𝕄 F) :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

theorem tok_intro (d : Dev nD) (c : Fin τ.nSC) (i : Fin τ.nSub) (j : Fin (grid1.bound 1)) :
    iprop((bigSep Finset.univ fun x : DCI => reached EB (bcell₃ x) 0) ∗ dutyTok EB (bcell d c (j.castLE hsub1)) 0 i.val)
      ⊢ (iprop(dutyTok EB (bcell d c (j.castLE hsub1)) 0 i.val ∗ reached EB (bcell d c (j.castLE hsub1)) 0) : sProp (𝕄 F)) := by
  iintro ⟨#Hr, Ht⟩
  isplitl [Ht]; · iexact Ht
  iapply (SparseCore.ent (bigSep_elim (Φ := fun x : DCI => (reached EB (bcell₃ x) 0 : sProp (𝕄 F))) (Finset.mem_univ (d, c, j.castLE hsub1)))); iexact Hr

/-- One tile's kit out of those. -/
theorem kit_intro (dci : DCI) : iprop(shared T ∗ mine dci) ⊢ (bkit T dci.1 dci.2.1 dci.2.2 : sProp (𝕄 F)) := by
  obtain ⟨d, c, i⟩ := dci
  iintro ⟨⟨#Hinv, #Hr⟩, Hat, Htok, Hcred⟩
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd T) (κ (bcell₃ x)) (bcell₃ x)) fun j _ =>
        sep_elim_left.trans (bigSep_elim (Φ := fun x : DCI => (cellInv EB (bRd T) (κ (bcell₃ x)) (bcell₃ x) : sProp (𝕄 F)))
          (Finset.mem_univ (d, c, Fin.castLE hsub1 j)))))
    isplitl; · iexact Hinv
    rw [bigSep_emp']; iempintro
  isplitl [Htok]
  · iapply (SparseCore.ent (bigSep_mono_frame (s := (Finset.univ : Finset (Fin (grid1.bound 1))))
      (R := bigSep Finset.univ fun x : DCI => reached EB (bcell₃ x) 0)
      (Φ := fun j : Fin (grid1.bound 1) => dutyTok EB (bcell d c (j.castLE hsub1)) 0 i.val) fun j _ => tok_intro (F := F) d c i j))
    isplitr; · iexact Hr
    iexact Htok
  isplitl [Hat]; · iexact Hat
  iexact Hcred

/-- Each tile of the grid its kit. -/
theorem kits_deal :
    iprop(shared (Tb m) ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) m).x q thr : sProp (𝕄 F)) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (Tb m)) (Φ := mine (F := F)) fun dci _ => kit_intro (Tb m) dci)
  isplitr; · iexact Hsh
  unfold mine
  rw [bigSep_sep', bigSep_sep']
  isplitl [Hat]; · iexact Hat
  isplitl [Htok]; · iexact Htok
  iexact Hcred

/-- What the attention kernel's pipeline starts from. -/
abbrev GP (c : Dev nD) : sProp (𝕄 F) :=
  iprop((bigSep Finset.univ fun p : Fin 1 => Pipeline.cellsGhost (Pipeline.pin (pcfgs (F := F)) adm) EP p c)
    ∗ bigSep Finset.univ fun p : Fin 1 => Pipeline.toksInit (Pipeline.pin (pcfgs (F := F)) adm) EP p c)

theorem hu₀ : iprop(ownU (u₀ (F := F)) ∗ (P (F := F) m).oxCred ∗ (K (F := F)).freeOn (· ∈ bCells))
    ⊢ |={Set.univ}=> iprop(BI.own (EH (initOf (K (F := F)).hsCells (K (F := F)).hsToks)) ∗ (bigSep Finset.univ fun c : Dev nD => GP c)
        ∗ (bigSep Finset.univ fun thr : Thread nD τ => bigSep Finset.univ fun q : Fin 1 => (P m).x q thr) : sProp (𝕄 F)) := by
  unfold u₀
  iintro ⟨Hu, Hcred, Hfree⟩
  ihave H := (ownU_split _ _ _) $$ Hu
  icases H with ⟨HH, HB, HP⟩
  imod (Rounds.fund EB (bRd (Tb m)) bCells bToks) $$ HB with ⟨Hst, #Hr, Hat, Htok⟩
  imod (Pipeline.fund_ghost (Pipeline.pin (pcfgs (F := F)) adm) EP pinj) $$ HP with ⟨Hg, Htk⟩
  ihave Hsems := (sems_b (F := F)) $$ Hfree
  imod (invs_b (Tb m)) $$ [Hsems Hst] with ⟨%κ, #Hinv⟩
  · isplitl [Hsems] <;> iassumption
  ihave Hcred' := (creds_b m) $$ Hcred
  ihave Hinv' := (Entails.of_eq (bCells_eq (F := F) fun g => cellInv EB (bRd (Tb m)) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hg Htk]
  · unfold GP
    rw [bigSep_sep']
    isplitl [Hg]; · iexact Hg
    iexact Htk
  iapply (kits_deal m)
  isplitr
  · isplitl; · iexists κ; iexact Hinv'
    iexact Hr'
  isplitl [Hat']; · iexact Hat'
  isplitl [Htok']; · iexact Htok'
  iexact Hcred'

end Cert.Proof
end
-- ==== Proof.Run.lean ====
module

public import proofs.«01_k».proof.Proof.Launch

/-! The program's run: @main around the two kernels, and what every buffer holds when all threads have ended. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

variable (m : (ℓ : Loc nD τ sig) → Buf (Elt F) ℓ) (ρ : Dev nD → PrngReg)

/-! ## What the write kernel is handed, out of @main's buffers -/

/-- The buffers the write kernel is handed. -/
abbrev tenL : Finset (Ref sig .tc) :=
  {main_v6, main_v7, main_v5, main_indices, main_v4, main_v2_2, main_arg1, main_v8_0, main_v8_1, main_v8_2}
def ten : Finset (DevRef τ sig) := tenL.map ⟨Proc.devRef .tc, Proc.devRef_injective _⟩

theorem ten_sub : ten ⊆ uc := by
  intro x hx
  obtain ⟨b, hb, rfl⟩ := Finset.mem_map.mp hx
  have h : ∀ b ∈ tenL, ¬ b.isScoped := by decide
  exact Finset.mem_filter.mpr ⟨StableHlo.devRef_mem_tcRefs b, h b hb⟩

/-- Those buffers one by one. -/
theorem held_ten (d : Dev nD) (W : Valuation τ sig (Elt F)) :
    (StableHlo.held (SparseCore.T d) ten W : sProp (𝕄 F))
      = iprop((kpLoc d ↦{fullShare} W (Proc.devRef .tc main_v6)) ∗ (vpLoc d ↦{fullShare} W (Proc.devRef .tc main_v7))
        ∗ (ageLoc d ↦{fullShare} W (Proc.devRef .tc main_v5)) ∗ (idxLoc d ↦{fullShare} W (Proc.devRef .tc main_indices))
        ∗ (decLoc d ↦{fullShare} W (Proc.devRef .tc main_v4)) ∗ (qnLoc d ↦{fullShare} W (Proc.devRef .tc main_v2_2))
        ∗ (vtLoc d ↦{fullShare} W (Proc.devRef .tc main_arg1)) ∗ (okLoc d ↦{fullShare} W (Proc.devRef .tc main_v8_0))
        ∗ (ovLoc d ↦{fullShare} W (Proc.devRef .tc main_v8_1)) ∗ (oaLoc d ↦{fullShare} W (Proc.devRef .tc main_v8_2))) := by
  unfold StableHlo.held ten
  rw [bigSep_map]
  unfold tenL
  iterate 9 rw [SparseCore.bigSep_insert' (by decide)]
  rw [bigSep_singleton]
  rfl

theorem bigSep_cores (Φ : ℕ → sProp (𝕄 F)) : (bigSep Finset.univ fun c : Fin ((K (F := F)).nCore 0) => Φ c.val) = iprop(Φ 0 ∗ Φ 1) := by
  show (bigSep (Finset.univ : Finset (Fin 2)) fun c => Φ c.val) = _
  rw [BI.bigSep_univ_eq_bigSepL [(0 : Fin 2), 1] (by decide) (by decide)]
  rfl

theorem st0_eq (d : Dev nD) : (bigSep Finset.univ fun c : Fin ((K (F := F)).nCore 0) => (P m).st 0 d c)
    = iprop(stK (Tb m d) d ∗ stV (Tb m d) d) :=
  bigSep_cores fun c => stAt c (Tb m d) d
/-- The barrier semaphores of both cores, at zero. -/
abbrev barsAll (d : Dev nD) : sProp (𝕄 F) := bigSep Finset.univ fun c : Fin ((K (F := F)).nCore 0) => bars d c
theorem dn0_eq (d : Dev nD) : (bigSep Finset.univ fun c : Fin ((K (F := F)).nCore 0) => (P m).dn 0 d c)
    = iprop((dnK (Tb m d) d ∗ dnV (Tb m d) d) ∗ barsAll d) := by
  show (bigSep Finset.univ fun c : Fin ((K (F := F)).nCore 0) => iprop(dnAt c.val (Tb m d) d ∗ bars d c)) = _
  rw [bigSep_sep']
  exact congrArg₂ _ (bigSep_cores fun c => dnAt c (Tb m d) d) rfl

/-- The ten buffers are what the two cores are handed. -/
theorem ten_st (d : Dev nD) : (StableHlo.held (SparseCore.T d) ten (V3 m d) : sProp (𝕄 F)) ⊢ iprop(stK (Tb m d) d ∗ stV (Tb m d) d) := by
  rw [held_ten]
  show iprop((kpLoc d ↦{fullShare} (Tb m d).kp) ∗ (vpLoc d ↦{fullShare} (Tb m d).vp) ∗ (ageLoc d ↦{fullShare} (Tb m d).age)
    ∗ (idxLoc d ↦{fullShare} (Tb m d).idx) ∗ (decLoc d ↦{fullShare} (Tb m d).dec) ∗ (qnLoc d ↦{fullShare} (Tb m d).qn)
    ∗ (vtLoc d ↦{fullShare} (Tb m d).vt) ∗ (okLoc d ↦{fullShare} (Tb m d).k₀) ∗ (ovLoc d ↦{fullShare} (Tb m d).v₀)
    ∗ (oaLoc d ↦{fullShare} (Tb m d).a₀)) ⊢ _
  iintro ⟨Hkp, Hvp, Hage, Hidx, Hdec, Hqn, Hvt, Hok, Hov, Hoa⟩
  ihave Hb := (Entails.of_eq (both_cores (Tb m d) d)) $$ [Hidx Hdec]
  · isplitl [Hidx]; · iexact Hidx
    iexact Hdec
  icases Hb with ⟨Hb0, Hb1⟩
  ihave Hok' := (Entails.of_eq (okPts_all d (Tb m d).k₀).symm) $$ Hok
  ihave Hov' := (Entails.of_eq (ovPts_all d (Tb m d).v₀).symm) $$ Hov
  ihave Hoa' := (Entails.of_eq (oaPts_all d (Tb m d).a₀).symm) $$ Hoa
  isplitl [Hb0 Hkp Hage Hqn Hok' Hoa']
  · isplitl [Hb0]; · iexact Hb0
    isplitl [Hkp Hage Hqn]
    · isplitl [Hkp]; · iexact Hkp
      isplitl [Hage]; · iexact Hage
      iexact Hqn
    isplitl [Hok']; · iexact Hok'
    iexact Hoa'
  · isplitl [Hb1]; · iexact Hb1
    isplitl [Hvp Hvt]
    · isplitl [Hvp]; · iexact Hvp
      iexact Hvt
    iexact Hov'

theorem V4_ok (d : Dev nD) : V4 m d (Proc.devRef .tc main_v8_0) = newK (Tb m d) := by
  unfold V4
  rw [Function.update_of_ne (by decide), Function.update_of_ne (by decide), Function.update_self]
theorem V4_ov (d : Dev nD) : V4 m d (Proc.devRef .tc main_v8_1) = newV (Tb m d) := by
  unfold V4
  rw [Function.update_of_ne (by decide), Function.update_self]
theorem V4_oa (d : Dev nD) : V4 m d (Proc.devRef .tc main_v8_2) = newA (Tb m d) := by
  unfold V4
  rw [Function.update_self]
theorem V4_else (d : Dev nD) (b : DevRef τ sig) (h0 : b ≠ Proc.devRef .tc main_v8_0) (h1 : b ≠ Proc.devRef .tc main_v8_1)
    (h2 : b ≠ Proc.devRef .tc main_v8_2) : V4 m d b = V3 m d b := by
  unfold V4
  rw [Function.update_of_ne h2, Function.update_of_ne h1, Function.update_of_ne h0]

/-- What the two cores hand back is the ten buffers at their values after the kernel. -/
theorem dn_ten (d : Dev nD) : iprop(dnK (Tb m d) d ∗ dnV (Tb m d) d) ⊢ (StableHlo.held (SparseCore.T d) ten (V4 m d) : sProp (𝕄 F)) := by
  rw [held_ten, V4_ok, V4_ov, V4_oa]
  rw [V4_else m d (Proc.devRef .tc main_v6) (by decide) (by decide) (by decide), V4_else m d (Proc.devRef .tc main_v7) (by decide) (by decide) (by decide),
    V4_else m d (Proc.devRef .tc main_v5) (by decide) (by decide) (by decide), V4_else m d (Proc.devRef .tc main_indices) (by decide) (by decide) (by decide),
    V4_else m d (Proc.devRef .tc main_v4) (by decide) (by decide) (by decide), V4_else m d (Proc.devRef .tc main_v2_2) (by decide) (by decide) (by decide),
    V4_else m d (Proc.devRef .tc main_arg1) (by decide) (by decide) (by decide)]
  iintro ⟨⟨Hb0, ⟨Hkp, Hage, Hqn⟩, Hok, Hoa⟩, Hb1, ⟨Hvp, Hvt⟩, Hov⟩
  ihave Hb := (Entails.of_eq (both_cores (Tb m d) d).symm) $$ [Hb0 Hb1]
  · isplitl [Hb0]; · iexact Hb0
    iexact Hb1
  icases Hb with ⟨Hidx, Hdec⟩
  ihave Hok' := (Entails.of_eq (okPts_all d (newK (Tb m d)))) $$ Hok
  ihave Hov' := (Entails.of_eq (ovPts_all d (newV (Tb m d)))) $$ Hov
  ihave Hoa' := (Entails.of_eq (oaPts_all d (newA (Tb m d)))) $$ Hoa
  isplitl [Hkp]; · iexact Hkp
  isplitl [Hvp]; · iexact Hvp
  isplitl [Hage]; · iexact Hage
  isplitl [Hidx]; · iexact Hidx
  isplitl [Hdec]; · iexact Hdec
  isplitl [Hqn]; · iexact Hqn
  isplitl [Hvt]; · iexact Hvt
  isplitl [Hok']; · iexact Hok'
  isplitl [Hov']; · iexact Hov'
  iexact Hoa'

/-- The other buffers are as before the kernel. -/
theorem rest_keeps (d : Dev nD) : (StableHlo.held (SparseCore.T d) (uc \ ten) (V3 m d) : sProp (𝕄 F)) = StableHlo.held (SparseCore.T d) (uc \ ten) (V4 m d) := by
  refine StableHlo.held_congr _ fun b hb => (V4_else m d b ?_ ?_ ?_).symm
  all_goals
    rintro rfl
    exact (Finset.mem_sdiff.mp hb).2 (Finset.mem_map_of_mem _ (by decide))

/-! ## @main on the TensorCore -/

abbrev FIN (d : Dev nD) : sProp (𝕄 F) := iprop(StableHlo.held (SparseCore.T d) uc (V5 m d) ∗ barsAll d)

theorem uBufs (d : Dev nD) : (unscopedBufs d (fun b => m ((SparseCore.T d).loc b)) : sProp (𝕄 F)) = StableHlo.held (SparseCore.T d) uc (W0 m d) :=
  Pipeline.unscopedBufs_held d (W0 m d)

theorem GP_eq (d : Dev nD) : (GP d : sProp (𝕄 F)) = iprop(Pipeline.cellsGhost (Pipeline.pin (pcfgs (F := F)) adm) EP 0 d
    ∗ Pipeline.toksInit (Pipeline.pin (pcfgs (F := F)) adm) EP 0 d) := by
  unfold GP
  rw [bigSep_univ_of_subsingleton (0 : Fin 1), bigSep_univ_of_subsingleton (0 : Fin 1)]

/-- The handshake state at the start, with what the core owes apart. -/
theorem tcSt_open (d : Dev nD) : ∃ R : sProp (𝕄 F), (K (F := F)).tcSt EH d 0 = iprop(owesLow d ∗ R) := ⟨_, rfl⟩

set_option backward.isDefEq.respectTransparency.types false in
/-- @main on device `d`'s TensorCore: the host operations and the two kernels, every buffer at its final value, the barrier
    semaphores kept. -/
theorem hmain (κ : GSem nD τ sig → ℕ) (d : Dev nD) :
    iprop((K (F := F)).ctx EH (P m) κ ∗ (K (F := F)).tcSt EH d 0 ∗ (K (F := F)).tcRes m ρ d ∗ GP d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [uBufs, GP_eq, main_eq]
  obtain ⟨R, hR⟩ := tcSt_open (F := F) d
  iintro ⟨#Hctx, Hst, ⟨Hb, Hh, Hts, -⟩, Hg, Htk⟩
  ihave #Hlev := (SparseCore.Cfg.ctx_levAts (K := K (F := F)) κ) $$ Hctx
  iapply (StableHlo.wp_seq 𝒱 none Set.univ d uc _ ops0 ops0_sub ops0_fresh (W0 m d)) $$ [Hb Hh]
  · isplitl [Hb]; · iexact Hb
    iexact Hh
  iintro ⟨Hb, Hh⟩
  rw [wp_bind]
  ihave Hst' := (Entails.of_eq hR) $$ Hst
  icases Hst' with ⟨Ho, HR⟩
  iapply (wp_attn (V1 m) d _)
  isplitl [Hb]; · iexact Hb
  isplitl [Hh]; · iexact Hh
  isplitl [Ho]; · iexact Ho
  isplitr; · iexact Hlev
  isplitl [Hg]; · iexact Hg
  isplitl [Htk]; · iexact Htk
  iintro ⟨Hb, Hh, Ho⟩
  iapply (StableHlo.wp_seq 𝒱 none Set.univ d uc _ ops1 ops1_sub ops1_fresh (V2 m d)) $$ [Hb Hh]
  · isplitl [Hb]; · iexact Hb
    iexact Hh
  iintro ⟨Hb, Hh⟩
  ihave Hst := (Entails.of_eq hR.symm) $$ [Ho HR]
  · isplitl [Ho]; · iexact Ho
    iexact HR
  rw [wp_bind]
  ihave Hh := (Entails.of_eq (show (StableHlo.held (SparseCore.T d) uc (StableHlo.after ops1 (V2 m d)) : sProp (𝕄 F))
    = StableHlo.held (SparseCore.T d) uc (V3 m d) from rfl)) $$ Hh
  ihave Hh' := (Entails.of_eq (StableHlo.held_sub_split (SparseCore.T d) ten_sub (V3 m d))) $$ Hh
  icases Hh' with ⟨Hten, Hrest⟩
  iapply ((K (F := F)).wp_run (D (F := F)) 𝒱 (EH := EH) (P := P m) κ d 0) $$ [Hst Hten Hrest Hb Hts]
  isplitr; · iexact Hctx
  isplitl [Hst]; · iexact Hst
  isplitl [Hten]
  · rw [st0_eq]
    iapply (ten_st m d); iexact Hten
  iintro ⟨Hst, Hdn⟩
  ihave Hdn' := (Entails.of_eq (dn0_eq m d)) $$ Hdn
  icases Hdn' with ⟨Hdn, Hbars⟩
  ihave Hten := (dn_ten m d) $$ Hdn
  ihave Hrest := (Entails.of_eq (rest_keeps m d)) $$ Hrest
  ihave Hh := (Entails.of_eq (StableHlo.held_sub_split (SparseCore.T d) ten_sub (V4 m d)).symm) $$ [Hten Hrest]
  · isplitl [Hten]; · iexact Hten
    iexact Hrest
  iapply (StableHlo.wp_seq 𝒱 none Set.univ d uc _ ops2 ops2_sub ops2_fresh (V4 m d)) $$ [Hb Hh]
  · isplitl [Hb]; · iexact Hb
    iexact Hh
  iintro ⟨Hb, Hh⟩
  rw [wp_pure]
  imodintro
  isplitl [Hst]; · iexact Hst
  isplitl [Hh Hbars]
  · isplitl [Hh]; · iexact Hh
    iexact Hbars
  isplitl [Hb] <;> iassumption

def fq (d : Dev nD) (s' : Phys nD τ sig (Elt F)) : Prop :=
  (∀ r ∈ uc, s'.mem.mem (d, r) = V5 m d r) ∧ ∀ (c : Fin ((K (F := F)).nCore 0)) (i : Fin ((K (F := F)).nSub 0)),
    s'.mem.sem (bcell d ((K (F := F)).core 0 c) ((K (F := F)).sub 0 i)) = 0

theorem hfin_x (d : Dev nD) (s' : Phys nD τ sig (Elt F)) (r : DevRef τ sig) (hr : r ∈ uc) :
    iprop(StableHlo.held (SparseCore.T d) uc (V5 m d) ∗ SI s') ⊢ (⌜s'.mem.mem (d, r) = V5 m d r⌝ : sProp (𝕄 F)) := by
  unfold StableHlo.held
  refine (sep_mono_left (SparseCore.ent (bigSep_elim hr))).trans ?_
  iintro ⟨Hx, HSI⟩
  ihave H := (SI_pointsTo_agree (st := s') (ℓ := ((d, r) : Loc nD τ sig)) (I := Finset.univ) (q := fullShare) (f := V5 m d r)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp (𝕄 F)) :=
  fun x hx => ⟨fun r hr => ((sep_mono_left sep_elim_left).trans (hfin_x m d s' r hr)) x hx, fun c i =>
    ((sep_mono_left (sep_elim_right.trans ((SparseCore.ent (bigSep_elim (Finset.mem_univ c))).trans (SparseCore.ent (bigSep_elim (Finset.mem_univ i)))))).trans
      (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, hx, rfl⟩ := Finset.mem_image.mp hg
  exact (h d).2 ⟨c.val, c.isLt⟩ ⟨i.val, i.isLt⟩

/-! ## The program's run -/

/-- Every buffer of the host code at its final value, every semaphore at zero. -/
def QC : PUnit × MemSt nD τ sig (Elt F) → Prop := fun r => (∀ d : Dev nD, ∀ b ∈ uc, r.2.mem (d, b) = V5 m d b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m facts)
    (fun q _ => match q with | 0 => SparseCore.Cfg.VecSplit.of_plain (vecSplit m))
    m ρ main (fun d => GP d) (FIN m) (u₀ (F := F)) (hu₀ m) (hmain m ρ) (fq m) (hfin m) (QC m) (fun _ h hz => ⟨fun c => (h c).1, hz⟩)

/-! ## The arguments keep their values -/

theorem V5_args (d : Dev nD) (r : Ref sig .tc) (h : r ∈ [main_arg0, main_arg1, main_arg2, main_arg3, main_arg4, main_arg5, main_arg6]) :
    V5 m d (Proc.devRef .tc r) = m ((SparseCore.T d).loc r) := by
  have h5 : V5 m d (Proc.devRef .tc r) = V3 m d (Proc.devRef .tc r) := by
    simp only [List.mem_cons, List.not_mem_nil, or_false] at h
    rcases h with rfl | rfl | rfl | rfl | rfl | rfl | rfl <;>
      · unfold V5 ops2
        after_reads_simp
        exact V4_else m d _ (by decide) (by decide) (by decide)
  rw [h5]
  simp only [List.mem_cons, List.not_mem_nil, or_false] at h
  rcases h with rfl | rfl | rfl | rfl | rfl | rfl | rfl
  exacts [V3_arg0 m d, V3_arg1 m d, V3_arg2 m d, V3_arg3 m d, V3_arg4 m d, V3_arg5 m d, V3_arg6 m d]

/-- A buffer of the host code is among those of which the run says what they hold. -/
theorem uc_mem (r : Ref sig .tc) (h : ¬ r.isScoped) : (Proc.devRef .tc r : DevRef τ sig) ∈ uc :=
  Finset.mem_filter.mpr ⟨StableHlo.devRef_mem_tcRefs r, h⟩

end Cert.Proof
end
-- ==== Proof.Same.lean ====
module

public import proofs.«01_k».proof.Proof.Gen.Kernel
public import proofs.«01_k».proof.Proof.Gen.KernelIdeal

/-! The kernel and its ideal reading are one program. -/

@[expose] public section

set_option maxRecDepth 65536

noncomputable section

namespace Cert.Proof

open Idealize.ShloMosaic Idealize.SL.Sem

variable {F : FTy → Type} [FloatOps F]

/-- The two body tables agree. -/
theorem defs₀_same : @Cert.Kernel.defs₀ F _ Cert.Kernel.Gen.facts = @Cert.KernelIdeal.defs₀ F _ Cert.KernelIdeal.Gen.facts := by
  funext p ℓ a
  change Fin 2 at ℓ
  match p, ℓ, a with
  | .tc, 0, (t, s) => rfl
  | .tc, 1, _ => rfl
  | .scScalar _, 0, _ => rfl
  | .scScalar _, 1, _ => rfl
  | .scVector _ _, 0, _ => rfl
  | .scVector _ _, 1, _ => rfl

/-- The bodies the two programs call agree. -/
theorem defs_same : @Cert.Kernel.defs F _ Cert.Kernel.Gen.facts = @Cert.KernelIdeal.defs F _ Cert.KernelIdeal.Gen.facts :=
  congrArg (fun D => Cert.KernelIdeal.sc.defs (Pipeline.defs Cert.KernelIdeal.pcfgs D)) (defs₀_same (F := F))

/-- The threads of the two programs agree. -/
theorem threads_same : @Cert.Kernel.threads F _ Cert.Kernel.Gen.facts = @Cert.KernelIdeal.threads F _ Cert.KernelIdeal.Gen.facts := rfl

end Cert.Proof

end
-- ==== Proof.AttnVal.lean ====
module

public import proofs.«01_k».proof.Proof.Host
public import Idealize.ShloMosaic.Lib.Pointwise
public import Idealize.ShloMosaic.Lib.Pipeline.ValueKit

/-! What the attention kernel finds in its windows and leaves in its result arrays. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

section

variable (W : Dev nD → Valuation τ sig (Elt F)) (c : Dev nD)

theorem index4 : ∀ t : Fin cfg0.N, win0_4.index t = ![t.val, 0] := by
  have h : ∀ t : Fin 50, win0_4.index (t.cast N_0.symm) = ![t.val, 0] := by decide +kernel
  exact fun t => h (t.cast N_0)
theorem index5 : ∀ t : Fin cfg0.N, win0_5.index t = ![t.val, 0] := by
  have h : ∀ t : Fin 50, win0_5.index (t.cast N_0.symm) = ![t.val, 0] := by decide +kernel
  exact fun t => h (t.cast N_0)

theorem index0 : ∀ t : Fin cfg0.N, win0_0.index t = ![0, 0] := by
  have h : ∀ t : Fin 50, win0_0.index (t.cast N_0.symm) = ![0, 0] := by decide +kernel
  exact fun t => h (t.cast N_0)
/-- Window 0's block is the whole array. -/
theorem iblk0 (t : Fin cfg0.N) (i : Fin 1024) (k : Fin 64) : (iblk W c 0 t : Vec F S1024x64 .f32) (ix2 i k) = (W c (Proc.devRef .tc main_arg0) : Vec F S1024x64 .f32) (ix2 i k) := by
  unfold iblk
  refine congrArg (W c (Proc.devRef .tc main_arg0)) ?_
  blk_ext [index0]
theorem index1 : ∀ t : Fin cfg0.N, win0_1.index t = ![0, 0] := by
  have h : ∀ t : Fin 50, win0_1.index (t.cast N_0.symm) = ![0, 0] := by decide +kernel
  exact fun t => h (t.cast N_0)
/-- Window 1's block is the whole array. -/
theorem iblk1 (t : Fin cfg0.N) (i : Fin 1024) (k : Fin 64) : (iblk W c 1 t : Vec F S1024x64 .f32) (ix2 i k) = (W c (Proc.devRef .tc main_arg1) : Vec F S1024x64 .f32) (ix2 i k) := by
  unfold iblk
  refine congrArg (W c (Proc.devRef .tc main_arg1)) ?_
  blk_ext [index1]
theorem index2 : ∀ t : Fin cfg0.N, win0_2.index t = ![0, 0] := by
  have h : ∀ t : Fin 50, win0_2.index (t.cast N_0.symm) = ![0, 0] := by decide +kernel
  exact fun t => h (t.cast N_0)
/-- Window 2's block is the whole array. -/
theorem iblk2 (t : Fin cfg0.N) (i : Fin 1) (k : Fin 64) : (iblk W c 2 t : Vec F S1x64 .f32) (ix2 i k) = (W c (Proc.devRef .tc main_v0) : Vec F S1x64 .f32) (ix2 i k) := by
  unfold iblk
  refine congrArg (W c (Proc.devRef .tc main_v0)) ?_
  blk_ext [index2]
theorem index3 : ∀ t : Fin cfg0.N, win0_3.index t = ![0, 0] := by
  have h : ∀ t : Fin 50, win0_3.index (t.cast N_0.symm) = ![0, 0] := by decide +kernel
  exact fun t => h (t.cast N_0)
/-- Window 3's block is the whole array. -/
theorem iblk3 (t : Fin cfg0.N) (i : Fin 1) (k : Fin 64) : (iblk W c 3 t : Vec F S1x64 .f32) (ix2 i k) = (W c (Proc.devRef .tc main_v1) : Vec F S1x64 .f32) (ix2 i k) := by
  unfold iblk
  refine congrArg (W c (Proc.devRef .tc main_v1)) ?_
  blk_ext [index3]
/-- Window 4's block at point `t` is rows `2000 t` to `2000 t + 1999`. -/
theorem iblk4 (t : Fin cfg0.N) (i : Fin 2000) (k : Fin 64) : (iblk W c 4 t : Vec F S2000x64 .f32) (ix2 i k)
    = (W c (Proc.devRef .tc main_arg2) : Vec F S100000x64 .f32) (ix2 ⟨2000 * t.val + i.val, by have := lt50 t; omega⟩ k) := by
  unfold iblk
  refine congrArg (W c (Proc.devRef .tc main_arg2)) ?_
  blk_ext [index4]
/-- Window 5's block at point `t` is rows `2000 t` to `2000 t + 1999`. -/
theorem iblk5 (t : Fin cfg0.N) (i : Fin 2000) (k : Fin 64) : (iblk W c 5 t : Vec F S2000x64 .f32) (ix2 i k)
    = (W c (Proc.devRef .tc main_arg3) : Vec F S100000x64 .f32) (ix2 ⟨2000 * t.val + i.val, by have := lt50 t; omega⟩ k) := by
  unfold iblk
  refine congrArg (W c (Proc.devRef .tc main_arg3)) ?_
  blk_ext [index5]

end

variable (m : (ℓ : Loc nD τ sig) → Buf (Elt F) ℓ) (d : Dev nD)

theorem V2_ret : V2 m d (Proc.devRef .tc main_v2_0) = retV (V1 m) d :=
  (Pipeline.afterRegion_arr (dat (V1 m) d) (V1 m d) launch0.win.arr_inj 6).trans
    ((dat (V1 m) d).arrAt_eq_of_after_last 6 (pt 49) (by decide +kernel) _ fun j => by rw [after_6]; rfl)
theorem V2_sur : V2 m d (Proc.devRef .tc main_v2_1) = surV (V1 m) d :=
  (Pipeline.afterRegion_arr (dat (V1 m) d) (V1 m d) launch0.win.arr_inj 7).trans
    ((dat (V1 m) d).arrAt_eq_of_after_last 7 (pt 49) (by decide +kernel) _ fun j => by rw [after_7]; rfl)
theorem V2_qn : V2 m d (Proc.devRef .tc main_v2_2) = qnV (V1 m) d :=
  (Pipeline.afterRegion_arr (dat (V1 m) d) (V1 m d) launch0.win.arr_inj 8).trans
    ((dat (V1 m) d).arrAt_eq_of_after_last 8 (pt 49) (by decide +kernel) _ fun j => by rw [after_8]; rfl)
theorem V2_dec : V2 m d (Proc.devRef .tc main_v2_3) = decV (V1 m) d :=
  (Pipeline.afterRegion_arr (dat (V1 m) d) (V1 m d) launch0.win.arr_inj 9).trans
    ((dat (V1 m) d).arrAt_eq_of_after_last 9 (pt 49) (by decide +kernel) _ fun j => by rw [after_9]; rfl)

end Cert.Proof

end
-- ==== Proof.Flash.lean ====
module

public import Idealize.ShloMosaic.PureOps.Ideal.Laws
public import Idealize.ShloMosaic.Lib.IdealHost

/-! The attention's mathematics over the extended reals: a softmax summed block by block with a running maximum is the
softmax summed at once, and a normalisation by the reciprocal root is the one by the root. -/

@[expose] public section

noncomputable section

namespace Cert.Proof.Math

open Idealize.ShloMosaic

/-- The value is a real number. -/
def IsR (x : EReal) : Prop := ∃ r : ℝ, x = r

theorem IsR.coe (r : ℝ) : IsR (r : EReal) := ⟨r, rfl⟩
theorem IsR.zero : IsR 0 := ⟨0, rfl⟩
theorem IsR.add {x y : EReal} : IsR x → IsR y → IsR (x + y) := by
  rintro ⟨a, rfl⟩ ⟨b, rfl⟩; exact ⟨a + b, (EReal.coe_add a b).symm⟩
theorem IsR.mul {x y : EReal} : IsR x → IsR y → IsR (x * y) := by
  rintro ⟨a, rfl⟩ ⟨b, rfl⟩; exact ⟨a * b, (EReal.coe_mul a b).symm⟩
theorem IsR.sub {x y : EReal} : IsR x → IsR y → IsR (x - y) := by
  rintro ⟨a, rfl⟩ ⟨b, rfl⟩; exact ⟨a - b, (EReal.coe_sub a b).symm⟩
theorem IsR.max {x y : EReal} (hx : IsR x) (hy : IsR y) : IsR (max x y) := by
  rcases max_choice x y with h | h <;> rw [h] <;> assumption
theorem IsR.sum {ι : Type*} (s : Finset ι) (f : ι → EReal) (h : ∀ i ∈ s, IsR (f i)) : IsR (∑ i ∈ s, f i) :=
  Finset.sum_induction f IsR (fun _ _ => IsR.add) IsR.zero h

theorem isR_of {x : EReal} (h1 : x ≠ ⊤) (h2 : x ≠ ⊥) : IsR x := by
  induction x with
  | bot => exact absurd rfl h2
  | top => exact absurd rfl h1
  | coe r => exact ⟨r, rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, one at least, is a real. -/
theorem fold_max_isR {ι : Type*} (s : Finset ι) (hs : s.Nonempty) (f : ι → EReal) (h : ∀ i ∈ s, IsR (f i)) :
    IsR (s.fold max ⊥ f) := by
  classical
  have key : ∀ t : Finset ι, (∀ i ∈ t, IsR (f i)) → t = ∅ ∨ IsR (t.fold max ⊥ f) := by
    intro t
    induction t using Finset.induction_on with
    | empty => exact fun _ => .inl rfl
    | insert a t ha ih =>
      intro ht
      refine .inr ?_
      rw [Finset.fold_insert ha]
      rcases ih (fun i hi => ht i (Finset.mem_insert_of_mem hi)) with rfl | h'
      · rw [Finset.fold_empty, max_eq_left bot_le]; exact ht a (Finset.mem_insert_self ..)
      · exact (ht a (Finset.mem_insert_self ..)).max h'
  exact (key s h).resolve_left hs.ne_empty

/-- A nonnegative real factor goes through a sum. -/
theorem sum_mul_real {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.2 hc) (EReal.coe_ne_top c)]

theorem exp_coe (r : ℝ) : Ideal.exp (r : EReal) = (Real.exp r : EReal) := rfl
theorem exp_sub_coe (a b : ℝ) : Ideal.exp ((a : EReal) - (b : EReal)) = (Real.exp (a - b) : EReal) := by
  rw [← EReal.coe_sub, exp_coe]

/-- The state of a softmax summed block by block: after `n` blocks the running sum and the running weighted sum are the
    sums over the blocks so far of the exponentials taken against the running maximum. -/
theorem running {B : ℕ} (hB : 0 < B) (s : ℕ → Fin B → ℝ) (v : ℕ → Fin B → EReal) (M L A : ℕ → EReal) (r₀ : ℝ) (hM0 : M 0 = r₀)
    (hL0 : L 0 = 0) (hA0 : A 0 = 0)
    (hM : ∀ n, M (n + 1) = max (M n) (Finset.univ.fold max ⊥ fun x => (s n x : EReal)))
    (hL : ∀ n, L (n + 1) = L n * Ideal.exp (M n - M (n + 1)) + ∑ x, Ideal.exp ((s n x : EReal) - M (n + 1)))
    (hA : ∀ n, A (n + 1) = A n * Ideal.exp (M n - M (n + 1)) + ∑ x, Ideal.exp ((s n x : EReal) - M (n + 1)) * v n x) (n : ℕ) :
    ∃ μ : ℝ, M n = μ ∧ L n = ((∑ t ∈ Finset.range n, ∑ x, Real.exp (s t x - μ) : ℝ) : EReal)
      ∧ A n = ∑ t ∈ Finset.range n, ∑ x, ((Real.exp (s t x - μ) : ℝ) : EReal) * v t x := by
  induction n with
  | zero => exact ⟨r₀, hM0, by simp [hL0], by simp [hA0]⟩
  | succ n ih =>
    obtain ⟨μ, h1, h2, h3⟩ := ih
    obtain ⟨μ', h'⟩ : IsR (M (n + 1)) := by
      rw [hM, h1]
      exact (IsR.coe μ).max (fold_max_isR _ ⟨⟨0, hB⟩, Finset.mem_univ _⟩ _ fun i _ => IsR.coe _)
    have hk : ∀ t x, Real.exp (s t x - μ) * Real.exp (μ - μ') = Real.exp (s t x - μ') := fun t x => by
      rw [← Real.exp_add]; congr 1; ring
    refine ⟨μ', h', ?_, ?_⟩
    · rw [hL, h1, h', h2, exp_sub_coe, ← EReal.coe_mul, Finset.sum_range_succ, EReal.coe_add, coe_sum Finset.univ]
      congr 1
      · congr 1
        rw [Finset.sum_mul]
        refine Finset.sum_congr rfl fun t _ => ?_
        rw [Finset.sum_mul]
        exact Finset.sum_congr rfl fun x _ => hk t x
    · rw [hA, h1, h', h3, exp_sub_coe, Finset.sum_range_succ]
      congr 1
      rw [sum_mul_real _ _ (Real.exp_pos _).le]
      refine Finset.sum_congr rfl fun t _ => ?_
      rw [sum_mul_real _ _ (Real.exp_pos _).le]
      refine Finset.sum_congr rfl fun x _ => ?_
      rw [mul_right_comm, ← EReal.coe_mul, hk]

/-- The weighted sum over the sum is the sum of the softmax's weights times the values, whatever is taken off the logits. -/
theorem softmax {ι : Type*} [Fintype ι] [Nonempty ι] (s : ι → ℝ) (v : ι → EReal) (μ M : ℝ) :
    Ideal.div (∑ i, ((Real.exp (s i - μ) : ℝ) : EReal) * v i) ((∑ i, Real.exp (s i - μ) : ℝ) : EReal)
      = ∑ i, Ideal.div (Ideal.exp ((s i : EReal) - (M : EReal))) (∑ j, Ideal.exp ((s j : EReal) - (M : EReal))) * v i := by
  have pos : ∀ r : ℝ, 0 < ∑ i, Real.exp (s i - r) := fun r =>
    Finset.sum_pos (fun i _ => Real.exp_pos _) Finset.univ_nonempty
  have hE : ∀ r : ℝ, ∑ j, Ideal.exp ((s j : EReal) - (r : EReal)) = ((∑ i, Real.exp (s i - r) : ℝ) : EReal) := fun r => by
    rw [coe_sum]; exact Finset.sum_congr rfl fun j _ => exp_sub_coe _ _
  have hne : ∀ r : ℝ, ((∑ i, Real.exp (s i - r) : ℝ) : EReal) ≠ 0 := fun r h => (pos r).ne' (EReal.coe_eq_zero.1 h)
  rw [hE M]
  unfold Ideal.div
  rw [if_neg (hne μ), ← EReal.coe_inv, sum_mul_real _ _ (inv_nonneg.2 (pos μ).le)]
  refine Finset.sum_congr rfl fun i _ => ?_
  rw [if_neg (hne M), ← EReal.coe_inv, exp_sub_coe, ← EReal.coe_mul, mul_right_comm, ← EReal.coe_mul]
  congr 2
  have hs : ∑ j, Real.exp (s j - μ) = (∑ j, Real.exp (s j - M)) * Real.exp (M - μ) := by
    rw [Finset.sum_mul]; refine Finset.sum_congr rfl fun j _ => ?_
    rw [← Real.exp_add]; congr 1; ring
  have hi : Real.exp (s i - μ) = Real.exp (s i - M) * Real.exp (M - μ) := by rw [← Real.exp_add]; congr 1; ring
  rw [hs, hi]
  have := (pos M).ne'
  have := (Real.exp_pos (M - μ)).ne'
  field_simp

/-! ### The normalisation -/

theorem sq_nonneg' (x : EReal) : 0 ≤ x * x := by
  induction x with
  | bot => simp
  | top => simp
  | coe r => rw [← EReal.coe_mul]; exact EReal.coe_nonneg.2 (mul_self_nonneg r)

theorem isR_of_sq {x : EReal} (h : x * x ≠ ⊤) : IsR x := by
  refine isR_of ?_ ?_ <;> rintro rfl <;> simp at h

/-- The mean of the squares plus a positive real is a positive real or infinite, and infinite if a square is no real's. -/
theorem var_cases {ι : Type*} [Fintype ι] (d : ι → EReal) (n e : ℝ) (hn : 0 < n) (he : 0 < e) :
    Ideal.div (∑ k, d k * d k) n + e = ⊤ ∨ ∃ r : ℝ, 0 < r ∧ Ideal.div (∑ k, d k * d k) n + e = r ∧ ∀ k, IsR (d k) := by
  have hS : 0 ≤ ∑ k, d k * d k := Finset.sum_nonneg fun k _ => sq_nonneg' _
  have hn' : (n : EReal) ≠ 0 := fun h => hn.ne' (EReal.coe_eq_zero.1 h)
  unfold Ideal.div
  rw [if_neg hn', ← EReal.coe_inv]
  by_cases h : ∑ k, d k * d k = ⊤
  · left
    rw [h, EReal.top_mul_coe_of_pos (inv_pos.2 hn), EReal.top_add_coe]
  · right
    obtain ⟨S, hS'⟩ := isR_of h (fun hb => by rw [hb] at hS; simp at hS)
    have hS0 : 0 ≤ S := by rw [hS'] at hS; exact EReal.coe_nonneg.1 hS
    refine ⟨S * n⁻¹ + e, by positivity, by rw [hS', ← EReal.coe_mul, ← EReal.coe_add], fun k => isR_of_sq fun hk => h ?_⟩
    exact top_le_iff.1 (hk ▸ Finset.single_le_sum (f := fun k => d k * d k) (fun k _ => sq_nonneg' _) (Finset.mem_univ k))

theorem norm_eq {ι : Type*} [Fintype ι] (d : ι → EReal) (n e : ℝ) (hn : 0 < n) (he : 0 < e) (k : ι) :
    d k * Ideal.rsqrt (Ideal.div (∑ k, d k * d k) n + e) = Ideal.div (d k) (Ideal.sqrt (Ideal.div (∑ k, d k * d k) n + e)) := by
  rcases var_cases d n e hn he with h | ⟨r, hr, h, -⟩
  · rw [h]
    show d k * 0 = Ideal.div (d k) ⊤
    unfold Ideal.div
    rw [if_neg (by simp)]; simp
  · rw [h]
    show d k * (if r < 0 then ⊥ else if r = 0 then ⊤ else (((Real.sqrt r)⁻¹ : ℝ) : EReal)) = Ideal.div (d k) (if r < 0 then ⊥ else ((Real.sqrt r : ℝ) : EReal))
    rw [if_neg (not_lt.2 hr.le), if_neg hr.ne', if_neg (not_lt.2 hr.le)]
    unfold Ideal.div
    rw [if_neg (fun h => (Real.sqrt_pos.2 hr).ne' (EReal.coe_eq_zero.1 h)), EReal.coe_inv]

theorem norm_isR {ι : Type*} [Fintype ι] (d : ι → EReal) (n e : ℝ) (hn : 0 < n) (he : 0 < e) (k : ι) :
    IsR (d k * Ideal.rsqrt (Ideal.div (∑ k, d k * d k) n + e)) := by
  rcases var_cases d n e hn he with h | ⟨r, hr, h, hd⟩
  · rw [h]; show IsR (d k * 0); rw [mul_zero]; exact IsR.zero
  · rw [h]
    refine (hd k).mul ?_
    show IsR (if r < 0 then ⊥ else if r = 0 then ⊤ else (((Real.sqrt r)⁻¹ : ℝ) : EReal))
    rw [if_neg (not_lt.2 hr.le), if_neg hr.ne']
    exact IsR.coe _

/-- A sum over the blocks, then over a block, is the sum over all. -/
theorem sum_blocks {β : Type*} [AddCommMonoid β] (T B : ℕ) (f : ℕ → β) :
    ∑ t ∈ Finset.range T, ∑ x : Fin B, f (B * t + x.val) = ∑ k : Fin (T * B), f k.val := by
  rw [Finset.sum_range, ← Fintype.sum_prod_type', ← finProdFinEquiv.sum_comp]
  refine Finset.sum_congr rfl fun p _ => ?_
  rw [finProdFinEquiv_apply_val, add_comm]

end Cert.Proof.Math

end
-- ==== Proof.Spec.lean ====
module

public import proofs.«01_k».proof.Proof.Flash

/-! The formulas both programs compute: a normalised row, a logit, and the values of the literals in them. -/

@[expose] public section

noncomputable section

namespace Cert.Proof.Math

open Idealize.ShloMosaic

theorem lit64 : Ideal.ofBits .f32 1115684864#32 = ((64 : ℝ) : EReal) := by
  simp [Ideal.ofBits, Ideal.ieee, -EReal.coe_mul]; norm_num
theorem lit2 : IsR (Ideal.ofBits .f32 1073741824#32) := by
  simp [Ideal.ofBits, Ideal.ieee, -EReal.coe_mul]; exact ⟨_, rfl⟩
theorem lit_eps : ∃ e : ℝ, 0 < e ∧ Ideal.ofBits .f32 925353388#32 = (e : EReal) := by
  simp [Ideal.ofBits, Ideal.ieee, -EReal.coe_mul]
theorem lit_low : IsR (Ideal.ofBits .f32 4048155338#32) := by
  simp [Ideal.ofBits, Ideal.ieee, -EReal.coe_mul]; exact ⟨_, rfl⟩
theorem lit_bot : Ideal.ofBits .f32 4286578688#32 = ⊥ := by
  simp [Ideal.ofBits, Ideal.ieee]

/-- A row less its mean. -/
def centred (x : Fin 64 → EReal) (k : Fin 64) : EReal := x k - Ideal.div (∑ k, x k) (Ideal.ofBits .f32 1115684864#32)

/-- A row normalised: centred, divided by the root of its variance plus epsilon, scaled and shifted. -/
def normed (x g b : Fin 64 → EReal) (k : Fin 64) : EReal :=
  Ideal.div (centred x k) (Ideal.sqrt (Ideal.div (∑ k, centred x k * centred x k) (Ideal.ofBits .f32 1115684864#32)
    + Ideal.ofBits .f32 925353388#32)) * g k + b k

/-- The logit of a query row and a key: the negated squared distance, spelled out by its three products. -/
def logit (q κ : Fin 64 → EReal) : EReal :=
  -max (∑ k, q k * q k + ∑ k, κ k * κ k - Ideal.ofBits .f32 1073741824#32 * ∑ k, q k * κ k) 0

/-- The kernel's normalisation multiplies by the reciprocal root. -/
theorem normed_rsqrt (x g b : Fin 64 → EReal) (k : Fin 64) :
    centred x k * Ideal.rsqrt (Ideal.div (∑ k, centred x k * centred x k) (Ideal.ofBits .f32 1115684864#32)
      + Ideal.ofBits .f32 925353388#32) * g k + b k = normed x g b k := by
  obtain ⟨e, he, h⟩ := lit_eps
  unfold normed
  rw [h, lit64, norm_eq _ _ _ (by norm_num) he]

/-- A normalised row is real where scale and shift are. -/
theorem normed_isR (x : Fin 64 → EReal) {g b : Fin 64 → EReal} (hg : ∀ k, IsR (g k)) (hb : ∀ k, IsR (b k)) (k : Fin 64) :
    IsR (normed x g b k) := by
  obtain ⟨e, he, h⟩ := lit_eps
  rw [← normed_rsqrt, h, lit64]
  exact ((norm_isR _ _ _ (by norm_num) he k).mul (hg k)).add (hb k)

/-- A logit of real rows is real. -/
theorem logit_isR {q κ : Fin 64 → EReal} (hq : ∀ k, IsR (q k)) (hκ : ∀ k, IsR (κ k)) : IsR (logit q κ) := by
  have h : ∀ {f g : Fin 64 → EReal}, (∀ k, IsR (f k)) → (∀ k, IsR (g k)) → IsR (∑ k, f k * g k) := fun hf hg =>
    IsR.sum _ _ fun k _ => (hf k).mul (hg k)
  obtain ⟨r, hr⟩ := ((((h hq hq).add (h hκ hκ)).sub (lit2.mul (h hq hκ))).max IsR.zero)
  exact ⟨-r, by unfold logit; rw [hr]; exact (EReal.coe_neg r).symm⟩

/-- Division by one. -/
theorem div_one' (x : EReal) : Ideal.div x 1 = x := by
  unfold Ideal.div
  rw [if_neg one_ne_zero]
  simp

end Cert.Proof.Math

end
-- ==== Proof.KerVal.lean ====
module

public import proofs.«01_k».proof.Proof.AttnVal
public import proofs.«01_k».proof.Proof.Spec

/-! The attention kernel's payloads and states, element by element. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

open Cert.Proof.Math

section

variable (x : Vec Ideal S1024x64 .f32) (g b : Vec Ideal S1x64 .f32) (kb vb : Vec Ideal S2000x64 .f32)
  (mm ll : Vec Ideal S1024x1 .f32) (acc vt : Vec Ideal S1024x64 .f32)

/-- An element of a matrix, as an extended real. -/
def el {n k : ℕ} (x : Vec Ideal ⟨2, ![n, k]⟩ .f32) (i : Fin n) (j : Fin k) : EReal := x (ix2 i j)

theorem pay7_eq (i : Fin 1024) (k : Fin 64) : el (k0_pay7 x g b) i k = normed (el x i) (el g 0) (el b 0) k := by
  rw [← normed_rsqrt]
  unfold centred el
  pointwise [k0_pay7]

theorem pay12_eq (i : Fin 1024) (j : Fin 2000) : el (k0_pay12 x kb) i j = logit (el x i) (el kb j) := by
  unfold logit
  rw [← zero_sub]
  unfold el
  pointwise [k0_pay12]

theorem stepM_eq (i : Fin 1024) : el (stepM x kb mm) i 0 = max (el mm i 0) (Finset.univ.fold max ⊥ fun j => logit (el x i) (el kb j)) := by
  simp only [← pay12_eq]
  unfold stepM el
  pointwise [k0_pay3, k0_pay13]
  rw [lit_bot]

theorem pay13_eq (i : Fin 1024) : el (k0_pay13 x kb mm) i 0 = el (stepM x kb mm) i 0 := by
  unfold stepM el
  pointwise [k0_pay3]

theorem stepL_eq (i : Fin 1024) : el (stepL x kb mm ll) i 0 = el ll i 0 * Ideal.exp (el mm i 0 - el (stepM x kb mm) i 0)
    + ∑ j, Ideal.exp (logit (el x i) (el kb j) - el (stepM x kb mm) i 0) := by
  simp only [← pay12_eq, ← pay13_eq]
  unfold stepL el
  pointwise [k0_pay16, k0_pay1, k0_pay14, k0_pay15]

theorem stepA_eq (i : Fin 1024) (k : Fin 64) : el (stepA x kb vb mm acc) i k = el acc i k * Ideal.exp (el mm i 0 - el (stepM x kb mm) i 0)
    + ∑ j, Ideal.exp (logit (el x i) (el kb j) - el (stepM x kb mm) i 0) * el vb j k := by
  simp only [← pay12_eq, ← pay13_eq]
  unfold stepA el
  pointwise [k0_pay2, k0_pay14, k0_pay15]

theorem pay4_eq (i : Fin 1024) (k : Fin 64) : el (k0_pay4 acc ll) i k = Ideal.div (el acc i k) (el ll i 0) := by
  unfold el
  pointwise [k0_pay4]

theorem pay5_eq (i : Fin 1024) : el (k0_pay5 acc ll vt) i 0 = Ideal.div (∑ k, (el (k0_pay4 acc ll) i k - el vt i k) * (el (k0_pay4 acc ll) i k - el vt i k))
    (Ideal.ofBits .f32 1115684864#32) := by
  unfold el
  pointwise [k0_pay5]

theorem pay6_eq (i : Fin 1024) : el (k0_pay6 acc ll vt) i 0 = Ideal.ofBits .f32 1065185444#32 * (1 - Ideal.logistic (el (k0_pay5 acc ll vt) i 0
    - Ideal.div (∑ k, el (k0_pay5 acc ll vt) k 0) (Ideal.ofBits .f32 1149239296#32))) := by
  unfold el
  pointwise [k0_pay6]
  simp

theorem pay8_eq (i : Fin 1024) : IsR (el (k0_pay8 (F := Ideal)) i 0) := by
  unfold el
  rw [show (k0_pay8 (F := Ideal)) (ix2 i 0) = Ideal.ofBits .f32 4048155338#32 by pointwise [k0_pay8]]
  exact lit_low
theorem pay9_eq (i : Fin 1024) : el (k0_pay9 (F := Ideal)) i 0 = 0 := by
  unfold el
  pointwise [k0_pay9]
theorem pay11_eq (i : Fin 1024) (k : Fin 64) : el (k0_pay11 (F := Ideal) k0_pay10) i k = 0 := by
  unfold el
  pointwise [k0_pay11, k0_pay10]

end

end Cert.Proof

end
-- ==== Proof.RefVal.lean ====
module

public import proofs.«01_k».proof.Proof.Spec
public import proofs.«01_k».proof.Proof.Gen.ReferenceIdeal.Run
public import Idealize.ShloMosaic.Lib.Pointwise

/-! The reference's values, element by element. -/

@[expose] public section

set_option maxRecDepth 16384

noncomputable section

namespace Cert.Proof

open Cert.ReferenceIdeal Cert.ReferenceIdeal.Gen Cert.ReferenceIdeal.Value
open Idealize.ShloMosaic Idealize.ShloMosaic.TcCoe
open Cert.Proof.Math

variable (U : Valuation τ sig (Elt Ideal))

/-- An element of the reference's query. -/
def queryAt (i : Fin 1024) (k : Fin 64) : EReal := (U (Proc.tc.devRef main_arg0) : Vec Ideal S1024x64 .f32) (ix2 i k)
/-- An element of the reference's value target. -/
def targetAt (i : Fin 1024) (k : Fin 64) : EReal := (U (Proc.tc.devRef main_arg1) : Vec Ideal S1024x64 .f32) (ix2 i k)
/-- An element of the reference's keys. -/
def keyAt (i : Fin 100000) (k : Fin 64) : EReal := (U (Proc.tc.devRef main_arg2) : Vec Ideal S100000x64 .f32) (ix2 i k)
/-- An element of the reference's values. -/
def valueAt (i : Fin 100000) (k : Fin 64) : EReal := (U (Proc.tc.devRef main_arg3) : Vec Ideal S100000x64 .f32) (ix2 i k)
/-- An element of the reference's scale. -/
def scaleAt (k : Fin 64) : EReal := (U (Proc.tc.devRef main_arg5) : Vec Ideal S64 .f32) (ix1 k)
/-- An element of the reference's shift. -/
def shiftAt (k : Fin 64) : EReal := (U (Proc.tc.devRef main_arg6) : Vec Ideal S64 .f32) (ix1 k)
/-- An element of the normalised query. -/
def r17 (i : Fin 1024) (k : Fin 64) : EReal := (res_main_v17 U : Vec Ideal S1024x64 .f32) (ix2 i k)
/-- A logit. -/
def r36 (i : Fin 1024) (j : Fin 100000) : EReal := (res_main_v36 U : Vec Ideal S1024x100000 .f32) (ix2 i j)
/-- A weight before its division. -/
def r43 (i : Fin 1024) (j : Fin 100000) : EReal := (res_main_v43 U : Vec Ideal S1024x100000 .f32) (ix2 i j)
/-- A row's surprise. -/
def r53 (i : Fin 1024) : EReal := (res_main_v53 U : Vec Ideal S1024 .f32) (ix1 i)
/-- A row's decay. -/
def r67 (i : Fin 1024) : EReal := (res_main_v67 U : Vec Ideal S1024 .f32) (ix1 i)

theorem r17_eq (i : Fin 1024) (k : Fin 64) : r17 U i k = normed (queryAt U i) (scaleAt U) (shiftAt U) k := by
  have h0 : (FloatOps.sitofp .f32 0#32 : Ideal .f32) = (0 : EReal) := by
    show (((0#32 : BitVec 32).toInt : ℝ) : EReal) = 0
    simp
  have h1 : Ideal.ofBits .f32 1115684864#32 - (0 : EReal) = Ideal.ofBits .f32 1115684864#32 := by simp
  have h2 : (0 : EReal) < Ideal.ofBits .f32 1115684864#32 := by
    rw [lit64]; exact_mod_cast (by norm_num : (0 : ℝ) < 64)
  unfold normed centred r17 queryAt scaleAt shiftAt
  pointwise [res_main_v17, res_main_call0_v8, res_main_call0_v5]
  rw [h0, h1, if_pos h2]

theorem r36_eq (i : Fin 1024) (j : Fin 100000) : r36 U i j = logit (r17 U i) (keyAt U j) := by
  rw [← div_one' (logit _ _)]
  unfold logit r36 r17 keyAt
  pointwise [res_main_v36]

/-- The largest element of a row of real numbers is real. -/
theorem hostMax_isR {n0 n1 : ℕ} {t u : Shape} (h : (⟨2, ![n0, n1]⟩ : Shape).ReducesTo [1] t) (hu : 0 < u.numel) (j : t.Idx)
    (x : FVec Ideal ⟨2, ![n0, n1]⟩ .f32) (init : FVec Ideal u .f32) (hi : ∀ y, init y = (⊥ : EReal)) (hn : 0 < n1)
    (hf : ∀ k : Fin n1, IsR (x (ix2 ⟨(j ⟨0, h.lt_r2_a1_0⟩).val, Shape.coordLt (j ⟨0, h.lt_r2_a1_0⟩) h.size_r2_a1_0⟩ k))) :
    IsR (Host.reduce (FloatOps.maximumf (F := Ideal) (φ := .f32)) x init h hu j : Ideal .f32) := by
  rw [Host.reduce_eq_fold, h.fold_fiber_r2_a1, hi]
  exact fold_max_isR _ ⟨⟨0, hn⟩, Finset.mem_univ _⟩ _ fun k _ => hf k

/-- Rows less a number of their own, exponentiated, whatever the rows and the numbers. -/
theorem expRows_eq (x : FVec Ideal S1024x100000 .f32) (R : FVec Ideal S1024 .f32) (i : Fin 1024) (j : Fin 100000) :
    (Host.exp (subf x (broadcastInDim S1024x100000 ![0, 1] bcast_S1024x1_S1024x100000_0_1 (broadcastInDim S1024x1 ![0] bcast_S1024_S1024x1_0
      (maximumf (broadcastInDim S1024 ![] bcast_S_S1024 (constant S_ .f32 0xFF800000#32)) R)))) (ix2 i j) : EReal)
      = Ideal.exp ((x (ix2 i j) : EReal) - max (Ideal.ofBits .f32 4286578688#32) (R (ix1 i))) := by
  pointwise

/-- A weight is the exponential of the logit less the row's largest, a real number where the row's logits are. -/
theorem r43_eq (i : Fin 1024) (h : ∀ j, IsR (r36 U i j)) :
    ∃ M : ℝ, ∀ j, r43 U i j = Ideal.exp (r36 U i j - (M : EReal)) := by
  obtain ⟨M, hM⟩ := hostMax_isR reducesTo_S1024x100000_S1024_d1 h_S_ (ix1 i) (res_main_v36 U) (constant S_ .f32 0xFF800000#32)
    (fun _ => lit_bot) (by norm_num) h
  refine ⟨M, fun j => ?_⟩
  refine (expRows_eq (res_main_v36 U) _ i j).trans ?_
  rw [hM, lit_bot]
  simp [r36]

/-- The retrieved rows. -/
def ret : FVec Ideal S1024x64 .f32 :=
  Host.dotGeneral (φ₂ := .f32) dot_S1024x100000_S100000x64_S1024x64_1_0_0_1_n_n none (Host.divf (res_main_v43 U) (broadcastInDim S1024x100000 ![0, 1] bcast_S1024x1_S1024x100000_0_1 (broadcastInDim S1024x1 ![0] bcast_S1024_S1024x1_0 (Host.reduceAdd (res_main_v43 U) (constant S_ .f32 0x00000000#32) reducesTo_S1024x100000_S1024_d1 h_S_)))) (U (Proc.devRef .tc main_arg3))

/-- An element of the retrieved rows. -/
def retAt (i : Fin 1024) (k : Fin 64) : EReal := (ret U : Vec Ideal S1024x64 .f32) (ix2 i k)

theorem ret_eq (i : Fin 1024) (k : Fin 64) : retAt U i k
    = ∑ j, Ideal.div (r43 U i j) (∑ j', r43 U i j') * valueAt U j k := by
  unfold retAt r43 valueAt
  pointwise [ret]

theorem r53_eq (i : Fin 1024) : r53 U i = Ideal.div (∑ k, (retAt U i k - targetAt U i k) * (retAt U i k - targetAt U i k))
    (Ideal.ofBits .f32 1115684864#32) := by
  have h : ∀ k, retAt U i k - targetAt U i k = (res_main_v49 U : Vec Ideal S1024x64 .f32) (ix2 i k) := fun _ => rfl
  simp only [h]
  unfold r53
  pointwise [res_main_v53]

theorem r67_eq (i : Fin 1024) : r67 U i = Ideal.ofBits .f32 1065185444#32 * (1 - Ideal.logistic (r53 U i
    - Ideal.div (∑ k, r53 U k) (Ideal.ofBits .f32 1149239296#32))) := by
  unfold Ideal.logistic r67 r53
  pointwise [res_main_v67]

end Cert.Proof

end
-- ==== Proof.AttnRef.lean ====
module

public import proofs.«01_k».proof.Proof.KerVal
public import proofs.«01_k».proof.Proof.RefVal

/-! The attention kernel's results are the reference's retrieved rows, surprise, normalised query and decay. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

open Cert.Proof.Math

/-- The kernel's arrays before the attention hold the reference's arguments, and those that have to be finite are. -/
structure Inputs (W : Valuation τ sig (Elt Ideal)) (U : Valuation Cert.ReferenceIdeal.τ Cert.ReferenceIdeal.sig (Elt Ideal)) : Prop where
  query : ∀ i k, el (n := 1024) (k := 64) (W (Proc.devRef .tc main_arg0)) i k = queryAt U i k
  target : ∀ i k, el (n := 1024) (k := 64) (W (Proc.devRef .tc main_arg1)) i k = targetAt U i k
  key : ∀ j k, el (n := 100000) (k := 64) (W (Proc.devRef .tc main_arg2)) j k = keyAt U j k
  value : ∀ j k, el (n := 100000) (k := 64) (W (Proc.devRef .tc main_arg3)) j k = valueAt U j k
  scale : ∀ k, el (n := 1) (k := 64) (W (Proc.devRef .tc main_v0)) 0 k = scaleAt U k
  shift : ∀ k, el (n := 1) (k := 64) (W (Proc.devRef .tc main_v1)) 0 k = shiftAt U k
  key_real : ∀ j k, IsR (keyAt U j k)
  scale_real : ∀ k, IsR (scaleAt U k)
  shift_real : ∀ k, IsR (shiftAt U k)

/-- The key that row `x` of block `n` holds. -/
def blk (n : ℕ) (x : Fin 2000) : Fin 100000 := ⟨2000 * (pt n).val + x.val, by have := lt50 (pt n); omega⟩

/-- A sum over the keys, block by block. -/
theorem sum_blk {M : Type*} [AddCommMonoid M] (g : Fin 100000 → M) : ∑ t ∈ Finset.range 50, ∑ x, g (blk t x) = ∑ j, g j := by
  have h := sum_blocks 50 2000 fun n => if h : n < 100000 then g ⟨n, h⟩ else 0
  have hr : (∑ k : Fin (50 * 2000), if h : k.val < 100000 then g ⟨k.val, h⟩ else 0) = ∑ j : Fin 100000, g j := by
    refine Finset.sum_congr (M := M) (s₁ := (Finset.univ : Finset (Fin 100000))) rfl fun k _ => ?_
    exact dif_pos k.isLt
  rw [← hr, ← h]
  refine Finset.sum_congr rfl fun t ht => Finset.sum_congr rfl fun x _ => ?_
  have ht := Finset.mem_range.1 ht
  have hx := x.isLt
  rw [dif_pos (by omega)]
  refine congrArg g (Fin.ext ?_)
  show 2000 * (t % 50) + x.val = 2000 * t + x.val
  rw [Nat.mod_eq_of_lt ht]

section

variable {W : Dev nD → Valuation τ sig (Elt Ideal)} {d : Dev nD}
  {U : Valuation Cert.ReferenceIdeal.τ Cert.ReferenceIdeal.sig (Elt Ideal)} (H : Inputs (W d) U)
include H

/-- The normalised query. -/
theorem qn_eq (i : Fin 1024) (k : Fin 64) : el (n := 1024) (k := 64) (qnV W d) i k = r17 U i k := by
  rw [r17_eq]
  refine (pay7_eq _ _ _ i k).trans ?_
  rw [show el (n := 1024) (k := 64) (iblk W d 0 (pt 0)) i = queryAt U i from funext fun k => (iblk0 W d _ i k).trans (H.query i k),
    show el (n := 1) (k := 64) (iblk W d 2 (pt 0)) 0 = scaleAt U from funext fun k => (iblk2 W d _ 0 k).trans (H.scale k),
    show el (n := 1) (k := 64) (iblk W d 3 (pt 0)) 0 = shiftAt U from funext fun k => (iblk3 W d _ 0 k).trans (H.shift k)]

/-- The logits are real. -/
theorem r36_isR (i : Fin 1024) (j : Fin 100000) : IsR (r36 U i j) := by
  rw [r36_eq]
  refine logit_isR (fun k => ?_) (H.key_real j)
  rw [r17_eq]
  exact normed_isR _ H.scale_real H.shift_real k

/-- The logit of a query row and a key of block `n`. -/
theorem logit_eq (n : ℕ) (i : Fin 1024) (x : Fin 2000) :
    logit (el (n := 1024) (k := 64) (qnV W d) i) (el (n := 2000) (k := 64) (iblk W d 4 (pt n)) x) = r36 U i (blk n x) := by
  rw [r36_eq]
  rw [show el (n := 1024) (k := 64) (qnV W d) i = r17 U i from funext fun k => qn_eq H i k,
    show el (n := 2000) (k := 64) (iblk W d 4 (pt n)) x = keyAt U (blk n x) from
      funext fun k => (iblk4 W d _ x k).trans (H.key (blk n x) k)]

/-- The retrieved rows. -/
theorem retV_eq (i : Fin 1024) (k : Fin 64) : el (n := 1024) (k := 64) (retV W d) i k = retAt U i k := by
  obtain ⟨s, hs⟩ := Classical.axiomOfChoice (r36_isR H i)
  have hl : ∀ n x, logit (el (n := 1024) (k := 64) (qnV W d) i) (el (n := 2000) (k := 64) (iblk W d 4 (pt n)) x) = ((s (blk n x) : ℝ) : EReal) :=
    fun n x => (logit_eq H n i x).trans (hs _)
  have hv : ∀ n x, el (n := 2000) (k := 64) (iblk W d 5 (pt n)) x k = valueAt U (blk n x) k :=
    fun n x => (iblk5 W d _ x k).trans (H.value (blk n x) k)
  obtain ⟨r₀, h0⟩ := pay8_eq i
  obtain ⟨μ, -, hL, hA⟩ := running (B := 2000) (by norm_num) (fun n x => s (blk n x)) (fun n x => valueAt U (blk n x) k)
    (fun n => el (n := 1024) (k := 1) (stM W d n) i 0) (fun n => el (n := 1024) (k := 1) (stL W d n) i 0)
    (fun n => el (n := 1024) (k := 64) (stA W d n) i k) r₀ h0 (pay9_eq i) (pay11_eq i k)
    (fun n => by
      refine (stepM_eq _ _ _ i).trans ?_
      simp only [hl])
    (fun n => by
      refine (stepL_eq _ _ _ _ i).trans ?_
      simp only [hl]; rfl)
    (fun n => by
      refine (stepA_eq _ _ _ _ _ i k).trans ?_
      simp only [hl, hv]; rfl) 50
  refine (pay4_eq _ _ i k).trans ?_
  obtain ⟨M, hM⟩ := r43_eq U i (r36_isR H i)
  rw [ret_eq]
  simp only [hM, hs]
  haveI : Nonempty (Fin 100000) := ⟨0⟩
  rw [← softmax s (fun j => valueAt U j k) μ M]
  refine congrArg₂ Ideal.div (hA.trans ?_) (hL.trans ?_)
  · exact sum_blk fun j => ((Real.exp (s j - μ) : ℝ) : EReal) * valueAt U j k
  · exact congrArg _ (sum_blk fun j => Real.exp (s j - μ))

/-- The surprise. -/
theorem surV_eq (i : Fin 1024) : el (n := 1024) (k := 1) (surV W d) i 0 = r53 U i := by
  rw [r53_eq]
  refine (pay5_eq _ _ _ i).trans ?_
  have h : ∀ k, el (n := 1024) (k := 64) (iblk W d 1 (pt 49)) i k = targetAt U i k := fun k => (iblk1 W d _ i k).trans (H.target i k)
  have hr : ∀ k, el (k0_pay4 (stA W d 50) (stL W d 50)) i k = retAt U i k := fun k => retV_eq H i k
  simp only [h, hr]

/-- The decay. -/
theorem decV_eq (i : Fin 1024) : el (n := 1024) (k := 1) (decV W d) i 0 = r67 U i := by
  rw [r67_eq]
  refine (pay6_eq _ _ _ i).trans ?_
  have h : ∀ i, el (k0_pay5 (stA W d 50) (stL W d 50) (iblk W d 1 (pt 49))) i 0 = r53 U i := fun i => surV_eq H i
  simp only [h]

end

end Cert.Proof

end
-- ==== Proof.RefScat.lean ====
module

public import proofs.«01_k».proof.Proof.RefVal
public import Idealize.ShloMosaic.Lib.Routing.OpsSet

/-! The reference's two row scatters and its scatter of ages, read at an element. -/

@[expose] public section

set_option maxRecDepth 16384

noncomputable section

namespace Cert.Proof

open Cert.ReferenceIdeal Cert.ReferenceIdeal.Gen Cert.ReferenceIdeal.Value
open Idealize.ShloMosaic Idealize.ShloMosaic.TcCoe
open Idealize.ShloMosaic.Routing (shape1 shape2)

/-- Element `(a, b)` of the rows scattered by one index word each lands at `(r, c)` exactly when the word of row `a`, read signed, is
`r`, and the columns are the same. -/
theorem lands_row {R C N : ℕ} (d : ScatterDims (shape2 R C) (shape2 N 1) (shape2 N C)) (huw : d.updateWindowDims = [1])
    (hiw : d.insertedWindowDims = [0]) (hsd : d.scatterDimsToOperandDims = [0]) (hiv : d.indexVectorDim = 1)
    (idx : IVec (shape2 N 1) 32) (a : Fin N) (b : Fin C) (r : Fin R) (c : Fin C) :
    d.resultIdx? (ix2 a b) idx = some (ix2 r c) ↔ (idx (ix2 a (0 : Fin 1))).toInt = r.val ∧ b = c := by
  obtain ⟨uw, iw, sd, iv, wf⟩ := d
  obtain rfl : uw = [1] := huw
  obtain rfl : iw = [0] := hiw
  obtain rfl : sd = [0] := hsd
  obtain rfl : iv = 1 := hiv
  refine (Routing.resultIdx?_ix2 _ _ _ r c).trans ?_
  have w0 : (ScatterDims.window ⟨[1], [0], [0], 1, wf⟩ (ix2 a b) 0 : ℕ) = 0 := rfl
  have w1 : (ScatterDims.window ⟨[1], [0], [0], 1, wf⟩ (ix2 a b) 1 : ℕ) = b.val := rfl
  have s1 : ScatterDims.start ⟨[1], [0], [0], 1, wf⟩ (ix2 a b) idx 1 = 0 := rfl
  have s0 : ScatterDims.start ⟨[1], [0], [0], 1, wf⟩ (ix2 a b) idx 0 = (idx (ix2 a (0 : Fin 1))).toInt := by
    refine congrArg (fun z => (idx z).toInt) (funext fun q => Fin.ext ?_)
    match q with
    | ⟨0, _⟩ => rfl
    | ⟨1, _⟩ => rfl
  rw [w0, w1, s0, s1, Fin.ext_iff]
  omega

/-- The entry of a vector scattered into a vector by one index word each lands at `r` exactly when its word, read signed, is `r`. -/
theorem lands_entry {R N : ℕ} (d : ScatterDims (shape1 R) (shape2 N 1) (shape1 N)) (huw : d.updateWindowDims = [])
    (hiw : d.insertedWindowDims = [0]) (hsd : d.scatterDimsToOperandDims = [0]) (hiv : d.indexVectorDim = 1)
    (idx : IVec (shape2 N 1) 32) (a : Fin N) (r : Fin R) :
    d.resultIdx? (ix1 a) idx = some (ix1 r) ↔ (idx (ix2 a (0 : Fin 1))).toInt = r.val := by
  obtain ⟨uw, iw, sd, iv, wf⟩ := d
  obtain rfl : uw = [] := huw
  obtain rfl : iw = [0] := hiw
  obtain rfl : sd = [0] := hsd
  obtain rfl : iv = 1 := hiv
  refine (Routing.resultIdx?_ix1 _ _ _ r).trans ?_
  have w0 : (ScatterDims.window ⟨[], [0], [0], 1, wf⟩ (ix1 a) 0 : ℕ) = 0 := rfl
  have s0 : ScatterDims.start ⟨[], [0], [0], 1, wf⟩ (ix1 a) idx 0 = (idx (ix2 a (0 : Fin 1))).toInt := by
    refine congrArg (fun z => (idx z).toInt) (funext fun q => Fin.ext ?_)
    match q with
    | ⟨0, _⟩ => rfl
    | ⟨1, _⟩ => rfl
  rw [w0, s0]
  omega

/-- The index words as the scatters take them: wrapped, in a column. -/
def wrapped (w : IVec S1024 32) : IVec S1024x1 32 :=
  broadcastInDim S1024x1 ![0] bcast_S1024_S1024x1_0 (select (cmpi .slt w (broadcastInDim S1024 ![] bcast_S_S1024 (constantI S_ 32 0#32)))
    (addi w (broadcastInDim S1024 ![] bcast_S_S1024 (constantI S_ 32 100000#32))) w)

/-- Words of rows are not wrapped. -/
theorem wrapped_eq {w : IVec S1024 32} (hw : ∀ s : Fin 1024, (w (ix1 s)).toNat < 100000) (s : Fin 1024) :
    wrapped w (ix2 s (0 : Fin 1)) = w (ix1 s) := by
  refine Eq.trans ?_ (Routing.wrap_of_lt (w (ix1 s)) (IntOp.addi (w (ix1 s)) 100000#32) (lt_trans (hw s) (by norm_num)))
  pointwise [wrapped]

theorem wrapped_toInt {w : IVec S1024 32} (hw : ∀ s : Fin 1024, (w (ix1 s)).toNat < 100000) (s : Fin 1024) :
    (wrapped w (ix2 s (0 : Fin 1))).toInt = ((w (ix1 s)).toNat : ℤ) := by
  rw [wrapped_eq hw, BitVec.toInt_eq_toNat_of_lt]
  have := hw s
  omega

/-- A table whose named rows are blended with a list of rows. -/
def refTab (tab : FVec Ideal S100000x64 .f32) (w : IVec S1024 32) (dec : FVec Ideal S1024 .f32) (y : FVec Ideal S1024x64 .f32) :
    FVec Ideal S100000x64 .f32 :=
  Host.scatter scatter_S100000x64_S1024x1_S1024x64_1_0_0_1 (fun _ b => b) tab (wrapped w)
    (addf (mulf (broadcastInDim S1024x64 ![0, 1] bcast_S1024x1_S1024x64_0_1 (broadcastInDim S1024x1 ![0] bcast_S1024_S1024x1_0 dec))
        (Host.gather gather_S100000x64_S1024x1_S1024x64_1_0_n_n_0_1_164 tab (wrapped w)))
      (mulf (broadcastInDim S1024x64 ![0, 1] bcast_S1024x1_S1024x64_0_1 (subf (broadcastInDim S1024x1 ![] bcast_S_S1024x1 (constant S_ .f32 0x3F800000#32))
        (broadcastInDim S1024x1 ![0] bcast_S1024_S1024x1_0 dec))) y))

/-- Two lists of rows blended, read at an element. -/
theorem blend_eq (dec : FVec Ideal S1024 .f32) (g y : FVec Ideal S1024x64 .f32) (s : Fin 1024) (k : Fin 64) :
    (addf (mulf (broadcastInDim S1024x64 ![0, 1] bcast_S1024x1_S1024x64_0_1 (broadcastInDim S1024x1 ![0] bcast_S1024_S1024x1_0 dec)) g)
      (mulf (broadcastInDim S1024x64 ![0, 1] bcast_S1024x1_S1024x64_0_1 (subf (broadcastInDim S1024x1 ![] bcast_S_S1024x1 (constant S_ .f32 0x3F800000#32))
        (broadcastInDim S1024x1 ![0] bcast_S1024_S1024x1_0 dec))) y) (ix2 s k) : EReal)
      = (dec (ix1 s) : EReal) * g (ix2 s k) + (1 - (dec (ix1 s) : EReal)) * y (ix2 s k) := by
  pointwise

section

variable (tab : FVec Ideal S100000x64 .f32) {w : IVec S1024 32} (dec : FVec Ideal S1024 .f32) (y : FVec Ideal S1024x64 .f32)
  (hw : ∀ s : Fin 1024, (w (ix1 s)).toNat < 100000)
include hw

/-- A named row is the blend. -/
theorem refTab_hit (hd : Function.Injective fun s : Fin 1024 => (w (ix1 s)).toNat) (r : Fin 100000) (k : Fin 64) (s : Fin 1024)
    (hs : (w (ix1 s)).toNat = r.val) :
    (refTab tab w dec y (ix2 r k) : EReal) = (dec (ix1 s) : EReal) * tab (ix2 r k) + (1 - (dec (ix1 s) : EReal)) * y (ix2 s k) := by
  have land := lands_row scatter_S100000x64_S1024x1_S1024x64_1_0_0_1 rfl rfl rfl rfl (wrapped w)
  refine Routing.scatter_set_hit _ _ _ _ _ _ (fun q hq => ?_) (ix2 s k) ((land s k r k).2 ⟨by rw [wrapped_toInt hw, hs], rfl⟩)
  obtain ⟨s', k', rfl⟩ : ∃ s' k', q = ix2 s' k' := ⟨q 0, q 1, by funext a; match a with | ⟨0, _⟩ => rfl | ⟨1, _⟩ => rfl⟩
  obtain ⟨h1, rfl⟩ := (land s' k' r k).1 hq
  rw [wrapped_toInt hw] at h1
  obtain rfl : s' = s := hd ((Int.ofNat.inj h1).trans hs.symm)
  refine (blend_eq _ _ _ _ _).trans ?_
  have hg : Host.gather gather_S100000x64_S1024x1_S1024x64_1_0_n_n_0_1_164 tab (wrapped w) (ix2 s' k') = tab (ix2 r k') :=
    Routing.gather_row (nb := 100000) (B := 64) (n := 1024) gather_S100000x64_S1024x1_S1024x64_1_0_n_n_0_1_164 rfl rfl rfl rfl rfl tab (wrapped w) s' k' r
      ((wrapped_eq hw s').trans (by rw [← hs, BitVec.ofNat_toNat, BitVec.setWidth_eq])) (by norm_num)
  rw [hg]

/-- The other rows are kept. -/
theorem refTab_miss (r : Fin 100000) (k : Fin 64) (hn : ¬ ∃ s : Fin 1024, (w (ix1 s)).toNat = r.val) :
    refTab tab w dec y (ix2 r k) = tab (ix2 r k) := by
  refine Routing.scatter_set_miss _ _ _ _ _ fun q hq => hn ?_
  obtain ⟨s', k', rfl⟩ : ∃ s' k', q = ix2 s' k' := ⟨q 0, q 1, by funext a; match a with | ⟨0, _⟩ => rfl | ⟨1, _⟩ => rfl⟩
  have h1 := ((lands_row scatter_S100000x64_S1024x1_S1024x64_1_0_0_1 rfl rfl rfl rfl (wrapped w) s' k' r k).1 hq).1
  rw [wrapped_toInt hw] at h1
  exact ⟨s', Int.ofNat.inj h1⟩

end

/-- The ages after the step. -/
def refAge (age : FVec Ideal S100000 .f32) (w : IVec S1024 32) : FVec Ideal S100000 .f32 :=
  addf (Host.scatter scatter_S100000_S1024x1_S1024_n_0_0_1 (fun _ b => b) age (wrapped w) (broadcastInDim S1024 ![] bcast_S_S1024 (constant S_ .f32 0x00000000#32)))
    (broadcastInDim S100000 ![] bcast_S_S100000 (constant S_ .f32 0x3F800000#32))

theorem addOne_eq (x : FVec Ideal S100000 .f32) (r : Fin 100000) :
    (addf x (broadcastInDim S100000 ![] bcast_S_S100000 (constant S_ .f32 0x3F800000#32)) (ix1 r) : EReal) = (x (ix1 r) : EReal) + 1 := by
  pointwise

/-- A named slot's age is one, another's one more than it was. -/
theorem refAge_apply (age : FVec Ideal S100000 .f32) {w : IVec S1024 32} (hw : ∀ s : Fin 1024, (w (ix1 s)).toNat < 100000) (r : Fin 100000) :
    ((∃ s : Fin 1024, (w (ix1 s)).toNat = r.val) → (refAge age w (ix1 r) : EReal) = 1)
    ∧ ((¬ ∃ s : Fin 1024, (w (ix1 s)).toNat = r.val) → (refAge age w (ix1 r) : EReal) = (age (ix1 r) : EReal) + 1) := by
  have land := lands_entry scatter_S100000_S1024x1_S1024_n_0_0_1 rfl rfl rfl rfl (wrapped w)
  constructor
  · rintro ⟨s, hs⟩
    refine (addOne_eq _ r).trans ?_
    have h0 : Host.scatter scatter_S100000_S1024x1_S1024_n_0_0_1 (fun _ b => b) age (wrapped w) (broadcastInDim S1024 ![] bcast_S_S1024 (constant S_ .f32 0x00000000#32))
        (ix1 r) = (0 : EReal) :=
      Routing.scatter_set_hit _ _ _ _ _ _ (fun _ _ => Ideal.ofBits_zero_f32) (ix1 s) ((land s r).2 (by rw [wrapped_toInt hw, hs]))
    rw [h0]
    exact zero_add 1
  · intro hn
    refine (addOne_eq _ r).trans ?_
    rw [Routing.scatter_set_miss]
    intro q hq
    obtain ⟨s', rfl⟩ : ∃ s', q = ix1 s' := ⟨q 0, by funext a; match a with | ⟨0, _⟩ => rfl⟩
    have h1 := (land s' r).1 hq
    rw [wrapped_toInt hw] at h1
    exact hn ⟨s', Int.ofNat.inj h1⟩

end Cert.Proof

end
-- ==== Proof.Values.lean ====
module

public import proofs.«01_k».proof.Proof.AttnRef
public import proofs.«01_k».proof.Proof.RefScat
public import proofs.«01_k».proof.Proof.Run

/-! The kernel's five results are the reference's. -/

@[expose] public section

set_option maxRecDepth 16384

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

open Cert.Proof.Math

variable (m : (ℓ : Loc nD τ sig) → Buf (Elt Ideal) ℓ) (d : Dev nD)
  (U : Valuation Cert.ReferenceIdeal.τ Cert.ReferenceIdeal.sig (Elt Ideal))

/-- The reference starts from the kernel's arguments; keys, scale and shift are real numbers. -/
structure Agree : Prop where
  a0 : (U (Proc.devRef .tc Cert.ReferenceIdeal.main_arg0) : Vec Ideal S1024x64 .f32) = m ((SparseCore.T d).loc main_arg0)
  a1 : (U (Proc.devRef .tc Cert.ReferenceIdeal.main_arg1) : Vec Ideal S1024x64 .f32) = m ((SparseCore.T d).loc main_arg1)
  a2 : (U (Proc.devRef .tc Cert.ReferenceIdeal.main_arg2) : Vec Ideal S100000x64 .f32) = m ((SparseCore.T d).loc main_arg2)
  a3 : (U (Proc.devRef .tc Cert.ReferenceIdeal.main_arg3) : Vec Ideal S100000x64 .f32) = m ((SparseCore.T d).loc main_arg3)
  a4 : (U (Proc.devRef .tc Cert.ReferenceIdeal.main_arg4) : Vec Ideal S100000 .f32) = m ((SparseCore.T d).loc main_arg4)
  a5 : (U (Proc.devRef .tc Cert.ReferenceIdeal.main_arg5) : Vec Ideal S64 .f32) = m ((SparseCore.T d).loc main_arg5)
  a6 : (U (Proc.devRef .tc Cert.ReferenceIdeal.main_arg6) : Vec Ideal S64 .f32) = m ((SparseCore.T d).loc main_arg6)
  key_real : ∀ j k, IsR (keyAt U j k)
  scale_real : ∀ k, IsR (scaleAt U k)
  shift_real : ∀ k, IsR (shiftAt U k)

theorem V1_arg0 : V1 m d (Proc.devRef .tc main_arg0) = m ((SparseCore.T d).loc main_arg0) := by
  unfold V1 ops0
  after_reads_simp
  rfl
theorem V1_arg1 : V1 m d (Proc.devRef .tc main_arg1) = m ((SparseCore.T d).loc main_arg1) := by
  unfold V1 ops0
  after_reads_simp
  rfl
theorem V1_arg2 : V1 m d (Proc.devRef .tc main_arg2) = m ((SparseCore.T d).loc main_arg2) := by
  unfold V1 ops0
  after_reads_simp
  rfl
theorem V1_arg3 : V1 m d (Proc.devRef .tc main_arg3) = m ((SparseCore.T d).loc main_arg3) := by
  unfold V1 ops0
  after_reads_simp
  rfl
/-- Argument 5 as the attention takes it, a row of its own. -/
theorem V1_row0 (k : Fin 64) : (V1 m d (Proc.devRef .tc main_v0) : Vec Ideal S1x64 .f32) (ix2 0 k) = (m ((SparseCore.T d).loc main_arg5) : Vec Ideal S64 .f32) (ix1 k) := by
  have h : V1 m d (Proc.devRef .tc main_v0) = shapeCast S1x64 (m ((SparseCore.T d).loc main_arg5) : Vec Ideal S64 .f32) shapeCasts_S64_S1x64 := by
    unfold V1 ops0
    after_reads_simp
    rfl
  rw [h]
  pointwise
/-- Argument 6 as the attention takes it, a row of its own. -/
theorem V1_row1 (k : Fin 64) : (V1 m d (Proc.devRef .tc main_v1) : Vec Ideal S1x64 .f32) (ix2 0 k) = (m ((SparseCore.T d).loc main_arg6) : Vec Ideal S64 .f32) (ix1 k) := by
  have h : V1 m d (Proc.devRef .tc main_v1) = shapeCast S1x64 (m ((SparseCore.T d).loc main_arg6) : Vec Ideal S64 .f32) shapeCasts_S64_S1x64 := by
    unfold V1 ops0
    after_reads_simp
    rfl
  rw [h]
  pointwise

variable {m d U} in
/-- The attention's windows hold the reference's arguments. -/
theorem Agree.inputs (A : Agree m d U) : Inputs (V1 m d) U where
  query i k := by
    unfold el queryAt
    rw [V1_arg0, A.a0]
  target i k := by
    unfold el targetAt
    rw [V1_arg1, A.a1]
  key i k := by
    unfold el keyAt
    rw [V1_arg2, A.a2]
  value i k := by
    unfold el valueAt
    rw [V1_arg3, A.a3]
  scale k := by
    unfold el scaleAt
    rw [A.a5]
    exact V1_row0 m d k
  shift k := by
    unfold el shiftAt
    rw [A.a6]
    exact V1_row1 m d k
  key_real := A.key_real
  scale_real := A.scale_real
  shift_real := A.shift_real

/-! ### The host's steps around the write kernel -/

theorem V5_ret : V5 m d (Proc.devRef .tc main_v2_0) = retV (V1 m) d := by
  unfold V5 ops2
  after_reads_simp
  rw [V4_else m d _ (by decide) (by decide) (by decide)]
  unfold V3 ops1
  after_reads_simp
  exact V2_ret m d
theorem V5_sur : V5 m d (Proc.devRef .tc main_v3) = shapeCast S1024 (surV (V1 m) d) shapeCasts_S1024x1_S1024 := by
  unfold V5 ops2
  after_reads_simp
  rw [V4_else m d _ (by decide) (by decide) (by decide)]
  unfold V3 ops1
  after_reads_simp
  rw [V2_sur]
  rfl
theorem V5_ok : V5 m d (Proc.devRef .tc main_v9) = extractStridedSlice S100000x64 ![0, 0] (newK (Tb m d)) slices_S100000x128_S100000x64_0_0 := by
  unfold V5 ops2
  after_reads_simp
  rw [V4_ok]
theorem V5_ov : V5 m d (Proc.devRef .tc main_v10) = extractStridedSlice S100000x64 ![0, 0] (newV (Tb m d)) slices_S100000x128_S100000x64_0_0 := by
  unfold V5 ops2
  after_reads_simp
  rw [V4_ov]
theorem V5_oa : V5 m d (Proc.devRef .tc main_v11) = extractStridedSlice S100000 ![0] (newA (Tb m d)) slices_S102400_S100000_0 := by
  unfold V5 ops2
  after_reads_simp
  rw [V4_oa]

theorem Tb_dec : (Tb m d).dec = shapeCast S1024 (decV (V1 m) d) shapeCasts_S1024x1_S1024 := by
  show V3 m d (Proc.devRef .tc main_v4) = _
  unfold V3 ops1
  after_reads_simp
  rw [V2_dec]
  rfl
theorem Tb_qn : (Tb m d).qn = qnV (V1 m) d := by
  show V3 m d (Proc.devRef .tc main_v2_2) = _
  unfold V3 ops1
  after_reads_simp
  exact V2_qn m d
theorem V2_arg4 : V2 m d (Proc.devRef .tc main_arg4) = m ((SparseCore.T d).loc main_arg4) := by
  refine (V2_keeps m d main_arg4 (by decide)).trans ?_
  unfold V1 ops0
  after_reads_simp
  rfl
theorem V2_arg2 : V2 m d (Proc.devRef .tc main_arg2) = m ((SparseCore.T d).loc main_arg2) :=
  (V2_keeps m d main_arg2 (by decide)).trans (V1_arg2 m d)
theorem V2_arg3 : V2 m d (Proc.devRef .tc main_arg3) = m ((SparseCore.T d).loc main_arg3) :=
  (V2_keeps m d main_arg3 (by decide)).trans (V1_arg3 m d)

/-- The table with its lanes padded. -/
def padRows (x : Vec Ideal S100000x64 .f32) : Vec Ideal S100000x128 .f32 :=
  pad S100000x128 ![0, 0] ![0, 64] ![0, 0] x (sitofp (F := Ideal) .f32 (constantI S_ 32 0#32)) pads_S100000x64_S100000x128_000_0640 h_S_
/-- The ages padded. -/
def padAges (x : Vec Ideal S100000 .f32) : Vec Ideal S102400 .f32 :=
  pad S102400 ![0] ![2400] ![0] x (sitofp (F := Ideal) .f32 (constantI S_ 32 0#32)) pads_S100000_S102400_024000 h_S_

/-- The table with its lanes padded, read in its own columns. -/
theorem pad_row (x : Vec Ideal S100000x64 .f32) (v : Vec Ideal S_ .f32) (r : Fin 100000) (k : Fin 64) :
    pad S100000x128 ![0, 0] ![0, 64] ![0, 0] x v pads_S100000x64_S100000x128_000_0640 h_S_ (ix2 r (⟨k.val, by omega⟩ : Fin 128)) = x (ix2 r k) := by
  pointwise
/-- The padded ages, read at a slot. -/
theorem pad_age (x : Vec Ideal S100000 .f32) (v : Vec Ideal S_ .f32) (r : Fin 100000) :
    pad S102400 ![0] ![2400] ![0] x v pads_S100000_S102400_024000 h_S_ (ix1 (⟨r.val, by omega⟩ : Fin 102400)) = x (ix1 r) := by
  pointwise
theorem Tb_kp (r : Fin 100000) (k : Fin 64) : (Tb m d).kp (ix2 r (⟨k.val, by omega⟩ : Fin 128)) = (m ((SparseCore.T d).loc main_arg2) : Vec Ideal S100000x64 .f32) (ix2 r k) := by
  have h : (Tb m d).kp = padRows (m ((SparseCore.T d).loc main_arg2)) := by
    show V3 m d (Proc.devRef .tc main_v6) = _
    unfold V3 ops1
    after_reads_simp
    rw [V2_arg2]
    try rfl
  rw [h]
  exact pad_row _ _ r k
theorem Tb_vp (r : Fin 100000) (k : Fin 64) : (Tb m d).vp (ix2 r (⟨k.val, by omega⟩ : Fin 128)) = (m ((SparseCore.T d).loc main_arg3) : Vec Ideal S100000x64 .f32) (ix2 r k) := by
  have h : (Tb m d).vp = padRows (m ((SparseCore.T d).loc main_arg3)) := by
    show V3 m d (Proc.devRef .tc main_v7) = _
    unfold V3 ops1
    after_reads_simp
    rw [V2_arg3]
    try rfl
  rw [h]
  exact pad_row _ _ r k
theorem Tb_age (r : Fin 100000) : (Tb m d).age (ix1 (⟨r.val, by omega⟩ : Fin 102400)) = (m ((SparseCore.T d).loc main_arg4) : Vec Ideal S100000 .f32) (ix1 r) := by
  have h : (Tb m d).age = padAges (m ((SparseCore.T d).loc main_arg4)) := by
    show V3 m d (Proc.devRef .tc main_v5) = _
    unfold V3 ops1
    after_reads_simp
    rw [V2_arg4]
    try rfl
  rw [h]
  exact pad_age _ _ r

/-! ### The five results -/

section

variable {m d U} (A : Agree m d U)
include A

theorem idx_eq : (Tb m d).idx = Cert.ReferenceIdeal.Value.res_main_indices U := by
  refine (V3_idx m d).trans ?_
  rw [V2_arg4, ← A.a4]
  rfl

theorem dec_eq (s : Fin 1024) : ((Tb m d).dec (ix1 s) : EReal) = r67 U s := by
  rw [Tb_dec]
  refine Eq.trans ?_ (decV_eq A.inputs s)
  unfold el
  pointwise

theorem res_ret : (V5 m d (Proc.devRef .tc main_v2_0) : Vec Ideal S1024x64 .f32) = ret U := by
  rw [V5_ret]
  funext x
  obtain ⟨i, k, rfl⟩ : ∃ i k, x = ix2 i k := ⟨x 0, x 1, by funext a; match a with | ⟨0, _⟩ => rfl | ⟨1, _⟩ => rfl⟩
  exact retV_eq A.inputs i k

theorem res_sur : (V5 m d (Proc.devRef .tc main_v3) : Vec Ideal S1024 .f32) = Cert.ReferenceIdeal.Value.res_main_v53 U := by
  rw [V5_sur]
  funext x
  obtain ⟨i, rfl⟩ : ∃ i, x = ix1 i := ⟨x 0, by funext a; match a with | ⟨0, _⟩ => rfl⟩
  refine Eq.trans ?_ (surV_eq A.inputs i)
  unfold el
  pointwise

/-- A table after the write kernel and the slice is the reference's scatter. -/
theorem res_tab (tab : Vec Ideal S100000x64 .f32) (y y' : Vec Ideal S1024x64 .f32) (hy : ∀ s k, y (ix2 s k) = y' (ix2 s k)) (tp : Vec Ideal S100000x128 .f32)
    (ht : ∀ (r : Fin 100000) (k : Fin 64), tp (ix2 r (⟨k.val, by omega⟩ : Fin 128)) = tab (ix2 r k)) :
    extractStridedSlice S100000x64 ![0, 0] (upd (Tb m d).idx (Tb m d).dec y tp) slices_S100000x128_S100000x64_0_0
      = refTab tab (Cert.ReferenceIdeal.Value.res_main_indices U) (Cert.ReferenceIdeal.Value.res_main_v67 U) y' := by
  funext x
  obtain ⟨r, k, rfl⟩ : ∃ i k, x = ix2 i k := ⟨x 0, x 1, by funext a; match a with | ⟨0, _⟩ => rfl | ⟨1, _⟩ => rfl⟩
  have hb := Tb_below m d
  have hd := Tb_distinct m d
  have hi := idx_eq A
  have hs : extractStridedSlice S100000x64 ![0, 0] (upd (Tb m d).idx (Tb m d).dec y tp) slices_S100000x128_S100000x64_0_0 (ix2 r k)
      = upd (Tb m d).idx (Tb m d).dec y tp (ix2 r (⟨k.val, by omega⟩ : Fin 128)) := by pointwise
  rw [hs, ← hi]
  by_cases hn : ∃ s : Fin 1024, ((Tb m d).idx (ix1 s)).toNat = r.val
  · obtain ⟨s, hr⟩ := hn
    rw [upd_of_named hd (x := ix2 r (⟨k.val, by omega⟩ : Fin 128)) hr, dif_pos (show ((ix2 r (⟨k.val, by omega⟩ : Fin 128)) 1).val < 64 from k.isLt), ht]
    refine Eq.trans ?_ (refTab_hit tab (Cert.ReferenceIdeal.Value.res_main_v67 U) y' hb hd r k s hr).symm
    have h1 := dec_eq A s
    show ((Tb m d).dec (ix1 s) : EReal) * tab (ix2 r k) + (Ideal.ofBits .f32 0x3F800000#32 - ((Tb m d).dec (ix1 s) : EReal)) * y (ix2 s k) = _
    rw [h1, Ideal.ofBits_one_f32, hy]
    rfl
  · rw [upd_of_not (x := ix2 r (⟨k.val, by omega⟩ : Fin 128)) hn, ht]
    exact (refTab_miss tab (Cert.ReferenceIdeal.Value.res_main_v67 U) y' hb r k hn).symm

theorem res_keys : (V5 m d (Proc.devRef .tc main_v9) : Vec Ideal S100000x64 .f32)
    = refTab (U (Proc.devRef .tc Cert.ReferenceIdeal.main_arg2)) (Cert.ReferenceIdeal.Value.res_main_indices U) (Cert.ReferenceIdeal.Value.res_main_v67 U)
        (Cert.ReferenceIdeal.Value.res_main_v17 U) := by
  rw [V5_ok, A.a2]
  refine res_tab A _ _ _ (fun s k => ?_) _ (Tb_kp m d)
  rw [Tb_qn]
  exact qn_eq A.inputs s k

theorem res_vals : (V5 m d (Proc.devRef .tc main_v10) : Vec Ideal S100000x64 .f32)
    = refTab (U (Proc.devRef .tc Cert.ReferenceIdeal.main_arg3)) (Cert.ReferenceIdeal.Value.res_main_indices U) (Cert.ReferenceIdeal.Value.res_main_v67 U)
        (U (Proc.devRef .tc Cert.ReferenceIdeal.main_arg1)) := by
  rw [V5_ov, A.a3]
  refine res_tab A _ _ _ (fun s k => ?_) _ (Tb_vp m d)
  rw [A.a1]
  exact congrFun (V3_arg1 m d) (ix2 s k)

theorem res_age : (V5 m d (Proc.devRef .tc main_v11) : Vec Ideal S100000 .f32)
    = refAge (U (Proc.devRef .tc Cert.ReferenceIdeal.main_arg4)) (Cert.ReferenceIdeal.Value.res_main_indices U) := by
  rw [V5_oa, A.a4, ← idx_eq A]
  funext x
  obtain ⟨r, rfl⟩ : ∃ i, x = ix1 i := ⟨x 0, by funext a; match a with | ⟨0, _⟩ => rfl⟩
  have hs : extractStridedSlice S100000 ![0] (newA (Tb m d)) slices_S102400_S100000_0 (ix1 r)
      = newA (Tb m d) (ix1 (⟨r.val, by omega⟩ : Fin 102400)) := by pointwise
  rw [hs]
  obtain ⟨h1, h2⟩ := refAge_apply (m ((SparseCore.T d).loc main_arg4)) (Tb_below m d) r
  unfold newA newAge
  by_cases hn : ∃ s : Fin 1024, ((Tb m d).idx (ix1 s)).toNat = r.val
  · refine (if_pos hn).trans ?_
    exact Ideal.ofBits_one_f32.trans (h1 hn).symm
  · refine (if_neg hn).trans ?_
    refine Eq.trans ?_ (h2 hn).symm
    show ((Tb m d).age (ix1 (⟨r.val, by omega⟩ : Fin 102400)) : EReal) + Ideal.ofBits .f32 0x3F800000#32 = _
    rw [Tb_age, Ideal.ofBits_one_f32]

end

end Cert.Proof

end
-- ==== Proof.Finite.lean ====
module

public import proofs.«01_k».proof.Proof.Spec
public import proofs.«01_k».proof.Pre_finite_keys
public import Idealize.ShloMosaic.Lib.Pointwise

/-! What the precondition says: keys, scale and shift are real numbers. -/

@[expose] public section

noncomputable section

namespace Cert.Proof

open Cert.Pre_finite_keys
open Idealize.ShloMosaic
open Cert.Proof.Math

instance pre_facts : Cert.Pre_finite_keys.Facts := ⟨by decide, by decide⟩

/-- A number whose absolute value is below infinity is real. -/
theorem isR_of_abs {x : EReal} (h : Ideal.cmp .olt (max x (-x)) (Ideal.ofBits .f32 2139095040#32) = 1#1) : IsR x := by
  have ht : Ideal.ofBits .f32 2139095040#32 = ⊤ := by simp [Ideal.ofBits, Ideal.ieee]
  rw [ht] at h
  induction x with
  | bot => simp [Ideal.cmp] at h
  | top => simp [Ideal.cmp] at h
  | coe r => exact ⟨r, rfl⟩

section

variable {a0 a1 : FVec Ideal S1024x64 .f32} {a2 a3 : FVec Ideal S100000x64 .f32} {a4 : FVec Ideal S100000 .f32} {a5 a6 : FVec Ideal S64 .f32}

theorem keys_isR (h : (fn a0 a1 a2 a3 a4 a5 a6).1 = fun _ => 1#1) (j : Fin 100000) (k : Fin 64) : IsR (a2 (ix2 j k)) :=
  isR_of_abs (congrFun h (ix2 j k))
theorem scale_isR (h : (fn a0 a1 a2 a3 a4 a5 a6).2.1 = fun _ => 1#1) (k : Fin 64) : IsR (a5 (ix1 k)) :=
  isR_of_abs (congrFun h (ix1 k))
theorem shift_isR (h : (fn a0 a1 a2 a3 a4 a5 a6).2.2 = fun _ => 1#1) (k : Fin 64) : IsR (a6 (ix1 k)) :=
  isR_of_abs (congrFun h (ix1 k))

end

end Cert.Proof

end
-- ==== Proof.lean ====
module

public import proofs.«01_k».proof.Defs
public import proofs.«01_k».proof.Proof.Run
public import proofs.«01_k».proof.Proof.Same
public import proofs.«01_k».proof.Proof.Values
public import proofs.«01_k».proof.Proof.Finite
public import proofs.«01_k».proof.Proof.Gen.Kernel
public import proofs.«01_k».proof.Proof.Gen.KernelIdeal
public import proofs.«01_k».proof.Proof.Gen.ReferenceIdeal.Run
public import Idealize.ShloMosaic.Adequacy
public import Idealize.ShloMosaic.Init

/-!
The certificate: the frames of the kernel at both float types and of the reference, out of their runs, and the five results of the
kernel, which are the reference's.
-/

@[expose] public section

noncomputable section

namespace Cert.Proof

open Idealize.ShloMosaic Idealize.SL.Sem Idealize.ShloMosaic.StableHlo

/-- What a run leaves: the arguments, and every semaphore at zero. -/
theorem args_keep {F : FTy → Type} [FloatOps F] (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : QC m r)
    (c : Dev Cert.KernelIdeal.nD) (b : Ref Cert.KernelIdeal.sig .tc)
    (hb : b ∈ [Cert.KernelIdeal.main_arg0, Cert.KernelIdeal.main_arg1, Cert.KernelIdeal.main_arg2, Cert.KernelIdeal.main_arg3,
      Cert.KernelIdeal.main_arg4, Cert.KernelIdeal.main_arg5, Cert.KernelIdeal.main_arg6]) :
    r.2.mem ((c.tc : Thread Cert.KernelIdeal.nD Cert.KernelIdeal.τ).loc b) = m ((c.tc : Thread Cert.KernelIdeal.nD Cert.KernelIdeal.τ).loc b) :=
  (h.1 c _ (uc_mem b (by
    simp only [List.mem_cons, List.not_mem_nil, or_false] at hb
    rcases hb with rfl | rfl | rfl | rfl | rfl | rfl | rfl <;> decide))).trans (V5_args m c b hb)

/-- The run of the ideal kernel: the buffers the program's steps make, the arguments, the semaphores at zero. -/
theorem frame_all (m : (ℓ : Loc Cert.KernelIdeal.nD Cert.KernelIdeal.τ Cert.KernelIdeal.sig) → Buf (Elt Ideal) ℓ)
    (ρ : Dev Cert.KernelIdeal.nD → PrngReg) (Q : PUnit × MemSt Cert.KernelIdeal.nD Cert.KernelIdeal.τ Cert.KernelIdeal.sig (Elt Ideal) → Prop)
    (hQ : ∀ r, QC m r → Q r) :
    θ_run (Cert.KernelIdeal.defs (F := Ideal)) (Cert.KernelIdeal.threads (F := Ideal)) ⟨m, fun _ => 0, ρ⟩ Q :=
  (θ_run Cert.KernelIdeal.defs _ _).mono hQ (run_main (F := Ideal) m ρ)

/-- The frame of the ideal kernel. -/
theorem frame_kernelIdeal : Cert.quiescent_KernelIdeal := fun m ρ _ => frame_all m ρ _ fun r h =>
  ⟨fun c => ⟨args_keep m r h c _ (by decide), args_keep m r h c _ (by decide),
    args_keep m r h c _ (by decide), args_keep m r h c _ (by decide), args_keep m r h c _ (by decide), args_keep m r h c _ (by decide),
    args_keep m r h c _ (by decide)⟩, h.2⟩

/-- The frame of the kernel: the same program at the machine's floats. -/
theorem frame_kernel : Cert.quiescent_Kernel := fun m ρ _ => by
  rw [defs_same]
  exact (θ_run Cert.KernelIdeal.defs _ _).mono (fun r h => ⟨fun c => ⟨args_keep m r h c _ (by decide), args_keep m r h c _ (by decide),
    args_keep m r h c _ (by decide), args_keep m r h c _ (by decide), args_keep m r h c _ (by decide), args_keep m r h c _ (by decide),
    args_keep m r h c _ (by decide)⟩, h.2⟩) (run_main (F := Bits) m ρ)

/-- The frame of the reference. -/
theorem frame_referenceIdeal : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The reference starts from the kernel's arguments, and those the precondition speaks of are real. -/
theorem agree_of {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (hp : Cert.Pre_KernelIdeal_finite_keys m) (c : Dev Cert.KernelIdeal.nD)
    (h0 : (m' ((c.tc : Thread Cert.ReferenceIdeal.nD Cert.ReferenceIdeal.τ).loc Cert.ReferenceIdeal.main_arg0)) = m ((c.tc : Thread Cert.KernelIdeal.nD Cert.KernelIdeal.τ).loc Cert.KernelIdeal.main_arg0))
    (h1 : (m' ((c.tc : Thread Cert.ReferenceIdeal.nD Cert.ReferenceIdeal.τ).loc Cert.ReferenceIdeal.main_arg1)) = m ((c.tc : Thread Cert.KernelIdeal.nD Cert.KernelIdeal.τ).loc Cert.KernelIdeal.main_arg1))
    (h2 : (m' ((c.tc : Thread Cert.ReferenceIdeal.nD Cert.ReferenceIdeal.τ).loc Cert.ReferenceIdeal.main_arg2)) = m ((c.tc : Thread Cert.KernelIdeal.nD Cert.KernelIdeal.τ).loc Cert.KernelIdeal.main_arg2))
    (h3 : (m' ((c.tc : Thread Cert.ReferenceIdeal.nD Cert.ReferenceIdeal.τ).loc Cert.ReferenceIdeal.main_arg3)) = m ((c.tc : Thread Cert.KernelIdeal.nD Cert.KernelIdeal.τ).loc Cert.KernelIdeal.main_arg3))
    (h4 : (m' ((c.tc : Thread Cert.ReferenceIdeal.nD Cert.ReferenceIdeal.τ).loc Cert.ReferenceIdeal.main_arg4)) = m ((c.tc : Thread Cert.KernelIdeal.nD Cert.KernelIdeal.τ).loc Cert.KernelIdeal.main_arg4))
    (h5 : (m' ((c.tc : Thread Cert.ReferenceIdeal.nD Cert.ReferenceIdeal.τ).loc Cert.ReferenceIdeal.main_arg5)) = m ((c.tc : Thread Cert.KernelIdeal.nD Cert.KernelIdeal.τ).loc Cert.KernelIdeal.main_arg5))
    (h6 : (m' ((c.tc : Thread Cert.ReferenceIdeal.nD Cert.ReferenceIdeal.τ).loc Cert.ReferenceIdeal.main_arg6)) = m ((c.tc : Thread Cert.KernelIdeal.nD Cert.KernelIdeal.τ).loc Cert.KernelIdeal.main_arg6)) :
    Agree m c (launchContents m' c) where
  a0 := h0
  a1 := h1
  a2 := h2
  a3 := h3
  a4 := h4
  a5 := h5
  a6 := h6
  key_real j k := by
    rw [show keyAt (launchContents m' c) j k = (m ((c.tc : Thread Cert.KernelIdeal.nD Cert.KernelIdeal.τ).loc Cert.KernelIdeal.main_arg2) : Vec Ideal Cert.KernelIdeal.S100000x64 .f32) (ix2 j k)
      from congrFun h2 (ix2 j k)]
    exact keys_isR (hp c).1 j k
  scale_real k := by
    rw [show scaleAt (launchContents m' c) k = (m ((c.tc : Thread Cert.KernelIdeal.nD Cert.KernelIdeal.τ).loc Cert.KernelIdeal.main_arg5) : Vec Ideal Cert.KernelIdeal.S64 .f32) (ix1 k)
      from congrFun h5 (ix1 k)]
    exact scale_isR (hp c).2.1 k
  shift_real k := by
    rw [show shiftAt (launchContents m' c) k = (m ((c.tc : Thread Cert.KernelIdeal.nD Cert.KernelIdeal.τ).loc Cert.KernelIdeal.main_arg6) : Vec Ideal Cert.KernelIdeal.S64 .f32) (ix1 k)
      from congrFun h6 (ix1 k)]
    exact shift_isR (hp c).2.2 k

/-- The kernel's five results are the reference's. -/
theorem results_same : Cert.algebraic_KernelIdeal_ReferenceIdeal_pre_finite_keys := by
  intro m g m' g' hp hm
  have A : ∀ c : Dev Cert.KernelIdeal.nD, Agree m c (launchContents m' c) := fun c => by
    obtain ⟨h0, h1, h2, h3, h4, h5, h6⟩ := hm c
    exact agree_of hp c h0 h1 h2 h3 h4 h5 h6
  have mem : ∀ b : Ref Cert.KernelIdeal.sig .tc, b ∈ [Cert.KernelIdeal.main_v2_0, Cert.KernelIdeal.main_v3, Cert.KernelIdeal.main_v9, Cert.KernelIdeal.main_v10, Cert.KernelIdeal.main_v11] →
      Proc.devRef .tc b ∈ uc := fun b hb => uc_mem b (by
    simp only [List.mem_cons, List.not_mem_nil, or_false] at hb
    rcases hb with rfl | rfl | rfl | rfl | rfl <;> decide)
  refine ⟨fun c => V5 m c (Proc.devRef .tc Cert.KernelIdeal.main_v2_0), fun c => V5 m c (Proc.devRef .tc Cert.KernelIdeal.main_v3),
    fun c => V5 m c (Proc.devRef .tc Cert.KernelIdeal.main_v9), fun c => V5 m c (Proc.devRef .tc Cert.KernelIdeal.main_v10),
    fun c => V5 m c (Proc.devRef .tc Cert.KernelIdeal.main_v11), ?_, ?_⟩
  · exact frame_all m g _ fun r h c => ⟨h.1 c _ (mem _ (by decide)), h.1 c _ (mem _ (by decide)), h.1 c _ (mem _ (by decide)),
      h.1 c _ (mem _ (by decide)), h.1 c _ (mem _ (by decide)), args_keep m r h c _ (by decide), args_keep m r h c _ (by decide),
      args_keep m r h c _ (by decide), args_keep m r h c _ (by decide), args_keep m r h c _ (by decide), args_keep m r h c _ (by decide),
      args_keep m r h c _ (by decide)⟩
  · refine (θ_run Cert.ReferenceIdeal.defs _ _).mono (fun r h c => ?_) (Cert.ReferenceIdeal.Value.run (F := Ideal) m' g')
    obtain ⟨e0, e1, e2, e3, e4, e⟩ := h c
    exact ⟨e0.trans (res_ret (A c)).symm, e1.trans (res_sur (A c)).symm, e2.trans (res_keys (A c)).symm, e3.trans (res_vals (A c)).symm,
      e4.trans (res_age (A c)).symm, e⟩

theorem claim : Cert.Claim := ⟨Cert.Kernel.Gen.facts, Cert.KernelIdeal.Gen.facts, Cert.ReferenceIdeal.Gen.facts, pre_facts,
  frame_kernel, frame_kernelIdeal, fun m g _ => frame_kernelIdeal m g trivial, frame_referenceIdeal, fun m g _ => frame_referenceIdeal m g trivial,
  trivial, results_same⟩

end Cert.Proof

end
